-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg [hPre_nonneg : Cert.Pre_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg [hPre_nonneg : Cert.Pre_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_nonneg [hKernelIdeal : Cert.KernelIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_nonneg [hReferenceIdeal : Cert.ReferenceIdeal.Facts] [hPre_nonneg : Cert.Pre_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_n" .f32 0x37E38E39#32 ((1 / 36864 : ℝ) : EReal)

def algebraic_KernelIdeal_ReferenceIdeal_pre_nonneg [hKernelIdeal : Cert.KernelIdeal.Facts] [hReferenceIdeal : Cert.ReferenceIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_nonneg : Cert.Pre_nonneg.Facts),
    quiescent_Kernel (hKernel := hKernel)
    ∧ quiescent_KernelIdeal (hKernelIdeal := hKernelIdeal)
    ∧ quiescent_KernelIdeal_pre_nonneg (hKernelIdeal := hKernelIdeal) (hPre_nonneg := hPre_nonneg)
    ∧ quiescent_ReferenceIdeal (hReferenceIdeal := hReferenceIdeal)
    ∧ quiescent_ReferenceIdeal_pre_nonneg (hReferenceIdeal := hReferenceIdeal) (hPre_nonneg := hPre_nonneg)
    ∧ preserves_Kernel_KernelIdeal
    ∧ algebraic_KernelIdeal_ReferenceIdeal_pre_nonneg (hKernelIdeal := hKernelIdeal) (hReferenceIdeal := hReferenceIdeal) (hPre_nonneg := hPre_nonneg)
-- ==== Pre_nonneg.lean ====
abbrev S4096x1000 : Shape := ⟨2, ![4096, 1000]⟩
abbrev S32768x1000 : Shape := ⟨2, ![32768, 1000]⟩
abbrev S1000x1 : Shape := ⟨2, ![1000, 1]⟩
abbrev S_ : Shape := ⟨0, ![]⟩

class Facts : Prop where
  bcast_S_S4096x1000 : S_.BroadcastsInDim S4096x1000 (![] : Fin 0 → Fin S4096x1000.rank)
  reducesTo_S4096x1000_S_d0_1 : S4096x1000.ReducesTo [0, 1] S_
  h_S_ : 0 < S_.numel
  bcast_S_S32768x1000 : S_.BroadcastsInDim S32768x1000 (![] : Fin 0 → Fin S32768x1000.rank)
  reducesTo_S32768x1000_S_d0_1 : S32768x1000.ReducesTo [0, 1] S_

variable [Facts]

def fn {F : FTy → Type} [FloatOps F] (main_arg0 : FVec F S4096x1000 .f32) (main_arg1 : FVec F S4096x1000 .f32) (main_arg2 : FVec F S32768x1000 .f32) (main_arg3 : FVec F S1000x1 .f32) : IVec S_ 1 :=
  let main_cst : FVec F S_ .f32 := constant S_ .f32 0x00000000#32
  let main_v0 : FVec F S4096x1000 .f32 := broadcastInDim S4096x1000 ![] bcast_S_S4096x1000 main_cst
  let main_v1 : IVec S4096x1000 1 := cmpf .oge main_arg1 main_v0
  let main_c : IVec S_ 1 := constantI S_ 1 1#1
  let main_v2 : IVec S_ 1 := (fun x v => Host.reduce IntOp.andi x v reducesTo_S4096x1000_S_d0_1 h_S_) main_v1 main_c
  let main_cst_0 : FVec F S_ .f32 := constant S_ .f32 0x00000000#32
  let main_v3 : FVec F S32768x1000 .f32 := broadcastInDim S32768x1000 ![] bcast_S_S32768x1000 main_cst_0
  let main_v4 : IVec S32768x1000 1 := cmpf .oge main_arg2 main_v3
  let main_c_1 : IVec S_ 1 := constantI S_ 1 1#1
  let main_v5 : IVec S_ 1 := (fun x v => Host.reduce IntOp.andi x v reducesTo_S32768x1000_S_d0_1 h_S_) main_v4 main_c_1
  let main_v6 : IVec S_ 1 := andi main_v2 main_v5
  main_v6
-- ==== Kernel.lean ====
abbrev S4096x1000 : Shape := ⟨2, ![4096, 1000]⟩
abbrev S32768x1000 : Shape := ⟨2, ![32768, 1000]⟩
abbrev S1000x1 : Shape := ⟨2, ![1000, 1]⟩
abbrev S1x1000 : Shape := ⟨2, ![1, 1000]⟩
abbrev S8x1000 : Shape := ⟨2, ![8, 1000]⟩
abbrev S4096x1 : Shape := ⟨2, ![4096, 1]⟩
abbrev S512x1000 : Shape := ⟨2, ![512, 1000]⟩
abbrev S512x1 : Shape := ⟨2, ![512, 1]⟩
abbrev S512 : Shape := ⟨1, ![512]⟩
abbrev S1024x1000 : Shape := ⟨2, ![1024, 1000]⟩
abbrev S4 : Shape := ⟨1, ![4]⟩
abbrev S1x1x1000 : Shape := ⟨3, ![1, 1, 1000]⟩
abbrev S1 : Shape := ⟨1, ![1]⟩
abbrev S1x1x1 : Shape := ⟨3, ![1, 1, 1]⟩
abbrev S1024x128 : Shape := ⟨2, ![1024, 128]⟩
abbrev S128x1000 : Shape := ⟨2, ![128, 1000]⟩
abbrev S1024x1 : Shape := ⟨2, ![1024, 1]⟩
abbrev S1x1024x1 : Shape := ⟨3, ![1, 1024, 1]⟩
abbrev S1x4096 : Shape := ⟨2, ![1, 4096]⟩
abbrev S8x4096 : Shape := ⟨2, ![8, 4096]⟩
abbrev S512x4096 : Shape := ⟨2, ![512, 4096]⟩
abbrev S4096 : Shape := ⟨1, ![4096]⟩

abbrev nBuf : Space → Nat
  | .hbm => 21
  | .vmem => 51
  | .smem => 1
  | _ => 0

abbrev bufTy : (tb : Table) → Fin (tcTables nBuf tb) → BufTy
  | .hbm, ⟨0, _⟩ => ⟨S4096x1000, .f32⟩
  | .hbm, ⟨1, _⟩ => ⟨S4096x1000, .f32⟩
  | .hbm, ⟨2, _⟩ => ⟨S32768x1000, .f32⟩
  | .hbm, ⟨3, _⟩ => ⟨S1000x1, .f32⟩
  | .hbm, ⟨4, _⟩ => ⟨S1x1000, .f32⟩
  | .hbm, ⟨5, _⟩ => ⟨S8x1000, .f32⟩
  | .hbm, ⟨6, _⟩ => ⟨S4096x1000, .f32⟩
  | .hbm, ⟨7, _⟩ => ⟨S4096x1000, .f32⟩
  | .hbm, ⟨8, _⟩ => ⟨S4096x1000, .f32⟩
  | .hbm, ⟨9, _⟩ => ⟨S4096x1, .f32⟩
  | .hbm, ⟨10, _⟩ => ⟨S4096x1000, .f32⟩
  | .hbm, ⟨11, _⟩ => ⟨S4096x1, .f32⟩
  | .hbm, ⟨12, _⟩ => ⟨S4096x1, .i32⟩
  | .hbm, ⟨13, _⟩ => ⟨S4096x1, .f32⟩
  | .hbm, ⟨14, _⟩ => ⟨S4096x1, .i32⟩
  | .hbm, ⟨15, _⟩ => ⟨S1x4096, .i32⟩
  | .hbm, ⟨16, _⟩ => ⟨S8x4096, .i32⟩
  | .hbm, ⟨17, _⟩ => ⟨S1x4096, .f32⟩
  | .hbm, ⟨18, _⟩ => ⟨S8x4096, .f32⟩
  | .hbm, ⟨19, _⟩ => ⟨S4096x1, .f32⟩
  | .hbm, ⟨20, _⟩ => ⟨S4096, .f32⟩
  | .local _ .vmem, ⟨0, _⟩ => ⟨S512x1000, .f32⟩
  | .local _ .vmem, ⟨1, _⟩ => ⟨S512x1000, .f32⟩
  | .local _ .vmem, ⟨2, _⟩ => ⟨S512x1000, .f32⟩
  | .local _ .vmem, ⟨3, _⟩ => ⟨S512x1000, .f32⟩
  | .local _ .vmem, ⟨4, _⟩ => ⟨S512x1000, .f32⟩
  | .local _ .vmem, ⟨5, _⟩ => ⟨S512x1000, .f32⟩
  | .local _ .vmem, ⟨6, _⟩ => ⟨S512x1000, .f32⟩
  | .local _ .vmem, ⟨7, _⟩ => ⟨S512x1000, .f32⟩
  | .local _ .vmem, ⟨8, _⟩ => ⟨S512x1000, .f32⟩
  | .local _ .vmem, ⟨9, _⟩ => ⟨S512x1000, .f32⟩
  | .local _ .vmem, ⟨10, _⟩ => ⟨S512x1, .f32⟩
  | .local _ .vmem, ⟨11, _⟩ => ⟨S512x1, .f32⟩
  | .local _ .vmem, ⟨12, _⟩ => ⟨S1024x1000, .f32⟩
  | .local _ .vmem, ⟨13, _⟩ => ⟨S1024x1000, .f32⟩
  | .local _ .vmem, ⟨14, _⟩ => ⟨S1024x1000, .f32⟩
  | .local _ .vmem, ⟨15, _⟩ => ⟨S1024x1000, .f32⟩
  | .local _ .vmem, ⟨16, _⟩ => ⟨S8x1000, .f32⟩
  | .local _ .vmem, ⟨17, _⟩ => ⟨S1024x1000, .f32⟩
  | .local _ .vmem, ⟨18, _⟩ => ⟨S1024x1000, .f32⟩
  | .local _ .vmem, ⟨19, _⟩ => ⟨S1x1000, .f32⟩
  | .local _ .vmem, ⟨20, _⟩ => ⟨S1x1000, .f32⟩
  | .local _ .vmem, ⟨21, _⟩ => ⟨S4096x1, .f32⟩
  | .local _ .vmem, ⟨22, _⟩ => ⟨S512x1000, .f32⟩
  | .local _ .vmem, ⟨23, _⟩ => ⟨S512x1000, .f32⟩
  | .local _ .vmem, ⟨24, _⟩ => ⟨S512x1000, .f32⟩
  | .local _ .vmem, ⟨25, _⟩ => ⟨S512x1000, .f32⟩
  | .local _ .vmem, ⟨26, _⟩ => ⟨S512x1000, .f32⟩
  | .local _ .vmem, ⟨27, _⟩ => ⟨S512x1000, .f32⟩
  | .local _ .vmem, ⟨28, _⟩ => ⟨S8x1000, .f32⟩
  | .local _ .vmem, ⟨29, _⟩ => ⟨S512x1, .f32⟩
  | .local _ .vmem, ⟨30, _⟩ => ⟨S512x1, .f32⟩
  | .local _ .vmem, ⟨31, _⟩ => ⟨S512x1, .i32⟩
  | .local _ .vmem, ⟨32, _⟩ => ⟨S512x1, .i32⟩
  | .local _ .vmem, ⟨33, _⟩ => ⟨S512x1, .f32⟩
  | .local _ .vmem, ⟨34, _⟩ => ⟨S512x1, .f32⟩
  | .local _ .vmem, ⟨35, _⟩ => ⟨S512x1, .i32⟩
  | .local _ .vmem, ⟨36, _⟩ => ⟨S512x1, .i32⟩
  | .local _ .vmem, ⟨37, _⟩ => ⟨S512x1, .i32⟩
  | .local _ .vmem, ⟨38, _⟩ => ⟨S512x1, .i32⟩
  | .local _ .vmem, ⟨39, _⟩ => ⟨S512x1, .f32⟩
  | .local _ .vmem, ⟨40, _⟩ => ⟨S512x1, .f32⟩
  | .local _ .vmem, ⟨41, _⟩ => ⟨S512x1, .i32⟩
  | .local _ .vmem, ⟨42, _⟩ => ⟨S512x1, .i32⟩
  | .local _ .vmem, ⟨43, _⟩ => ⟨S512x1, .f32⟩
  | .local _ .vmem, ⟨44, _⟩ => ⟨S512x1, .f32⟩
  | .local _ .vmem, ⟨45, _⟩ => ⟨S512x1, .f32⟩
  | .local _ .vmem, ⟨46, _⟩ => ⟨S512x1, .f32⟩
  | .local _ .vmem, ⟨47, _⟩ => ⟨S8x4096, .i32⟩
  | .local _ .vmem, ⟨48, _⟩ => ⟨S8x4096, .f32⟩
  | .local _ .vmem, ⟨49, _⟩ => ⟨S512x1, .f32⟩
  | .local _ .vmem, ⟨50, _⟩ => ⟨S512x1, .f32⟩
  | .local _ .smem, ⟨0, _⟩ => ⟨S4, .f32⟩
  | _, _ => ⟨S4096x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .smem, ⟨0, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg6_1 : Ref sig .tc := ⟨.vmem, 34, rfl⟩
abbrev cc2_stg7_0 : Ref sig .tc := ⟨.vmem, 35, rfl⟩
abbrev cc2_stg7_1 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg2_1 : Ref sig .tc := ⟨.vmem, 42, rfl⟩
abbrev cc3_stg3_0 : Ref sig .tc := ⟨.vmem, 43, rfl⟩
abbrev cc3_stg3_1 : Ref sig .tc := ⟨.vmem, 44, rfl⟩
abbrev cc3_stg4_0 : Ref sig .tc := ⟨.vmem, 45, rfl⟩
abbrev cc3_stg4_1 : Ref sig .tc := ⟨.vmem, 46, rfl⟩
abbrev cc3_stg5_0 : Ref sig .tc := ⟨.vmem, 47, rfl⟩
abbrev cc3_stg6_0 : Ref sig .tc := ⟨.vmem, 48, rfl⟩
abbrev cc3_stg7_0 : Ref sig .tc := ⟨.vmem, 49, rfl⟩
abbrev cc3_stg7_1 : Ref sig .tc := ⟨.vmem, 50, rfl⟩
abbrev cc1_scratch3 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32
abbrev cc2_sem7_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem3_1 : DmaSem sig := 41
abbrev cc3_sem4_0 : DmaSem sig := 42
abbrev cc3_sem4_1 : DmaSem sig := 43
abbrev cc3_sem5_0 : DmaSem sig := 44
abbrev cc3_sem6_0 : DmaSem sig := 45
abbrev cc3_sem7_0 : DmaSem sig := 46
abbrev cc3_sem7_1 : DmaSem sig := 47

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![52, 36], ![false, false]⟩

def k1_cond6 (i : grid1.Coords) : BitVec 1 :=
  let arg1 : BitVec 32 := BitVec.ofNat 32 (i 1).val
  let c32_i32_7 : BitVec 32 := 32#32
  let v25 : BitVec 1 := Scalar.cmpi .sge arg1 c32_i32_7
  let v26 : BitVec 32 := Scalar.extui v25
  let c0_i32_8 : BitVec 32 := 0#32
  let v27 : BitVec 1 := Scalar.cmpi .ne v26 c0_i32_8
  v27

def k1_cond8 (i : grid1.Coords) : BitVec 1 :=
  let arg0 : BitVec 32 := BitVec.ofNat 32 (i 0).val
  let c1_i32_15 : BitVec 32 := 1#32
  let v38 : BitVec 1 := Scalar.cmpi .sge arg0 c1_i32_15
  let c50_i32_16 : BitVec 32 := 50#32
  let v39 : BitVec 1 := Scalar.cmpi .sle arg0 c50_i32_16
  let v40 : BitVec 1 := Scalar.andi v38 v39
  let v41 : BitVec 32 := Scalar.extui v40
  let c0_i32_17 : BitVec 32 := 0#32
  let v42 : BitVec 1 := Scalar.cmpi .ne v41 c0_i32_17
  v42

def k1_cond9 (i : grid1.Coords) : BitVec 1 :=
  let arg0 : BitVec 32 := BitVec.ofNat 32 (i 0).val
  let c50_i32_31 : BitVec 32 := 50#32
  let v70 : BitVec 1 := Scalar.cmpi .eq arg0 c50_i32_31
  let v71 : BitVec 32 := Scalar.extui v70
  let c0_i32_32 : BitVec 32 := 0#32
  let v72 : BitVec 1 := Scalar.cmpi .ne v71 c0_i32_32
  v72

def k1_off1 (i : grid1.Coords) : Fin 2 → Nat :=
  let arg1 : BitVec 32 := BitVec.ofNat 32 (i 1).val
  let c32_i32_33 : BitVec 32 := 32#32
  let v73 : BitVec 32 := Scalar.subi arg1 c32_i32_33
  let c1024_i32 : BitVec 32 := 1024#32
  let v74 : BitVec 32 := Scalar.muli v73 c1024_i32
  let v75 : Index := Scalar.indexCast v74
  let c0_34 : Index := 0#32
  ![v75.toNat, 0]
def k1_cond10 (i : grid1.Coords) : BitVec 1 :=
  let arg0 : BitVec 32 := BitVec.ofNat 32 (i 0).val
  let c51_i32 : BitVec 32 := 51#32
  let v28 : BitVec 1 := Scalar.cmpi .eq arg0 c51_i32
  let arg1 : BitVec 32 := BitVec.ofNat 32 (i 1).val
  let c32_i32_9 : BitVec 32 := 32#32
  let v29 : BitVec 1 := Scalar.cmpi .sge arg1 c32_i32_9
  let v30 : BitVec 1 := Scalar.andi v28 v29
  let v31 : BitVec 32 := Scalar.extui v30
  let c0_i32_10 : BitVec 32 := 0#32
  let v32 : BitVec 1 := Scalar.cmpi .ne v31 c0_i32_10
  v32

def k1_off2 (i : grid1.Coords) : Fin 2 → Nat :=
  let arg1 : BitVec 32 := BitVec.ofNat 32 (i 1).val
  let c32_i32_15 : BitVec 32 := 32#32
  let v39 : BitVec 32 := Scalar.subi arg1 c32_i32_15
  let c1024_i32 : BitVec 32 := 1024#32
  let v40 : BitVec 32 := Scalar.muli v39 c1024_i32
  let v41 : Index := Scalar.indexCast v40
  let c0_16 : Index := 0#32
  ![v41.toNat, 0]
def cc1_transform_0 (i : grid1.Coords) : Fin 2 → Nat :=
  let arg0 : BitVec 32 := BitVec.ofNat 32 (i 0).val
  let arg1 : BitVec 32 := BitVec.ofNat 32 (i 1).val
  let c50_i32 : BitVec 32 := 50#32
  let v0 : BitVec 1 := Scalar.cmpi .sgt arg0 c50_i32
  let c31_i32 : BitVec 32 := 31#32
  let v1 : BitVec 32 := Scalar.minsi arg1 c31_i32
  let c31_i32_0 : BitVec 32 := 31#32
  let v2 : BitVec 32 := Scalar.select v0 c31_i32_0 v1
  let c0_i32 : BitVec 32 := 0#32
  let c0_i32_1 : BitVec 32 := 0#32
  ![v2.toNat, c0_i32.toNat]

def cc1_transform_1 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg1 c32_i32
  let c32_i32_0 : BitVec 32 := 32#32
  let v1 : BitVec 32 := Scalar.subi arg1 c32_i32_0
  let c3_i32 : BitVec 32 := 3#32
  let v2 : BitVec 32 := Scalar.select v0 c3_i32 v1
  let c0_i32 : BitVec 32 := 0#32
  let c0_i32_1 : BitVec 32 := 0#32
  ![v2.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c50_i32 : BitVec 32 := 50#32
  let v0 : BitVec 1 := Scalar.cmpi .sle arg0 c50_i32
  let c32_i32 : BitVec 32 := 32#32
  let v1 : BitVec 32 := Scalar.subi arg1 c32_i32
  let c0_i32 : BitVec 32 := 0#32
  let c3_i32 : BitVec 32 := 3#32
  let v2 : BitVec 32 := Scalar.maxsi c0_i32 v1
  let v3 : BitVec 32 := Scalar.minsi c3_i32 v2
  let c0_i32_0 : BitVec 32 := 0#32
  let v4 : BitVec 32 := Scalar.select v0 c0_i32_0 v3
  let c0_i32_1 : BitVec 32 := 0#32
  let c0_i32_2 : BitVec 32 := 0#32
  ![v4.toNat, c0_i32_1.toNat]

abbrev stage1_0 : Fin 2 → Memref sig .tc .vmem S1024x1000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S8x1000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x1000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S8x1000 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x1 .i32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S8x4096 .i32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S8x4096 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S512x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== KernelIdeal.lean ====
variable {F : FTy → Type} [FloatOps F] [Named F]
def κ : String → Option EReal := fun
  | "inv_n" => some ((1 / 36864 : ℝ) : EReal)
  | _ => none
-- ==== ReferenceIdeal.lean ====
abbrev S4096x1000 : Shape := ⟨2, ![4096, 1000]⟩
abbrev S32768x1000 : Shape := ⟨2, ![32768, 1000]⟩
abbrev S1000x1 : Shape := ⟨2, ![1000, 1]⟩
abbrev S_ : Shape := ⟨0, ![]⟩
abbrev S4096 : Shape := ⟨1, ![4096]⟩
abbrev S4096x1 : Shape := ⟨2, ![4096, 1]⟩
abbrev S36864x1000 : Shape := ⟨2, ![36864, 1000]⟩
abbrev S1000x36864 : Shape := ⟨2, ![1000, 36864]⟩
abbrev S36864x1 : Shape := ⟨2, ![36864, 1]⟩
abbrev S1x1000 : Shape := ⟨2, ![1, 1000]⟩
abbrev S1x36864 : Shape := ⟨2, ![1, 36864]⟩
abbrev S36864 : Shape := ⟨1, ![36864]⟩
abbrev S1000 : Shape := ⟨1, ![1000]⟩

abbrev nBuf : Space → Nat
  | .hbm => 204
  | .vmem => 0
  | .smem => 0
  | _ => 0

abbrev hbmTy0_0 (i : Nat) : BufTy := match i % 128 with
  | 0 => ⟨S4096x1000, .f32⟩
  | 1 => ⟨S4096x1000, .f32⟩
  | 2 => ⟨S32768x1000, .f32⟩
  | 3 => ⟨S1000x1, .f32⟩
  | 4 => ⟨S_, .f32⟩
  | 5 => ⟨S4096, .f32⟩
  | 6 => ⟨S_, .f32⟩
  | 7 => ⟨S4096, .f32⟩
  | 8 => ⟨S4096, .f32⟩
  | 9 => ⟨S4096x1, .f32⟩
  | 10 => ⟨S4096x1000, .f32⟩
  | 11 => ⟨S4096x1000, .f32⟩
  | 12 => ⟨S4096x1000, .f32⟩
  | 13 => ⟨S_, .f32⟩
  | 14 => ⟨S4096, .f32⟩
  | 15 => ⟨S4096x1, .f32⟩
  | 16 => ⟨S4096x1000, .f32⟩
  | 17 => ⟨S4096x1000, .f32⟩
  | 18 => ⟨S4096x1000, .f32⟩
  | 19 => ⟨S36864x1000, .f32⟩
  | 20 => ⟨S_, .f32⟩
  | 21 => ⟨S_, .f32⟩
  | 22 => ⟨S1000x1, .f32⟩
  | 23 => ⟨S1000x1, .f32⟩
  | 24 => ⟨S1000x36864, .f32⟩
  | 25 => ⟨S_, .f32⟩
  | 26 => ⟨S1000x36864, .f32⟩
  | 27 => ⟨S1000x36864, .f32⟩
  | 28 => ⟨S_, .f32⟩
  | 29 => ⟨S1000x36864, .f32⟩
  | 30 => ⟨S1000x36864, .f32⟩
  | 31 => ⟨S_, .f32⟩
  | 32 => ⟨S36864x1, .f32⟩
  | 33 => ⟨S_, .f32⟩
  | 34 => ⟨S36864x1, .f32⟩
  | 35 => ⟨S36864x1, .f32⟩
  | 36 => ⟨S_, .i32⟩
  | 37 => ⟨S_, .i32⟩
  | 38 => ⟨S1000x36864, .f32⟩
  | 39 => ⟨S1000x1, .f32⟩
  | 40 => ⟨S_, .i32⟩
  | 41 => ⟨S_, .i32⟩
  | 42 => ⟨S36864x1, .f32⟩
  | 43 => ⟨S_, .i32⟩
  | 44 => ⟨S_, .i1⟩
  | 45 => ⟨S_, .i32⟩
  | 46 => ⟨S_, .i32⟩
  | 47 => ⟨S_, .f32⟩
  | 48 => ⟨S_, .f32⟩
  | 49 => ⟨S_, .f32⟩
  | 50 => ⟨S1000x1, .f32⟩
  | 51 => ⟨S1000x1, .f32⟩
  | 52 => ⟨S1x1000, .f32⟩
  | 53 => ⟨S1x36864, .f32⟩
  | 54 => ⟨S36864x1, .f32⟩
  | 55 => ⟨S36864x1, .f32⟩
  | 56 => ⟨S36864x1, .f32⟩
  | 57 => ⟨S_, .i32⟩
  | 58 => ⟨S_, .i32⟩
  | 59 => ⟨S1000x1, .f32⟩
  | 60 => ⟨S1000x1, .f32⟩
  | 61 => ⟨S36864, .f32⟩
  | 62 => ⟨S1x36864, .f32⟩
  | 63 => ⟨S1000x36864, .f32⟩
  | 64 => ⟨S1000x36864, .f32⟩
  | 65 => ⟨S36864x1000, .f32⟩
  | 66 => ⟨S1000, .f32⟩
  | 67 => ⟨S1x1000, .f32⟩
  | 68 => ⟨S36864x1000, .f32⟩
  | 69 => ⟨S36864x1000, .f32⟩
  | 70 => ⟨S_, .f32⟩
  | 71 => ⟨S36864x1000, .f32⟩
  | 72 => ⟨S36864x1000, .f32⟩
  | 73 => ⟨S4096x1000, .f32⟩
  | 74 => ⟨S4096x1000, .i32⟩
  | 75 => ⟨S_, .f32⟩
  | 76 => ⟨S_, .i32⟩
  | 77 => ⟨S4096, .f32⟩
  | 78 => ⟨S4096, .i32⟩
  | 79 => ⟨S_, .f32⟩
  | 80 => ⟨S4096, .f32⟩
  | 81 => ⟨S_, .f32⟩
  | 82 => ⟨S4096, .f32⟩
  | 83 => ⟨S4096, .f32⟩
  | 84 => ⟨S4096x1, .f32⟩
  | 85 => ⟨S4096x1000, .f32⟩
  | 86 => ⟨S4096x1000, .f32⟩
  | 87 => ⟨S4096x1000, .f32⟩
  | 88 => ⟨S_, .f32⟩
  | 89 => ⟨S4096, .f32⟩
  | 90 => ⟨S4096x1, .f32⟩
  | 91 => ⟨S4096x1, .f32⟩
  | 92 => ⟨S4096x1000, .f32⟩
  | 93 => ⟨S4096x1000, .f32⟩
  | 94 => ⟨S_, .f32⟩
  | 95 => ⟨S4096, .f32⟩
  | 96 => ⟨S4096x1, .f32⟩
  | 97 => ⟨S4096x1000, .f32⟩
  | 98 => ⟨S4096x1000, .f32⟩
  | 99 => ⟨S4096x1000, .f32⟩
  | 100 => ⟨S_, .f32⟩
  | 101 => ⟨S4096, .f32⟩
  | 102 => ⟨S4096, .f32⟩
  | 103 => ⟨S4096x1000, .f32⟩
  | 104 => ⟨S_, .f32⟩
  | 105 => ⟨S4096, .f32⟩
  | 106 => ⟨S4096, .f32⟩
  | 107 => ⟨S_, .i32⟩
  | 108 => ⟨S1000, .i32⟩
  | 109 => ⟨S_, .i32⟩
  | 110 => ⟨S_, .i32⟩
  | 111 => ⟨S4096, .i32⟩
  | 112 => ⟨S4096, .i32⟩
  | 113 => ⟨S_, .i32⟩
  | 114 => ⟨S4096, .i32⟩
  | 115 => ⟨S4096, .i1⟩
  | 116 => ⟨S_, .i32⟩
  | 117 => ⟨S4096, .i32⟩
  | 118 => ⟨S4096, .i32⟩
  | 119 => ⟨S4096, .i32⟩
  | 120 => ⟨S4096x1, .i32⟩
  | 121 => ⟨S_, .i32⟩
  | 122 => ⟨S4096, .i32⟩
  | 123 => ⟨S1000, .i32⟩
  | 124 => ⟨S1000, .f32⟩
  | 125 => ⟨S_, .f32⟩
  | 126 => ⟨S1000, .f32⟩
  | 127 => ⟨S1000, .f32⟩
  | _ => ⟨S4096x1000, .f32⟩

abbrev hbmTy0_1 (i : Nat) : BufTy := match i % 128 with
  | 0 => ⟨S_, .f32⟩
  | 1 => ⟨S1000, .f32⟩
  | 2 => ⟨S1000, .f32⟩
  | 3 => ⟨S1000, .f32⟩
  | 4 => ⟨S1000, .i32⟩
  | 5 => ⟨S_, .i32⟩
  | 6 => ⟨S1000, .i32⟩
  | 7 => ⟨S1000, .i32⟩
  | 8 => ⟨S_, .i32⟩
  | 9 => ⟨S_, .i32⟩
  | 10 => ⟨S1000, .i32⟩
  | 11 => ⟨S1000, .i32⟩
  | 12 => ⟨S1000, .i32⟩
  | 13 => ⟨S4096, .i32⟩
  | 14 => ⟨S4096, .i32⟩
  | 15 => ⟨S4096, .f32⟩
  | 16 => ⟨S4096, .i32⟩
  | 17 => ⟨S_, .i32⟩
  | 18 => ⟨S_, .i32⟩
  | 19 => ⟨S1000, .i32⟩
  | 20 => ⟨S1000, .i32⟩
  | 21 => ⟨S4096, .i32⟩
  | 22 => ⟨S_, .i32⟩
  | 23 => ⟨S4096, .i32⟩
  | 24 => ⟨S4096, .i1⟩
  | 25 => ⟨S_, .i32⟩
  | 26 => ⟨S4096, .i32⟩
  | 27 => ⟨S4096, .i32⟩
  | 28 => ⟨S4096, .i32⟩
  | 29 => ⟨S4096x1, .i32⟩
  | 30 => ⟨S4096, .i32⟩
  | 31 => ⟨S_, .i32⟩
  | 32 => ⟨S4096, .i32⟩
  | 33 => ⟨S4096, .i1⟩
  | 34 => ⟨S_, .i32⟩
  | 35 => ⟨S4096, .i32⟩
  | 36 => ⟨S4096, .i32⟩
  | 37 => ⟨S4096, .i32⟩
  | 38 => ⟨S4096x1, .i32⟩
  | 39 => ⟨S4096, .i32⟩
  | 40 => ⟨S4096, .i32⟩
  | 41 => ⟨S_, .i32⟩
  | 42 => ⟨S4096, .i32⟩
  | 43 => ⟨S_, .i32⟩
  | 44 => ⟨S4096, .i32⟩
  | 45 => ⟨S4096, .i1⟩
  | 46 => ⟨S_, .i32⟩
  | 47 => ⟨S4096, .i32⟩
  | 48 => ⟨S4096, .i32⟩
  | 49 => ⟨S4096, .i32⟩
  | 50 => ⟨S4096x1, .i32⟩
  | 51 => ⟨S4096, .i32⟩
  | 52 => ⟨S_, .i32⟩
  | 53 => ⟨S4096, .i32⟩
  | 54 => ⟨S4096, .i1⟩
  | 55 => ⟨S_, .i32⟩
  | 56 => ⟨S4096, .i32⟩
  | 57 => ⟨S4096, .i32⟩
  | 58 => ⟨S4096, .i32⟩
  | 59 => ⟨S4096x1, .i32⟩
  | 60 => ⟨S4096, .i32⟩
  | 61 => ⟨S4096, .i1⟩
  | 62 => ⟨S4096x1000, .f32⟩
  | 63 => ⟨S_, .f32⟩
  | 64 => ⟨S4096, .f32⟩
  | 65 => ⟨S_, .f32⟩
  | 66 => ⟨S4096, .f32⟩
  | 67 => ⟨S4096, .i1⟩
  | 68 => ⟨S4096, .i1⟩
  | 69 => ⟨S4096, .f32⟩
  | 70 => ⟨S4096, .f32⟩
  | 71 => ⟨S_, .f32⟩
  | 72 => ⟨S4096, .f32⟩
  | 73 => ⟨S4096, .f32⟩
  | 74 => ⟨S4096, .f32⟩
  | 75 => ⟨S4096, .f32⟩
  | _ => ⟨S4096x1000, .f32⟩

abbrev hbmTy (i : Nat) : BufTy := match i / 128 with
  | 0 => hbmTy0_0 i
  | 1 => hbmTy0_1 i
  | _ => ⟨S4096x1000, .f32⟩

abbrev bufTy : (tb : Table) → Fin (tcTables nBuf tb) → BufTy
  | .hbm, ⟨i, _⟩ => hbmTy i
  | _, _ => ⟨S4096x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_c_7 : Ref sig .tc := ⟨.hbm, 37, rfl⟩
abbrev main_v24_0 : Ref sig .tc := ⟨.hbm, 38, rfl⟩
abbrev main_v24_1 : Ref sig .tc := ⟨.hbm, 39, rfl⟩
abbrev main_v24_2 : Ref sig .tc := ⟨.hbm, 40, rfl⟩
abbrev main_v24_3 : Ref sig .tc := ⟨.hbm, 41, rfl⟩
abbrev main_v24_4 : Ref sig .tc := ⟨.hbm, 42, rfl⟩
abbrev main_while0c_c_37 : Ref sig .tc := ⟨.hbm, 43, rfl⟩
abbrev main_while0c_v117 : Ref sig .tc := ⟨.hbm, 44, rfl⟩
abbrev main_while0b_c_37 : Ref sig .tc := ⟨.hbm, 45, rfl⟩
abbrev main_while0b_v117 : Ref sig .tc := ⟨.hbm, 46, rfl⟩
abbrev main_while0b_cst_38 : Ref sig .tc := ⟨.hbm, 47, rfl⟩
abbrev main_while0b_cst_39 : Ref sig .tc := ⟨.hbm, 48, rfl⟩
abbrev main_while0b_v118 : Ref sig .tc := ⟨.hbm, 49, rfl⟩
abbrev main_while0b_v119 : Ref sig .tc := ⟨.hbm, 50, rfl⟩
abbrev main_while0b_v120 : Ref sig .tc := ⟨.hbm, 51, rfl⟩
abbrev main_while0b_v121 : Ref sig .tc := ⟨.hbm, 52, rfl⟩
abbrev main_while0b_v122 : Ref sig .tc := ⟨.hbm, 53, rfl⟩
abbrev main_while0b_v123 : Ref sig .tc := ⟨.hbm, 54, rfl⟩
abbrev main_while0b_v124 : Ref sig .tc := ⟨.hbm, 55, rfl⟩
abbrev main_while0b_v125 : Ref sig .tc := ⟨.hbm, 56, rfl⟩
abbrev main_while0b_c_40 : Ref sig .tc := ⟨.hbm, 57, rfl⟩
abbrev main_while0b_v126 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_8 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_call0_v0 : Ref sig .tc := ⟨.hbm, 74, rfl⟩
abbrev main_call0_cst : Ref sig .tc := ⟨.hbm, 75, rfl⟩
abbrev main_call0_c : Ref sig .tc := ⟨.hbm, 76, rfl⟩
abbrev main_call0_v1_0 : Ref sig .tc := ⟨.hbm, 77, rfl⟩
abbrev main_v39 : Ref sig .tc := ⟨.hbm, 78, rfl⟩
abbrev main_call1_cst : Ref sig .tc := ⟨.hbm, 79, rfl⟩
abbrev main_call1_v0 : Ref sig .tc := ⟨.hbm, 80, rfl⟩
abbrev main_call1_cst_0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_v6 : Ref sig .tc := ⟨.hbm, 87, rfl⟩
abbrev main_call1_cst_1 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_v40 : Ref sig .tc := ⟨.hbm, 93, rfl⟩
abbrev main_cst_9 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_cst_10 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_cst_11 : Ref sig .tc := ⟨.hbm, 104, rfl⟩
abbrev main_v49 : Ref sig .tc := ⟨.hbm, 105, rfl⟩
abbrev main_v50 : Ref sig .tc := ⟨.hbm, 106, rfl⟩
abbrev main_c_12 : Ref sig .tc := ⟨.hbm, 107, rfl⟩
abbrev main_v51 : Ref sig .tc := ⟨.hbm, 108, rfl⟩
abbrev main_c_13 : Ref sig .tc := ⟨.hbm, 109, rfl⟩
abbrev main_call2_v0 : Ref sig .tc := ⟨.hbm, 110, rfl⟩
abbrev main_call2_v1 : Ref sig .tc := ⟨.hbm, 111, rfl⟩
abbrev main_v52 : Ref sig .tc := ⟨.hbm, 112, rfl⟩
abbrev main_c_14 : Ref sig .tc := ⟨.hbm, 113, rfl⟩
abbrev main_v53 : Ref sig .tc := ⟨.hbm, 114, rfl⟩
abbrev main_v54 : Ref sig .tc := ⟨.hbm, 115, rfl⟩
abbrev main_c_15 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_c_16 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_cst_17 : Ref sig .tc := ⟨.hbm, 125, rfl⟩
abbrev main_v62 : Ref sig .tc := ⟨.hbm, 126, rfl⟩
abbrev main_v63 : Ref sig .tc := ⟨.hbm, 127, rfl⟩
abbrev main_cst_18 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_c_19 : Ref sig .tc := ⟨.hbm, 133, rfl⟩
abbrev main_v68 : Ref sig .tc := ⟨.hbm, 134, rfl⟩
abbrev main_v69 : Ref sig .tc := ⟨.hbm, 135, rfl⟩
abbrev main_c_20 : Ref sig .tc := ⟨.hbm, 136, rfl⟩
abbrev main_call3_v0 : Ref sig .tc := ⟨.hbm, 137, rfl⟩
abbrev main_call3_v1 : Ref sig .tc := ⟨.hbm, 138, rfl⟩
abbrev main_call3_v2 : Ref sig .tc := ⟨.hbm, 139, rfl⟩
abbrev main_v70 : Ref sig .tc := ⟨.hbm, 140, rfl⟩
abbrev main_call4_v0 : Ref sig .tc := ⟨.hbm, 141, rfl⟩
abbrev main_call4_v1_0 : Ref sig .tc := ⟨.hbm, 142, rfl⟩
abbrev main_call4_v1_1 : Ref sig .tc := ⟨.hbm, 143, rfl⟩
abbrev main_v71 : Ref sig .tc := ⟨.hbm, 144, rfl⟩
abbrev main_call5_call0_c : Ref sig .tc := ⟨.hbm, 145, rfl⟩
abbrev main_call5_call0_v0 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_c_21 : Ref sig .tc := ⟨.hbm, 150, rfl⟩
abbrev main_v75 : Ref sig .tc := ⟨.hbm, 151, rfl⟩
abbrev main_v76 : Ref sig .tc := ⟨.hbm, 152, rfl⟩
abbrev main_c_22 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_c_23 : Ref sig .tc := ⟨.hbm, 159, rfl⟩
abbrev main_v82 : Ref sig .tc := ⟨.hbm, 160, rfl⟩
abbrev main_v83 : Ref sig .tc := ⟨.hbm, 161, rfl⟩
abbrev main_c_24 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_c_25 : Ref sig .tc := ⟨.hbm, 169, rfl⟩
abbrev main_v90 : Ref sig .tc := ⟨.hbm, 170, rfl⟩
abbrev main_c_26 : Ref sig .tc := ⟨.hbm, 171, rfl⟩
abbrev main_v91 : Ref sig .tc := ⟨.hbm, 172, rfl⟩
abbrev main_v92 : Ref sig .tc := ⟨.hbm, 173, rfl⟩
abbrev main_c_27 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_c_28 : Ref sig .tc := ⟨.hbm, 180, rfl⟩
abbrev main_v98 : Ref sig .tc := ⟨.hbm, 181, rfl⟩
abbrev main_v99 : Ref sig .tc := ⟨.hbm, 182, rfl⟩
abbrev main_c_29 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_cst_30 : Ref sig .tc := ⟨.hbm, 191, rfl⟩
abbrev main_v107 : Ref sig .tc := ⟨.hbm, 192, rfl⟩
abbrev main_cst_31 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_cst_32 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩

abbrev nD : Nat := 1
abbrev τ : Topo := Topo.v7x

variable {F : FTy → Type} [FloatOps F]

abbrev main_while0_count : Scf.Loop 32 := ⟨0#32, 50#32, 1#32⟩
-- ==== Proof.RefFrame.lean ====
/- The reference's frame: its run leaves the four argument arrays as they were, and it has no semaphore at all, so every
   counter is zero at the end. -/
module

public import proofs.«01_k».proof.Proof.Gen.ReferenceIdeal.Run

@[expose] public section

set_option maxRecDepth 100000

noncomputable section

namespace Cert.ReferenceIdeal.Whole

open Idealize.ShloMosaic Idealize.ShloMosaic.TcCoe Idealize.ShloMosaic.StableHlo Idealize.SL.Sem
open Cert.ReferenceIdeal Cert.ReferenceIdeal.Gen Cert.ReferenceIdeal.Value

variable {F : FTy → Type} [FloatOps F]

/-- The four arguments. -/
abbrev args : List (Ref sig .tc) := [main_arg0, main_arg1, main_arg2, main_arg3]

/-- A list of operations none of which writes an argument. -/
def Keeps (ops : List (HloOp τ sig (Elt F))) : Prop :=
  ∀ (V : Valuation τ sig (Elt F)), ∀ b ∈ args, after ops V (Proc.devRef .tc b) = V (Proc.devRef .tc b)

/-- From the references the operations write, in order: none is an argument. -/
theorem keeps_of {ops : List (HloOp τ sig (Elt F))} (W : List (Ref sig .tc))
    (hW : ops.map HloOp.writes = W.map fun w => {Proc.devRef (τ := τ) .tc w}) (h : ∀ b ∈ args, b ∉ W) : Keeps ops :=
  fun V b hb => after_of_writes_sub ops V (forall_writes_sub_of_map hW) (h b hb)

theorem hostOps0_keeps : Keeps (F := F) hostOps0 := keeps_of [main_cst, main_v0, main_cst_0, main_v1, main_v2, main_v3, main_v4, main_v5, main_v6, main_cst_1, main_v7, main_v8, main_v9, main_v10, main_v11, main_v12, main_cst_2, main_v13, main_v14, main_v15, main_v16, main_cst_3, main_v17, main_v18, main_cst_4, main_v19, main_v20, main_cst_5, main_v21, main_cst_6, main_v22, main_v23, main_c, main_c_7, main_v24_0, main_v24_1, main_v24_2, main_v24_3, main_v24_4] rfl (by decide)
theorem hostOps0_1_keeps : Keeps (F := F) hostOps0_1 := keeps_of [main_v25, main_v26, main_v27, main_v28, main_v29, main_v30, main_v31, main_v32, main_v33, main_v34, main_v35, main_cst_8, main_v36, main_v37, main_v38] rfl (by decide)
theorem hostOps0_2_keeps : Keeps (F := F) hostOps0_2 := keeps_of [main_call0_v0, main_call0_cst, main_call0_c, main_call0_v1_0, main_v39] rfl (by decide)
theorem hostOps0_3_keeps : Keeps (F := F) hostOps0_3 := keeps_of [main_call1_cst, main_call1_v0, main_call1_cst_0, main_call1_v1, main_call1_v2, main_call1_v3, main_call1_v4, main_call1_v5, main_call1_v6, main_call1_cst_1, main_call1_v7, main_call1_v8, main_call1_v9, main_call1_v10, main_v40] rfl (by decide)
theorem hostOps0_4_keeps : Keeps (F := F) hostOps0_4 := keeps_of [main_cst_9, main_v41, main_v42, main_v43, main_v44, main_v45, main_cst_10, main_v46, main_v47, main_v48, main_cst_11, main_v49, main_v50, main_c_12, main_v51, main_c_13] rfl (by decide)
theorem hostOps0_5_keeps : Keeps (F := F) hostOps0_5 := keeps_of [main_call2_v0, main_call2_v1, main_v52] rfl (by decide)
theorem hostOps0_6_keeps : Keeps (F := F) hostOps0_6 := keeps_of [main_c_14, main_v53, main_v54, main_c_15, main_v55, main_v56, main_v57, main_v58, main_c_16, main_v59, main_v60, main_v61, main_cst_17, main_v62, main_v63, main_cst_18, main_v64, main_v65, main_v66, main_v67, main_c_19, main_v68, main_v69, main_c_20] rfl (by decide)
theorem hostOps0_7_keeps : Keeps (F := F) hostOps0_7 := keeps_of [main_call3_v0, main_call3_v1, main_call3_v2, main_v70] rfl (by decide)
theorem hostOps0_8_keeps : Keeps (F := F) hostOps0_8 := keeps_of [main_call4_v0, main_call4_v1_0, main_call4_v1_1, main_v71] rfl (by decide)
theorem hostOps0_9_keeps : Keeps (F := F) hostOps0_9 := keeps_of [main_call5_call0_c, main_call5_call0_v0, main_v72] rfl (by decide)
theorem hostOps0_10_keeps : Keeps (F := F) hostOps0_10 := keeps_of [main_v73, main_v74, main_c_21, main_v75, main_v76, main_c_22, main_v77, main_v78, main_v79, main_v80, main_v81, main_c_23, main_v82, main_v83, main_c_24, main_v84, main_v85, main_v86, main_v87, main_v88, main_v89, main_c_25, main_v90, main_c_26, main_v91, main_v92, main_c_27, main_v93, main_v94, main_v95, main_v96, main_v97, main_c_28, main_v98, main_v99, main_c_29, main_v100, main_v101, main_v102, main_v103, main_v104, main_v105, main_v106, main_cst_30, main_v107, main_cst_31, main_v108, main_v109, main_v110, main_v111, main_v112, main_cst_32, main_v113, main_v114, main_v115, main_v116] rfl (by decide)
theorem while0Ops0_keeps : Keeps (F := F) while0Ops0 := keeps_of [main_while0b_c_37, main_while0b_v117, main_while0b_cst_38, main_while0b_cst_39, main_while0b_v118, main_while0b_v119, main_while0b_v120, main_while0b_v121, main_while0b_v122, main_while0b_v123, main_while0b_v124, main_while0b_v125, main_while0b_c_40, main_while0b_v126, main_v24_2, main_v24_3, main_v24_4] rfl (by decide)
theorem condOps_keeps : Keeps (F := F) condOps := keeps_of [main_while0c_c_37, main_while0c_v117] rfl (by decide)

/-- No stretch of the program writes an argument. -/
theorem final_keeps (n : ℕ) (m : (ℓ : Loc nD τ sig) → Buf (Elt F) ℓ) (c : Dev nD) (b : Ref sig .tc) (hb : b ∈ args) :
    finalContents condOps preI bodyI postI n m c (Proc.devRef .tc b) = m (c.tc.loc b) := by
  have ht : ∀ k, atTrip condOps bodyI (entryContents preI m) k c (Proc.devRef .tc b) = m (c.tc.loc b) := by
    intro k
    induction k with
    | zero => exact hostOps0_keeps _ b hb
    | succ k ih => exact (while0Ops0_keeps _ b hb).trans ((condOps_keeps _ b hb).trans ih)
  show after hostOps0_10 (after hostOps0_9 (after hostOps0_8 (after hostOps0_7 (after hostOps0_6 (after hostOps0_5
    (after hostOps0_4 (after hostOps0_3 (after hostOps0_2 (after hostOps0_1 _))))))))) _ = _
  rw [hostOps0_10_keeps _ b hb, hostOps0_9_keeps _ b hb, hostOps0_8_keeps _ b hb, hostOps0_7_keeps _ b hb,
    hostOps0_6_keeps _ b hb, hostOps0_5_keeps _ b hb, hostOps0_4_keeps _ b hb, hostOps0_3_keeps _ b hb,
    hostOps0_2_keeps _ b hb, hostOps0_1_keeps _ b hb, condOps_keeps _ b hb]
  exact ht n

variable (m : (ℓ : Loc nD τ sig) → Buf (Elt F) ℓ) (ρ : Dev nD → PrngReg)

/-- The run, read at the result and at the arguments. -/
theorem run : θ_run (defs (F := F)) (onTc (τ := τ) (main (F := F))) ⟨m, fun _ => 0, ρ⟩ (fun r => ∀ c : Dev nD,
      r.2.mem ((c.tc : Thread nD τ).loc main_v116) = finalContents condOps preI bodyI postI 50 m c (Proc.devRef .tc main_v116)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (by decide),
     (h c _ (by decide)).trans (final_keeps 50 m c main_arg0 (by decide)),
     (h c _ (by decide)).trans (final_keeps 50 m c main_arg1 (by decide)),
     (h c _ (by decide)).trans (final_keeps 50 m c main_arg2 (by decide)),
     (h c _ (by decide)).trans (final_keeps 50 m c main_arg3 (by decide))⟩) (run_fold m ρ)

/-- The program declares no semaphore, so any two tables of counters are equal. -/
theorem sem_eq {α : Type} (f g : GSem nD τ sig → α) : f = g := by
  funext ⟨_, s⟩
  cases s with
  | reg i => exact i.elim0
  | dma i => exact i.elim0

/-- The frame: the arguments unchanged, every counter zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h c).2, sem_eq _ _⟩) (run m ρ)

end Cert.ReferenceIdeal.Whole

end
-- ==== Proof.Body1I.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Dat BodyObligation)

variable {F : FTy → Type} [FloatOps F] [Named F]

local notation "𝕄" => MT nD τ sig Unit (Elt F) ℕ (UR sig nD τ) ℕ

/-! ## The state the Sinkhorn call carries in its scratch, and what a grid point does to it -/

/-- What the four scratch buffers hold: the running column sums, the row scaling, the last column scaling of the samples, and the four words. -/
structure St (F : FTy → Type) where
  u : Vec F S1x1000 .f32
  r : Vec F S1x1000 .f32
  cl : Vec F S4096x1 .f32
  sc : Vec F S4 .f32

/-- The first word. -/
def w0 (x : Vec F S4 .f32) : Elt F .f32 := x ((Rect.unit (s := S4) ![0] S1.size inb_S4_S1_0).emb (Shape.Idx.first numel1_S1.symm.le))
/-- The second word. -/
def w1 (x : Vec F S4 .f32) : Elt F .f32 := x ((Rect.unit (s := S4) ![1] S1.size inb_S4_S1_1).emb (Shape.Idx.first numel1_S1.symm.le))
/-- Row 0 of the block of eight rows. -/
def rowOf (x2 : Vec F S8x1000 .f32) : Vec F S1x1000 .f32 := VecWindow.window x2 ![0, 0] S1x1000.size inb_S8x1000_S1x1000_0_0

/-- A new pass: the row scaling from the column sums of the pass before. -/
def dRow (e : Vec F S1x1000 .f32) (s : St F) : St F :=
  { s with r := k1_pay3 e s.u (w0 s.sc), sc := VecWindow.put s.sc ![1] S1.size (fun _ => k1_pay4 e s.u (w0 s.sc)) }
/-- The running sums cleared. -/
def zero (i : grid1.Coords) (s : St F) : St F :=
  { s with u := k1_pay5, sc := VecWindow.put s.sc ![0] S1.size (fun _ => k1_pay6 i) }
/-- A queue block in pass 0. -/
def q0 (x0 : Vec F S1024x1000 .f32) (s : St F) : St F := { s with u := k1_pay7 x0 s.u }
/-- A queue block in a later pass. -/
def q1 (x0 : Vec F S1024x1000 .f32) (s : St F) : St F :=
  { s with u := k1_pay9 x0 s.r (w1 s.sc) s.u, sc := VecWindow.put s.sc ![0] S1.size (fun _ => k1_pay10 x0 s.r (w1 s.sc) (w0 s.sc)) }
/-- A sample block in pass 0. -/
def p0 (x1 : Vec F S1024x1000 .f32) (s : St F) : St F := { s with u := k1_pay12 x1 s.u }
/-- A sample block in a later pass. -/
def p1 (x1 : Vec F S1024x1000 .f32) (s : St F) : St F :=
  { s with u := k1_pay14 x1 s.r (w1 s.sc) s.u, sc := VecWindow.put s.sc ![0] S1.size (fun _ => k1_pay15 x1 s.r (w1 s.sc) (w0 s.sc)) }
/-- The last pass keeps the column scaling of a sample block. -/
def keep (i : grid1.Coords) (x1 : Vec F S1024x1000 .f32) (s : St F) : St F :=
  { s with cl := VecWindow.put s.cl (k1_off1 i) S1024x1.size (k1_pay16 x1 s.r (w1 s.sc)) }

theorem w0_put0 (x : Vec F S4 .f32) (v : Elt F .f32) : w0 (VecWindow.put x ![0] S1.size (fun _ => v)) = v := by
  unfold w0 VecWindow.put; rw [dif_pos]; intro a; fin_cases a; decide
theorem w1_put0 (x : Vec F S4 .f32) (v : Elt F .f32) : w1 (VecWindow.put x ![0] S1.size (fun _ => v)) = w1 x := by
  unfold w1 VecWindow.put; rw [dif_neg]; intro h; exact absurd (h 0) (by decide)
theorem w1_put1 (x : Vec F S4 .f32) (v : Elt F .f32) : w1 (VecWindow.put x ![1] S1.size (fun _ => v)) = v := by
  unfold w1 VecWindow.put; rw [dif_pos]; intro a; fin_cases a; decide
theorem w0_put1 (x : Vec F S4 .f32) (v : Elt F .f32) : w0 (VecWindow.put x ![1] S1.size (fun _ => v)) = w0 x := by
  unfold w0 VecWindow.put; rw [dif_neg]; intro h; exact absurd (h 0) (by decide)

/-- A word loaded from the scalar memory. -/
theorem rd0 {κ : Kind} {sp : Space} (v : View sig κ sp S4 .f32) (f : v.ty.Contents (Elt F)) (inb : ∀ a, (![0] : Fin S4.rank → ℕ) a + ![1] a ≤ S4.size a) (h : 0 < S1.numel) :
    v.readAt (Elt F) (Rect.unit (s := S4) ![0] ![1] inb).toLoadRect f (Shape.Idx.first h) = w0 (v.read (Elt F) f) := rfl
theorem rd1 {κ : Kind} {sp : Space} (v : View sig κ sp S4 .f32) (f : v.ty.Contents (Elt F)) (inb : ∀ a, (![1] : Fin S4.rank → ℕ) a + ![1] a ≤ S4.size a) (h : 0 < S1.numel) :
    v.readAt (Elt F) (Rect.unit (s := S4) ![1] ![1] inb).toLoadRect f (Shape.Idx.first h) = w1 (v.read (Elt F) f) := rfl

theorem rdRow {sp : Space} (v : View sig .tc sp S1x1000 .f32) (f : v.ty.Contents (Elt F)) (inb : ∀ a, (![0, 0] : Fin S1x1000.rank → ℕ) a + ![1, 1000] a ≤ S1x1000.size a) :
    v.readAt (Elt F) (Rect.unit (s := S1x1000) ![0, 0] ![1, 1000] inb).toLoadRect f = v.read (Elt F) f := View.readAt_full v f inb
theorem covRow {sp : Space} (v : View sig .tc sp S1x1000 .f32) (inb inb' : ∀ a, (![0, 0] : Fin S1x1000.rank → ℕ) a + ![1, 1000] a ≤ S1x1000.size a) (w : Vec F S1x1000 .f32) (L : List (View.Piece (Elt F) S1x1000 .f32)) :
    v.readCov (⟨Rect.unit (s := S1x1000) ![0, 0] ![1, 1000] inb', w⟩ :: L) (Rect.unit (s := S1x1000) ![0, 0] ![1, 1000] inb).toLoadRect = w := View.readCov_full v inb inb' w L
theorem rdBlk {sp : Space} (v : View sig .tc sp S1024x1000 .f32) (f : v.ty.Contents (Elt F)) (inb : ∀ a, (![0, 0] : Fin S1024x1000.rank → ℕ) a + ![1024, 1000] a ≤ S1024x1000.size a) :
    v.readAt (Elt F) (Rect.unit (s := S1024x1000) ![0, 0] ![1024, 1000] inb).toLoadRect f = v.read (Elt F) f := View.readAt_full v f inb
theorem rdTop {sp : Space} (v : View sig .tc sp S8x1000 .f32) (f : v.ty.Contents (Elt F)) (inb : ∀ a, (![0, 0] : Fin S8x1000.rank → ℕ) a + ![1, 1000] a ≤ S8x1000.size a) :
    v.readAt (Elt F) (Rect.unit (s := S8x1000) ![0, 0] ![1, 1000] inb).toLoadRect f = rowOf (v.read (Elt F) f) := rfl
theorem putRow (x : Vec F S1x1000 .f32) (w : Vec F S1x1000 .f32) : VecWindow.put x ![0, 0] ![1, 1000] w = w := by
  funext y
  unfold VecWindow.put
  have h : ∀ a : Fin S1x1000.rank, (![0, 0] : Fin 2 → ℕ) a ≤ (y a).val ∧ (y a).val < (![0, 0] : Fin 2 → ℕ) a + (![1, 1000] : Fin 2 → ℕ) a := fun a => by
    have := (y a).isLt; fin_cases a
    · exact ⟨Nat.zero_le _, by simpa using this⟩
    · exact ⟨Nat.zero_le _, by simpa using this⟩
  rw [dif_pos h]
  exact congrArg w (funext fun a => Fin.ext (by fin_cases a <;> rfl))
theorem putBlk (x : Vec F S1024x1000 .f32) (w : Vec F S1024x1000 .f32) : VecWindow.put x ![0, 0] ![1024, 1000] w = w := by
  funext y
  unfold VecWindow.put
  have h : ∀ a : Fin S1024x1000.rank, (![0, 0] : Fin 2 → ℕ) a ≤ (y a).val ∧ (y a).val < (![0, 0] : Fin 2 → ℕ) a + (![1024, 1000] : Fin 2 → ℕ) a := fun a => by
    have := (y a).isLt; fin_cases a
    · exact ⟨Nat.zero_le _, by simpa using this⟩
    · exact ⟨Nat.zero_le _, by simpa using this⟩
  rw [dif_pos h]
  exact congrArg w (funext fun a => Fin.ext (by fin_cases a <;> rfl))
/-- Condition 1 of the body, on words. -/
abbrev Q1 (i : grid1.Coords) : Prop := Scalar.cmpi .ne ((Scalar.extui (Scalar.andi (Scalar.andi (Scalar.cmpi .sge (BitVec.ofNat 32 (i 0).val) 1#32) (Scalar.cmpi .sle (BitVec.ofNat 32 (i 0).val) 50#32)) (Scalar.cmpi .eq (BitVec.ofNat 32 (i 1).val) 0#32)) : BitVec 32)) 0#32 = 1#1
/-- Condition 2 of the body, on words. -/
abbrev Q2 (i : grid1.Coords) : Prop := Scalar.cmpi .ne ((Scalar.extui (Scalar.andi (Scalar.cmpi .sle (BitVec.ofNat 32 (i 0).val) 50#32) (Scalar.cmpi .eq (BitVec.ofNat 32 (i 1).val) 0#32)) : BitVec 32)) 0#32 = 1#1
/-- Condition 3 of the body, on words. -/
abbrev Q3 (i : grid1.Coords) : Prop := Scalar.cmpi .ne ((Scalar.extui (Scalar.andi (Scalar.cmpi .slt (BitVec.ofNat 32 (i 1).val) 32#32) (Scalar.cmpi .sle (BitVec.ofNat 32 (i 0).val) 50#32)) : BitVec 32)) 0#32 = 1#1
/-- Condition 4 of the body, on words. -/
abbrev Q4 (i : grid1.Coords) : Prop := Scalar.cmpi .ne ((Scalar.extui (Scalar.cmpi .eq (BitVec.ofNat 32 (i 0).val) 0#32) : BitVec 32)) 0#32 = 1#1
/-- Condition 5 of the body, on words. -/
abbrev Q5 (i : grid1.Coords) : Prop := Scalar.cmpi .ne ((Scalar.extui (Scalar.andi (Scalar.cmpi .sge (BitVec.ofNat 32 (i 0).val) 1#32) (Scalar.cmpi .sle (BitVec.ofNat 32 (i 0).val) 50#32)) : BitVec 32)) 0#32 = 1#1

/-- The scratch at a state. -/
def scr (c : Dev nD) (arg6 : Memref sig .tc .vmem S1x1000 .f32) (arg7 : Memref sig .tc .vmem S1x1000 .f32) (arg8 : Memref sig .tc .vmem S4096x1 .f32) (arg9 : Memref sig .tc .smem S4 .f32) (s : St F) : sProp 𝕄 :=
  iprop(owns (c : Thread nD τ) arg6 fullShare s.u ∗ owns (c : Thread nD τ) arg7 fullShare s.r ∗ owns (c : Thread nD τ) arg8 fullShare s.cl ∗ owns (c : Thread nD τ) arg9 fullShare s.sc)

set_option maxHeartbeats 1000000 in
/-- The body at a point where p = 0 ∧ t = 0. -/
theorem sound_A (c : Dev nD) (E : Set ℕ) (i : grid1.Coords) (arg2 : Memref sig .tc .vmem S1024x1000 .f32) (harg2 : arg2.IsWhole) (arg3 : Memref sig .tc .vmem S1024x1000 .f32) (harg3 : arg3.IsWhole) (arg4 : Memref sig .tc .vmem S8x1000 .f32) (harg4 : arg4.IsWhole) (arg5 : Memref sig .tc .vmem S1024x1000 .f32) (harg5 : arg5.IsWhole) (arg6 : Memref sig .tc .vmem S1x1000 .f32) (harg6 : arg6.IsWhole) (arg7 : Memref sig .tc .vmem S1x1000 .f32) (harg7 : arg7.IsWhole) (arg8 : Memref sig .tc .vmem S4096x1 .f32) (harg8 : arg8.IsWhole) (arg9 : Memref sig .tc .smem S4 .f32) (harg9 : arg9.IsWhole)
    (x0 x1 : Vec F S1024x1000 .f32) (x2 : Vec F S8x1000 .f32) (y3 : Vec F S1024x1000 .f32) (s : St F)
    (h1 : ¬ Q1 i) (h2 : Q2 i) (h3 : Q3 i) (h4 : Q4 i) (h5 : ¬ Q5 i) (h6 : ¬ k1_cond6 i = 1#1) (h8 : ¬ k1_cond8 i = 1#1) (h9 : ¬ k1_cond9 i = 1#1) (h10 : ¬ k1_cond10 i = 1#1)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ scr c arg6 arg7 arg8 arg9 s
        ∗ (iprop(owns (c : Thread nD τ) arg2 fullShare x0 ∗ owns (c : Thread nD τ) arg3 fullShare x1 ∗ owns (c : Thread nD τ) arg4 fullShare x2 ∗ owns (c : Thread nD τ) arg5 fullShare y3 ∗ scr c arg6 arg7 arg8 arg9 (q0 x0 (zero i s))) -∗ K ⟨⟩))
      ⊢ wp frame (wpE (defs₀ (F := F)) Variants.none c none) E (cc1__sinkhorn_body i arg2 harg2 arg3 harg3 arg4 harg4 arg5 harg5 arg6 harg6 arg7 harg7 arg8 harg8 arg9 harg9) K := by
  simp only [cc1__sinkhorn_body_eq_skeleton]; unfold cc1__sinkhorn_body_skel
  obtain ⟨u, r, cl, sc⟩ := s
  unfold scr owns
  iintro ⟨⟨%f0, %hf0, H0⟩, ⟨%f1, %hf1, H1⟩, ⟨%f2, %hf2, H2⟩, ⟨%f3, %hf3, H3⟩, ⟨⟨%f6, %hf6, H6⟩, ⟨%f7, %hf7, H7⟩, ⟨%f8, %hf8, H8⟩, ⟨%f9, %hf9, H9⟩⟩, Hk⟩
  dsimp only at hf6 hf7 hf8 hf9
  subst hf0 hf1 hf2 hf3 hf6 hf7 hf8 hf9
  sl_exec
  sl_step
  iapply Hk
  isplitl [H0]
  · iexists _; isplitr
    swap; · iexact H0
    ipureintro
    first | rfl | ((try delta sound_A.sl.H6_1); (try delta sound_A.sl.v44); (try delta sound_A.sl.H6_1); (try delta sound_A.sl.v44); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H1]
  · iexists _; isplitr
    swap; · iexact H1
    ipureintro
    first | rfl | ((try delta sound_A.sl.H6_1); (try delta sound_A.sl.v44); (try delta sound_A.sl.H6_1); (try delta sound_A.sl.v44); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H2]
  · iexists _; isplitr
    swap; · iexact H2
    ipureintro
    first | rfl | ((try delta sound_A.sl.H6_1); (try delta sound_A.sl.v44); (try delta sound_A.sl.H6_1); (try delta sound_A.sl.v44); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H3]
  · iexists _; isplitr
    swap; · iexact H3
    ipureintro
    first | rfl | ((try delta sound_A.sl.H6_1); (try delta sound_A.sl.v44); (try delta sound_A.sl.H6_1); (try delta sound_A.sl.v44); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H6]
  · iexists _; isplitr
    swap; · iexact H6
    ipureintro
    first | rfl | ((try delta sound_A.sl.H6_1); (try delta sound_A.sl.v44); (try delta sound_A.sl.H6_1); (try delta sound_A.sl.v44); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H7]
  · iexists _; isplitr
    swap; · iexact H7
    ipureintro
    first | rfl | ((try delta sound_A.sl.H6_1); (try delta sound_A.sl.v44); (try delta sound_A.sl.H6_1); (try delta sound_A.sl.v44); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H8]
  · iexists _; isplitr
    swap; · iexact H8
    ipureintro
    first | rfl | ((try delta sound_A.sl.H6_1); (try delta sound_A.sl.v44); (try delta sound_A.sl.H6_1); (try delta sound_A.sl.v44); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  iexists _; isplitr
  swap; · iexact H9
  ipureintro
  first | rfl | ((try delta sound_A.sl.H6_1); (try delta sound_A.sl.v44); (try delta sound_A.sl.H6_1); (try delta sound_A.sl.v44); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))

set_option maxHeartbeats 1000000 in
/-- The body at a point where p = 0 ∧ 0 < t ∧ t < 32. -/
theorem sound_B (c : Dev nD) (E : Set ℕ) (i : grid1.Coords) (arg2 : Memref sig .tc .vmem S1024x1000 .f32) (harg2 : arg2.IsWhole) (arg3 : Memref sig .tc .vmem S1024x1000 .f32) (harg3 : arg3.IsWhole) (arg4 : Memref sig .tc .vmem S8x1000 .f32) (harg4 : arg4.IsWhole) (arg5 : Memref sig .tc .vmem S1024x1000 .f32) (harg5 : arg5.IsWhole) (arg6 : Memref sig .tc .vmem S1x1000 .f32) (harg6 : arg6.IsWhole) (arg7 : Memref sig .tc .vmem S1x1000 .f32) (harg7 : arg7.IsWhole) (arg8 : Memref sig .tc .vmem S4096x1 .f32) (harg8 : arg8.IsWhole) (arg9 : Memref sig .tc .smem S4 .f32) (harg9 : arg9.IsWhole)
    (x0 x1 : Vec F S1024x1000 .f32) (x2 : Vec F S8x1000 .f32) (y3 : Vec F S1024x1000 .f32) (s : St F)
    (h1 : ¬ Q1 i) (h2 : ¬ Q2 i) (h3 : Q3 i) (h4 : Q4 i) (h5 : ¬ Q5 i) (h6 : ¬ k1_cond6 i = 1#1) (h8 : ¬ k1_cond8 i = 1#1) (h9 : ¬ k1_cond9 i = 1#1) (h10 : ¬ k1_cond10 i = 1#1)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ scr c arg6 arg7 arg8 arg9 s
        ∗ (iprop(owns (c : Thread nD τ) arg2 fullShare x0 ∗ owns (c : Thread nD τ) arg3 fullShare x1 ∗ owns (c : Thread nD τ) arg4 fullShare x2 ∗ owns (c : Thread nD τ) arg5 fullShare y3 ∗ scr c arg6 arg7 arg8 arg9 (q0 x0 s)) -∗ K ⟨⟩))
      ⊢ wp frame (wpE (defs₀ (F := F)) Variants.none c none) E (cc1__sinkhorn_body i arg2 harg2 arg3 harg3 arg4 harg4 arg5 harg5 arg6 harg6 arg7 harg7 arg8 harg8 arg9 harg9) K := by
  simp only [cc1__sinkhorn_body_eq_skeleton]; unfold cc1__sinkhorn_body_skel
  obtain ⟨u, r, cl, sc⟩ := s
  unfold scr owns
  iintro ⟨⟨%f0, %hf0, H0⟩, ⟨%f1, %hf1, H1⟩, ⟨%f2, %hf2, H2⟩, ⟨%f3, %hf3, H3⟩, ⟨⟨%f6, %hf6, H6⟩, ⟨%f7, %hf7, H7⟩, ⟨%f8, %hf8, H8⟩, ⟨%f9, %hf9, H9⟩⟩, Hk⟩
  dsimp only at hf6 hf7 hf8 hf9
  subst hf0 hf1 hf2 hf3 hf6 hf7 hf8 hf9
  sl_exec
  sl_step
  iapply Hk
  isplitl [H0]
  · iexists _; isplitr
    swap; · iexact H0
    ipureintro
    first | rfl | (simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H1]
  · iexists _; isplitr
    swap; · iexact H1
    ipureintro
    first | rfl | (simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H2]
  · iexists _; isplitr
    swap; · iexact H2
    ipureintro
    first | rfl | (simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H3]
  · iexists _; isplitr
    swap; · iexact H3
    ipureintro
    first | rfl | (simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H6]
  · iexists _; isplitr
    swap; · iexact H6
    ipureintro
    first | rfl | (simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H7]
  · iexists _; isplitr
    swap; · iexact H7
    ipureintro
    first | rfl | (simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H8]
  · iexists _; isplitr
    swap; · iexact H8
    ipureintro
    first | rfl | (simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  iexists _; isplitr
  swap; · iexact H9
  ipureintro
  first | rfl | (simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))

set_option maxHeartbeats 1000000 in
/-- The body at a point where p = 0 ∧ 32 ≤ t. -/
theorem sound_C (c : Dev nD) (E : Set ℕ) (i : grid1.Coords) (arg2 : Memref sig .tc .vmem S1024x1000 .f32) (harg2 : arg2.IsWhole) (arg3 : Memref sig .tc .vmem S1024x1000 .f32) (harg3 : arg3.IsWhole) (arg4 : Memref sig .tc .vmem S8x1000 .f32) (harg4 : arg4.IsWhole) (arg5 : Memref sig .tc .vmem S1024x1000 .f32) (harg5 : arg5.IsWhole) (arg6 : Memref sig .tc .vmem S1x1000 .f32) (harg6 : arg6.IsWhole) (arg7 : Memref sig .tc .vmem S1x1000 .f32) (harg7 : arg7.IsWhole) (arg8 : Memref sig .tc .vmem S4096x1 .f32) (harg8 : arg8.IsWhole) (arg9 : Memref sig .tc .smem S4 .f32) (harg9 : arg9.IsWhole)
    (x0 x1 : Vec F S1024x1000 .f32) (x2 : Vec F S8x1000 .f32) (y3 : Vec F S1024x1000 .f32) (s : St F)
    (h1 : ¬ Q1 i) (h2 : ¬ Q2 i) (h3 : ¬ Q3 i) (h4 : Q4 i) (h5 : ¬ Q5 i) (h6 : k1_cond6 i = 1#1) (h8 : ¬ k1_cond8 i = 1#1) (h9 : ¬ k1_cond9 i = 1#1) (h10 : ¬ k1_cond10 i = 1#1)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ scr c arg6 arg7 arg8 arg9 s
        ∗ (iprop(owns (c : Thread nD τ) arg2 fullShare x0 ∗ owns (c : Thread nD τ) arg3 fullShare x1 ∗ owns (c : Thread nD τ) arg4 fullShare x2 ∗ owns (c : Thread nD τ) arg5 fullShare y3 ∗ scr c arg6 arg7 arg8 arg9 (p0 x1 s)) -∗ K ⟨⟩))
      ⊢ wp frame (wpE (defs₀ (F := F)) Variants.none c none) E (cc1__sinkhorn_body i arg2 harg2 arg3 harg3 arg4 harg4 arg5 harg5 arg6 harg6 arg7 harg7 arg8 harg8 arg9 harg9) K := by
  simp only [cc1__sinkhorn_body_eq_skeleton]; unfold cc1__sinkhorn_body_skel
  obtain ⟨u, r, cl, sc⟩ := s
  unfold scr owns
  iintro ⟨⟨%f0, %hf0, H0⟩, ⟨%f1, %hf1, H1⟩, ⟨%f2, %hf2, H2⟩, ⟨%f3, %hf3, H3⟩, ⟨⟨%f6, %hf6, H6⟩, ⟨%f7, %hf7, H7⟩, ⟨%f8, %hf8, H8⟩, ⟨%f9, %hf9, H9⟩⟩, Hk⟩
  dsimp only at hf6 hf7 hf8 hf9
  subst hf0 hf1 hf2 hf3 hf6 hf7 hf8 hf9
  sl_exec
  sl_step
  iapply Hk
  isplitl [H0]
  · iexists _; isplitr
    swap; · iexact H0
    ipureintro
    first | rfl | (simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H1]
  · iexists _; isplitr
    swap; · iexact H1
    ipureintro
    first | rfl | (simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H2]
  · iexists _; isplitr
    swap; · iexact H2
    ipureintro
    first | rfl | (simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H3]
  · iexists _; isplitr
    swap; · iexact H3
    ipureintro
    first | rfl | (simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H6]
  · iexists _; isplitr
    swap; · iexact H6
    ipureintro
    first | rfl | (simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H7]
  · iexists _; isplitr
    swap; · iexact H7
    ipureintro
    first | rfl | (simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H8]
  · iexists _; isplitr
    swap; · iexact H8
    ipureintro
    first | rfl | (simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  iexists _; isplitr
  swap; · iexact H9
  ipureintro
  first | rfl | (simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))

set_option maxHeartbeats 1000000 in
/-- The body at a point where 1 ≤ p ∧ p ≤ 50 ∧ t = 0. -/
theorem sound_D (c : Dev nD) (E : Set ℕ) (i : grid1.Coords) (arg2 : Memref sig .tc .vmem S1024x1000 .f32) (harg2 : arg2.IsWhole) (arg3 : Memref sig .tc .vmem S1024x1000 .f32) (harg3 : arg3.IsWhole) (arg4 : Memref sig .tc .vmem S8x1000 .f32) (harg4 : arg4.IsWhole) (arg5 : Memref sig .tc .vmem S1024x1000 .f32) (harg5 : arg5.IsWhole) (arg6 : Memref sig .tc .vmem S1x1000 .f32) (harg6 : arg6.IsWhole) (arg7 : Memref sig .tc .vmem S1x1000 .f32) (harg7 : arg7.IsWhole) (arg8 : Memref sig .tc .vmem S4096x1 .f32) (harg8 : arg8.IsWhole) (arg9 : Memref sig .tc .smem S4 .f32) (harg9 : arg9.IsWhole)
    (x0 x1 : Vec F S1024x1000 .f32) (x2 : Vec F S8x1000 .f32) (y3 : Vec F S1024x1000 .f32) (s : St F)
    (h1 : Q1 i) (h2 : Q2 i) (h3 : Q3 i) (h4 : ¬ Q4 i) (h5 : Q5 i) (h6 : ¬ k1_cond6 i = 1#1) (h8 : k1_cond8 i = 1#1) (h10 : ¬ k1_cond10 i = 1#1)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ scr c arg6 arg7 arg8 arg9 s
        ∗ (iprop(owns (c : Thread nD τ) arg2 fullShare x0 ∗ owns (c : Thread nD τ) arg3 fullShare x1 ∗ owns (c : Thread nD τ) arg4 fullShare x2 ∗ owns (c : Thread nD τ) arg5 fullShare y3 ∗ scr c arg6 arg7 arg8 arg9 (q1 x0 (zero i (dRow (rowOf x2) s)))) -∗ K ⟨⟩))
      ⊢ wp frame (wpE (defs₀ (F := F)) Variants.none c none) E (cc1__sinkhorn_body i arg2 harg2 arg3 harg3 arg4 harg4 arg5 harg5 arg6 harg6 arg7 harg7 arg8 harg8 arg9 harg9) K := by
  simp only [cc1__sinkhorn_body_eq_skeleton]; unfold cc1__sinkhorn_body_skel
  obtain ⟨u, r, cl, sc⟩ := s
  unfold scr owns
  iintro ⟨⟨%f0, %hf0, H0⟩, ⟨%f1, %hf1, H1⟩, ⟨%f2, %hf2, H2⟩, ⟨%f3, %hf3, H3⟩, ⟨⟨%f6, %hf6, H6⟩, ⟨%f7, %hf7, H7⟩, ⟨%f8, %hf8, H8⟩, ⟨%f9, %hf9, H9⟩⟩, Hk⟩
  dsimp only at hf6 hf7 hf8 hf9
  subst hf0 hf1 hf2 hf3 hf6 hf7 hf8 hf9
  sl_exec
  sl_step
  iapply Hk
  isplitl [H0]
  · iexists _; isplitr
    swap; · iexact H0
    ipureintro
    first | rfl | ((try delta sound_D.sl.v56); (try delta sound_D.sl.v42); (try delta sound_D.sl.r_3); (try delta sound_D.sl.r_2); (try delta sound_D.sl.r_1); (try delta sound_D.sl.r); (try delta sound_D.sl.H7_1); (try delta sound_D.sl.H6_1); (try delta sound_D.sl.v56); (try delta sound_D.sl.v42); (try delta sound_D.sl.r_3); (try delta sound_D.sl.r_2); (try delta sound_D.sl.r_1); (try delta sound_D.sl.r); (try delta sound_D.sl.H7_1); (try delta sound_D.sl.H6_1); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H1]
  · iexists _; isplitr
    swap; · iexact H1
    ipureintro
    first | rfl | ((try delta sound_D.sl.v56); (try delta sound_D.sl.v42); (try delta sound_D.sl.r_3); (try delta sound_D.sl.r_2); (try delta sound_D.sl.r_1); (try delta sound_D.sl.r); (try delta sound_D.sl.H7_1); (try delta sound_D.sl.H6_1); (try delta sound_D.sl.v56); (try delta sound_D.sl.v42); (try delta sound_D.sl.r_3); (try delta sound_D.sl.r_2); (try delta sound_D.sl.r_1); (try delta sound_D.sl.r); (try delta sound_D.sl.H7_1); (try delta sound_D.sl.H6_1); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H2]
  · iexists _; isplitr
    swap; · iexact H2
    ipureintro
    first | rfl | ((try delta sound_D.sl.v56); (try delta sound_D.sl.v42); (try delta sound_D.sl.r_3); (try delta sound_D.sl.r_2); (try delta sound_D.sl.r_1); (try delta sound_D.sl.r); (try delta sound_D.sl.H7_1); (try delta sound_D.sl.H6_1); (try delta sound_D.sl.v56); (try delta sound_D.sl.v42); (try delta sound_D.sl.r_3); (try delta sound_D.sl.r_2); (try delta sound_D.sl.r_1); (try delta sound_D.sl.r); (try delta sound_D.sl.H7_1); (try delta sound_D.sl.H6_1); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H3]
  · iexists _; isplitr
    swap; · iexact H3
    ipureintro
    first | rfl | ((try delta sound_D.sl.v56); (try delta sound_D.sl.v42); (try delta sound_D.sl.r_3); (try delta sound_D.sl.r_2); (try delta sound_D.sl.r_1); (try delta sound_D.sl.r); (try delta sound_D.sl.H7_1); (try delta sound_D.sl.H6_1); (try delta sound_D.sl.v56); (try delta sound_D.sl.v42); (try delta sound_D.sl.r_3); (try delta sound_D.sl.r_2); (try delta sound_D.sl.r_1); (try delta sound_D.sl.r); (try delta sound_D.sl.H7_1); (try delta sound_D.sl.H6_1); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H6]
  · iexists _; isplitr
    swap; · iexact H6
    ipureintro
    first | rfl | ((try delta sound_D.sl.v56); (try delta sound_D.sl.v42); (try delta sound_D.sl.r_3); (try delta sound_D.sl.r_2); (try delta sound_D.sl.r_1); (try delta sound_D.sl.r); (try delta sound_D.sl.H7_1); (try delta sound_D.sl.H6_1); (try delta sound_D.sl.v56); (try delta sound_D.sl.v42); (try delta sound_D.sl.r_3); (try delta sound_D.sl.r_2); (try delta sound_D.sl.r_1); (try delta sound_D.sl.r); (try delta sound_D.sl.H7_1); (try delta sound_D.sl.H6_1); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H7]
  · iexists _; isplitr
    swap; · iexact H7
    ipureintro
    first | rfl | ((try delta sound_D.sl.v56); (try delta sound_D.sl.v42); (try delta sound_D.sl.r_3); (try delta sound_D.sl.r_2); (try delta sound_D.sl.r_1); (try delta sound_D.sl.r); (try delta sound_D.sl.H7_1); (try delta sound_D.sl.H6_1); (try delta sound_D.sl.v56); (try delta sound_D.sl.v42); (try delta sound_D.sl.r_3); (try delta sound_D.sl.r_2); (try delta sound_D.sl.r_1); (try delta sound_D.sl.r); (try delta sound_D.sl.H7_1); (try delta sound_D.sl.H6_1); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H8]
  · iexists _; isplitr
    swap; · iexact H8
    ipureintro
    first | rfl | ((try delta sound_D.sl.v56); (try delta sound_D.sl.v42); (try delta sound_D.sl.r_3); (try delta sound_D.sl.r_2); (try delta sound_D.sl.r_1); (try delta sound_D.sl.r); (try delta sound_D.sl.H7_1); (try delta sound_D.sl.H6_1); (try delta sound_D.sl.v56); (try delta sound_D.sl.v42); (try delta sound_D.sl.r_3); (try delta sound_D.sl.r_2); (try delta sound_D.sl.r_1); (try delta sound_D.sl.r); (try delta sound_D.sl.H7_1); (try delta sound_D.sl.H6_1); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  iexists _; isplitr
  swap; · iexact H9
  ipureintro
  first | rfl | ((try delta sound_D.sl.v56); (try delta sound_D.sl.v42); (try delta sound_D.sl.r_3); (try delta sound_D.sl.r_2); (try delta sound_D.sl.r_1); (try delta sound_D.sl.r); (try delta sound_D.sl.H7_1); (try delta sound_D.sl.H6_1); (try delta sound_D.sl.v56); (try delta sound_D.sl.v42); (try delta sound_D.sl.r_3); (try delta sound_D.sl.r_2); (try delta sound_D.sl.r_1); (try delta sound_D.sl.r); (try delta sound_D.sl.H7_1); (try delta sound_D.sl.H6_1); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))

set_option maxHeartbeats 1000000 in
/-- The body at a point where 1 ≤ p ∧ p ≤ 50 ∧ 0 < t ∧ t < 32. -/
theorem sound_E (c : Dev nD) (E : Set ℕ) (i : grid1.Coords) (arg2 : Memref sig .tc .vmem S1024x1000 .f32) (harg2 : arg2.IsWhole) (arg3 : Memref sig .tc .vmem S1024x1000 .f32) (harg3 : arg3.IsWhole) (arg4 : Memref sig .tc .vmem S8x1000 .f32) (harg4 : arg4.IsWhole) (arg5 : Memref sig .tc .vmem S1024x1000 .f32) (harg5 : arg5.IsWhole) (arg6 : Memref sig .tc .vmem S1x1000 .f32) (harg6 : arg6.IsWhole) (arg7 : Memref sig .tc .vmem S1x1000 .f32) (harg7 : arg7.IsWhole) (arg8 : Memref sig .tc .vmem S4096x1 .f32) (harg8 : arg8.IsWhole) (arg9 : Memref sig .tc .smem S4 .f32) (harg9 : arg9.IsWhole)
    (x0 x1 : Vec F S1024x1000 .f32) (x2 : Vec F S8x1000 .f32) (y3 : Vec F S1024x1000 .f32) (s : St F)
    (h1 : ¬ Q1 i) (h2 : ¬ Q2 i) (h3 : Q3 i) (h4 : ¬ Q4 i) (h5 : Q5 i) (h6 : ¬ k1_cond6 i = 1#1) (h8 : k1_cond8 i = 1#1) (h10 : ¬ k1_cond10 i = 1#1)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ scr c arg6 arg7 arg8 arg9 s
        ∗ (iprop(owns (c : Thread nD τ) arg2 fullShare x0 ∗ owns (c : Thread nD τ) arg3 fullShare x1 ∗ owns (c : Thread nD τ) arg4 fullShare x2 ∗ owns (c : Thread nD τ) arg5 fullShare y3 ∗ scr c arg6 arg7 arg8 arg9 (q1 x0 s)) -∗ K ⟨⟩))
      ⊢ wp frame (wpE (defs₀ (F := F)) Variants.none c none) E (cc1__sinkhorn_body i arg2 harg2 arg3 harg3 arg4 harg4 arg5 harg5 arg6 harg6 arg7 harg7 arg8 harg8 arg9 harg9) K := by
  simp only [cc1__sinkhorn_body_eq_skeleton]; unfold cc1__sinkhorn_body_skel
  obtain ⟨u, r, cl, sc⟩ := s
  unfold scr owns
  iintro ⟨⟨%f0, %hf0, H0⟩, ⟨%f1, %hf1, H1⟩, ⟨%f2, %hf2, H2⟩, ⟨%f3, %hf3, H3⟩, ⟨⟨%f6, %hf6, H6⟩, ⟨%f7, %hf7, H7⟩, ⟨%f8, %hf8, H8⟩, ⟨%f9, %hf9, H9⟩⟩, Hk⟩
  dsimp only at hf6 hf7 hf8 hf9
  subst hf0 hf1 hf2 hf3 hf6 hf7 hf8 hf9
  sl_exec
  sl_step
  iapply Hk
  isplitl [H0]
  · iexists _; isplitr
    swap; · iexact H0
    ipureintro
    first | rfl | ((try delta sound_E.sl.r_1); (try delta sound_E.sl.r); (try delta sound_E.sl.r_1); (try delta sound_E.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H1]
  · iexists _; isplitr
    swap; · iexact H1
    ipureintro
    first | rfl | ((try delta sound_E.sl.r_1); (try delta sound_E.sl.r); (try delta sound_E.sl.r_1); (try delta sound_E.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H2]
  · iexists _; isplitr
    swap; · iexact H2
    ipureintro
    first | rfl | ((try delta sound_E.sl.r_1); (try delta sound_E.sl.r); (try delta sound_E.sl.r_1); (try delta sound_E.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H3]
  · iexists _; isplitr
    swap; · iexact H3
    ipureintro
    first | rfl | ((try delta sound_E.sl.r_1); (try delta sound_E.sl.r); (try delta sound_E.sl.r_1); (try delta sound_E.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H6]
  · iexists _; isplitr
    swap; · iexact H6
    ipureintro
    first | rfl | ((try delta sound_E.sl.r_1); (try delta sound_E.sl.r); (try delta sound_E.sl.r_1); (try delta sound_E.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H7]
  · iexists _; isplitr
    swap; · iexact H7
    ipureintro
    first | rfl | ((try delta sound_E.sl.r_1); (try delta sound_E.sl.r); (try delta sound_E.sl.r_1); (try delta sound_E.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H8]
  · iexists _; isplitr
    swap; · iexact H8
    ipureintro
    first | rfl | ((try delta sound_E.sl.r_1); (try delta sound_E.sl.r); (try delta sound_E.sl.r_1); (try delta sound_E.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  iexists _; isplitr
  swap; · iexact H9
  ipureintro
  first | rfl | ((try delta sound_E.sl.r_1); (try delta sound_E.sl.r); (try delta sound_E.sl.r_1); (try delta sound_E.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))

set_option maxHeartbeats 1000000 in
/-- The body at a point where 1 ≤ p ∧ p ≤ 49 ∧ 32 ≤ t. -/
theorem sound_F (c : Dev nD) (E : Set ℕ) (i : grid1.Coords) (arg2 : Memref sig .tc .vmem S1024x1000 .f32) (harg2 : arg2.IsWhole) (arg3 : Memref sig .tc .vmem S1024x1000 .f32) (harg3 : arg3.IsWhole) (arg4 : Memref sig .tc .vmem S8x1000 .f32) (harg4 : arg4.IsWhole) (arg5 : Memref sig .tc .vmem S1024x1000 .f32) (harg5 : arg5.IsWhole) (arg6 : Memref sig .tc .vmem S1x1000 .f32) (harg6 : arg6.IsWhole) (arg7 : Memref sig .tc .vmem S1x1000 .f32) (harg7 : arg7.IsWhole) (arg8 : Memref sig .tc .vmem S4096x1 .f32) (harg8 : arg8.IsWhole) (arg9 : Memref sig .tc .smem S4 .f32) (harg9 : arg9.IsWhole)
    (x0 x1 : Vec F S1024x1000 .f32) (x2 : Vec F S8x1000 .f32) (y3 : Vec F S1024x1000 .f32) (s : St F)
    (h1 : ¬ Q1 i) (h2 : ¬ Q2 i) (h3 : ¬ Q3 i) (h4 : ¬ Q4 i) (h5 : Q5 i) (h6 : k1_cond6 i = 1#1) (h8 : k1_cond8 i = 1#1) (h9 : ¬ k1_cond9 i = 1#1) (h10 : ¬ k1_cond10 i = 1#1)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ scr c arg6 arg7 arg8 arg9 s
        ∗ (iprop(owns (c : Thread nD τ) arg2 fullShare x0 ∗ owns (c : Thread nD τ) arg3 fullShare x1 ∗ owns (c : Thread nD τ) arg4 fullShare x2 ∗ owns (c : Thread nD τ) arg5 fullShare y3 ∗ scr c arg6 arg7 arg8 arg9 (p1 x1 s)) -∗ K ⟨⟩))
      ⊢ wp frame (wpE (defs₀ (F := F)) Variants.none c none) E (cc1__sinkhorn_body i arg2 harg2 arg3 harg3 arg4 harg4 arg5 harg5 arg6 harg6 arg7 harg7 arg8 harg8 arg9 harg9) K := by
  simp only [cc1__sinkhorn_body_eq_skeleton]; unfold cc1__sinkhorn_body_skel
  obtain ⟨u, r, cl, sc⟩ := s
  unfold scr owns
  iintro ⟨⟨%f0, %hf0, H0⟩, ⟨%f1, %hf1, H1⟩, ⟨%f2, %hf2, H2⟩, ⟨%f3, %hf3, H3⟩, ⟨⟨%f6, %hf6, H6⟩, ⟨%f7, %hf7, H7⟩, ⟨%f8, %hf8, H8⟩, ⟨%f9, %hf9, H9⟩⟩, Hk⟩
  dsimp only at hf6 hf7 hf8 hf9
  subst hf0 hf1 hf2 hf3 hf6 hf7 hf8 hf9
  sl_exec
  sl_step
  iapply Hk
  isplitl [H0]
  · iexists _; isplitr
    swap; · iexact H0
    ipureintro
    first | rfl | ((try delta sound_F.sl.r_1); (try delta sound_F.sl.r); (try delta sound_F.sl.r_1); (try delta sound_F.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H1]
  · iexists _; isplitr
    swap; · iexact H1
    ipureintro
    first | rfl | ((try delta sound_F.sl.r_1); (try delta sound_F.sl.r); (try delta sound_F.sl.r_1); (try delta sound_F.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H2]
  · iexists _; isplitr
    swap; · iexact H2
    ipureintro
    first | rfl | ((try delta sound_F.sl.r_1); (try delta sound_F.sl.r); (try delta sound_F.sl.r_1); (try delta sound_F.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H3]
  · iexists _; isplitr
    swap; · iexact H3
    ipureintro
    first | rfl | ((try delta sound_F.sl.r_1); (try delta sound_F.sl.r); (try delta sound_F.sl.r_1); (try delta sound_F.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H6]
  · iexists _; isplitr
    swap; · iexact H6
    ipureintro
    first | rfl | ((try delta sound_F.sl.r_1); (try delta sound_F.sl.r); (try delta sound_F.sl.r_1); (try delta sound_F.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H7]
  · iexists _; isplitr
    swap; · iexact H7
    ipureintro
    first | rfl | ((try delta sound_F.sl.r_1); (try delta sound_F.sl.r); (try delta sound_F.sl.r_1); (try delta sound_F.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H8]
  · iexists _; isplitr
    swap; · iexact H8
    ipureintro
    first | rfl | ((try delta sound_F.sl.r_1); (try delta sound_F.sl.r); (try delta sound_F.sl.r_1); (try delta sound_F.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  iexists _; isplitr
  swap; · iexact H9
  ipureintro
  first | rfl | ((try delta sound_F.sl.r_1); (try delta sound_F.sl.r); (try delta sound_F.sl.r_1); (try delta sound_F.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))

set_option maxHeartbeats 1000000 in
/-- The body at a point where p = 50 ∧ 32 ≤ t. -/
theorem sound_G (c : Dev nD) (E : Set ℕ) (i : grid1.Coords) (arg2 : Memref sig .tc .vmem S1024x1000 .f32) (harg2 : arg2.IsWhole) (arg3 : Memref sig .tc .vmem S1024x1000 .f32) (harg3 : arg3.IsWhole) (arg4 : Memref sig .tc .vmem S8x1000 .f32) (harg4 : arg4.IsWhole) (arg5 : Memref sig .tc .vmem S1024x1000 .f32) (harg5 : arg5.IsWhole) (arg6 : Memref sig .tc .vmem S1x1000 .f32) (harg6 : arg6.IsWhole) (arg7 : Memref sig .tc .vmem S1x1000 .f32) (harg7 : arg7.IsWhole) (arg8 : Memref sig .tc .vmem S4096x1 .f32) (harg8 : arg8.IsWhole) (arg9 : Memref sig .tc .smem S4 .f32) (harg9 : arg9.IsWhole)
    (x0 x1 : Vec F S1024x1000 .f32) (x2 : Vec F S8x1000 .f32) (y3 : Vec F S1024x1000 .f32) (s : St F)
    (h1 : ¬ Q1 i) (h2 : ¬ Q2 i) (h3 : ¬ Q3 i) (h4 : ¬ Q4 i) (h5 : Q5 i) (h6 : k1_cond6 i = 1#1) (h8 : k1_cond8 i = 1#1) (h9 : k1_cond9 i = 1#1) (h10 : ¬ k1_cond10 i = 1#1)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ scr c arg6 arg7 arg8 arg9 s
        ∗ (iprop(owns (c : Thread nD τ) arg2 fullShare x0 ∗ owns (c : Thread nD τ) arg3 fullShare x1 ∗ owns (c : Thread nD τ) arg4 fullShare x2 ∗ owns (c : Thread nD τ) arg5 fullShare y3 ∗ scr c arg6 arg7 arg8 arg9 (keep i x1 (p1 x1 s))) -∗ K ⟨⟩))
      ⊢ wp frame (wpE (defs₀ (F := F)) Variants.none c none) E (cc1__sinkhorn_body i arg2 harg2 arg3 harg3 arg4 harg4 arg5 harg5 arg6 harg6 arg7 harg7 arg8 harg8 arg9 harg9) K := by
  simp only [cc1__sinkhorn_body_eq_skeleton]; unfold cc1__sinkhorn_body_skel
  obtain ⟨u, r, cl, sc⟩ := s
  unfold scr owns
  iintro ⟨⟨%f0, %hf0, H0⟩, ⟨%f1, %hf1, H1⟩, ⟨%f2, %hf2, H2⟩, ⟨%f3, %hf3, H3⟩, ⟨⟨%f6, %hf6, H6⟩, ⟨%f7, %hf7, H7⟩, ⟨%f8, %hf8, H8⟩, ⟨%f9, %hf9, H9⟩⟩, Hk⟩
  dsimp only at hf6 hf7 hf8 hf9
  subst hf0 hf1 hf2 hf3 hf6 hf7 hf8 hf9
  sl_exec
  sl_step
  iapply Hk
  isplitl [H0]
  · iexists _; isplitr
    swap; · iexact H0
    ipureintro
    first | rfl | ((try delta sound_G.sl.r_1); (try delta sound_G.sl.r); (try delta sound_G.sl.r_1); (try delta sound_G.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H1]
  · iexists _; isplitr
    swap; · iexact H1
    ipureintro
    first | rfl | ((try delta sound_G.sl.r_1); (try delta sound_G.sl.r); (try delta sound_G.sl.r_1); (try delta sound_G.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H2]
  · iexists _; isplitr
    swap; · iexact H2
    ipureintro
    first | rfl | ((try delta sound_G.sl.r_1); (try delta sound_G.sl.r); (try delta sound_G.sl.r_1); (try delta sound_G.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H3]
  · iexists _; isplitr
    swap; · iexact H3
    ipureintro
    first | rfl | ((try delta sound_G.sl.r_1); (try delta sound_G.sl.r); (try delta sound_G.sl.r_1); (try delta sound_G.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H6]
  · iexists _; isplitr
    swap; · iexact H6
    ipureintro
    first | rfl | ((try delta sound_G.sl.r_1); (try delta sound_G.sl.r); (try delta sound_G.sl.r_1); (try delta sound_G.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H7]
  · iexists _; isplitr
    swap; · iexact H7
    ipureintro
    first | rfl | ((try delta sound_G.sl.r_1); (try delta sound_G.sl.r); (try delta sound_G.sl.r_1); (try delta sound_G.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H8]
  · iexists _; isplitr
    swap; · iexact H8
    ipureintro
    first | rfl | ((try delta sound_G.sl.r_1); (try delta sound_G.sl.r); (try delta sound_G.sl.r_1); (try delta sound_G.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  iexists _; isplitr
  swap; · iexact H9
  ipureintro
  first | rfl | ((try delta sound_G.sl.r_1); (try delta sound_G.sl.r); (try delta sound_G.sl.r_1); (try delta sound_G.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))

set_option maxHeartbeats 1000000 in
/-- The body at a point where p = 51 ∧ t < 32. -/
theorem sound_H (c : Dev nD) (E : Set ℕ) (i : grid1.Coords) (arg2 : Memref sig .tc .vmem S1024x1000 .f32) (harg2 : arg2.IsWhole) (arg3 : Memref sig .tc .vmem S1024x1000 .f32) (harg3 : arg3.IsWhole) (arg4 : Memref sig .tc .vmem S8x1000 .f32) (harg4 : arg4.IsWhole) (arg5 : Memref sig .tc .vmem S1024x1000 .f32) (harg5 : arg5.IsWhole) (arg6 : Memref sig .tc .vmem S1x1000 .f32) (harg6 : arg6.IsWhole) (arg7 : Memref sig .tc .vmem S1x1000 .f32) (harg7 : arg7.IsWhole) (arg8 : Memref sig .tc .vmem S4096x1 .f32) (harg8 : arg8.IsWhole) (arg9 : Memref sig .tc .smem S4 .f32) (harg9 : arg9.IsWhole)
    (x0 x1 : Vec F S1024x1000 .f32) (x2 : Vec F S8x1000 .f32) (y3 : Vec F S1024x1000 .f32) (s : St F)
    (h1 : ¬ Q1 i) (h2 : ¬ Q2 i) (h3 : ¬ Q3 i) (h4 : ¬ Q4 i) (h5 : ¬ Q5 i) (h6 : ¬ k1_cond6 i = 1#1) (h8 : ¬ k1_cond8 i = 1#1) (h9 : ¬ k1_cond9 i = 1#1) (h10 : ¬ k1_cond10 i = 1#1)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ scr c arg6 arg7 arg8 arg9 s
        ∗ (iprop(owns (c : Thread nD τ) arg2 fullShare x0 ∗ owns (c : Thread nD τ) arg3 fullShare x1 ∗ owns (c : Thread nD τ) arg4 fullShare x2 ∗ owns (c : Thread nD τ) arg5 fullShare y3 ∗ scr c arg6 arg7 arg8 arg9 s) -∗ K ⟨⟩))
      ⊢ wp frame (wpE (defs₀ (F := F)) Variants.none c none) E (cc1__sinkhorn_body i arg2 harg2 arg3 harg3 arg4 harg4 arg5 harg5 arg6 harg6 arg7 harg7 arg8 harg8 arg9 harg9) K := by
  simp only [cc1__sinkhorn_body_eq_skeleton]; unfold cc1__sinkhorn_body_skel
  obtain ⟨u, r, cl, sc⟩ := s
  unfold scr owns
  iintro ⟨⟨%f0, %hf0, H0⟩, ⟨%f1, %hf1, H1⟩, ⟨%f2, %hf2, H2⟩, ⟨%f3, %hf3, H3⟩, ⟨⟨%f6, %hf6, H6⟩, ⟨%f7, %hf7, H7⟩, ⟨%f8, %hf8, H8⟩, ⟨%f9, %hf9, H9⟩⟩, Hk⟩
  dsimp only at hf6 hf7 hf8 hf9
  subst hf0 hf1 hf2 hf3 hf6 hf7 hf8 hf9
  sl_exec
  sl_step
  iapply Hk
  isplitl [H0]
  · iexists _; isplitr
    swap; · iexact H0
    ipureintro
    first | rfl | (simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H1]
  · iexists _; isplitr
    swap; · iexact H1
    ipureintro
    first | rfl | (simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H2]
  · iexists _; isplitr
    swap; · iexact H2
    ipureintro
    first | rfl | (simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H3]
  · iexists _; isplitr
    swap; · iexact H3
    ipureintro
    first | rfl | (simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H6]
  · iexists _; isplitr
    swap; · iexact H6
    ipureintro
    first | rfl | (simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H7]
  · iexists _; isplitr
    swap; · iexact H7
    ipureintro
    first | rfl | (simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H8]
  · iexists _; isplitr
    swap; · iexact H8
    ipureintro
    first | rfl | (simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  iexists _; isplitr
  swap; · iexact H9
  ipureintro
  first | rfl | (simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))

set_option maxHeartbeats 1000000 in
/-- The body at a point where p = 51 ∧ 32 ≤ t. -/
theorem sound_I (c : Dev nD) (E : Set ℕ) (i : grid1.Coords) (arg2 : Memref sig .tc .vmem S1024x1000 .f32) (harg2 : arg2.IsWhole) (arg3 : Memref sig .tc .vmem S1024x1000 .f32) (harg3 : arg3.IsWhole) (arg4 : Memref sig .tc .vmem S8x1000 .f32) (harg4 : arg4.IsWhole) (arg5 : Memref sig .tc .vmem S1024x1000 .f32) (harg5 : arg5.IsWhole) (arg6 : Memref sig .tc .vmem S1x1000 .f32) (harg6 : arg6.IsWhole) (arg7 : Memref sig .tc .vmem S1x1000 .f32) (harg7 : arg7.IsWhole) (arg8 : Memref sig .tc .vmem S4096x1 .f32) (harg8 : arg8.IsWhole) (arg9 : Memref sig .tc .smem S4 .f32) (harg9 : arg9.IsWhole)
    (x0 x1 : Vec F S1024x1000 .f32) (x2 : Vec F S8x1000 .f32) (y3 : Vec F S1024x1000 .f32) (s : St F)
    (h1 : ¬ Q1 i) (h2 : ¬ Q2 i) (h3 : ¬ Q3 i) (h4 : ¬ Q4 i) (h5 : ¬ Q5 i) (h6 : k1_cond6 i = 1#1) (h8 : ¬ k1_cond8 i = 1#1) (h9 : ¬ k1_cond9 i = 1#1) (h10 : k1_cond10 i = 1#1)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ scr c arg6 arg7 arg8 arg9 s
        ∗ (iprop(owns (c : Thread nD τ) arg2 fullShare x0 ∗ owns (c : Thread nD τ) arg3 fullShare x1 ∗ owns (c : Thread nD τ) arg4 fullShare x2 ∗ owns (c : Thread nD τ) arg5 fullShare (k1_pay17 (rowOf x2) s.u (w0 s.sc) (VecWindow.window s.cl (k1_off2 i) S1024x1.size (k1_off2_inb i h10)) x1) ∗ scr c arg6 arg7 arg8 arg9 s) -∗ K ⟨⟩))
      ⊢ wp frame (wpE (defs₀ (F := F)) Variants.none c none) E (cc1__sinkhorn_body i arg2 harg2 arg3 harg3 arg4 harg4 arg5 harg5 arg6 harg6 arg7 harg7 arg8 harg8 arg9 harg9) K := by
  simp only [cc1__sinkhorn_body_eq_skeleton]; unfold cc1__sinkhorn_body_skel
  obtain ⟨u, r, cl, sc⟩ := s
  unfold scr owns
  iintro ⟨⟨%f0, %hf0, H0⟩, ⟨%f1, %hf1, H1⟩, ⟨%f2, %hf2, H2⟩, ⟨%f3, %hf3, H3⟩, ⟨⟨%f6, %hf6, H6⟩, ⟨%f7, %hf7, H7⟩, ⟨%f8, %hf8, H8⟩, ⟨%f9, %hf9, H9⟩⟩, Hk⟩
  dsimp only at hf6 hf7 hf8 hf9
  subst hf0 hf1 hf2 hf3 hf6 hf7 hf8 hf9
  sl_exec
  sl_step
  iapply Hk
  isplitl [H0]
  · iexists _; isplitr
    swap; · iexact H0
    ipureintro
    first | rfl | ((try delta sound_I.sl.r); (try delta sound_I.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H1]
  · iexists _; isplitr
    swap; · iexact H1
    ipureintro
    first | rfl | ((try delta sound_I.sl.r); (try delta sound_I.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H2]
  · iexists _; isplitr
    swap; · iexact H2
    ipureintro
    first | rfl | ((try delta sound_I.sl.r); (try delta sound_I.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H3]
  · iexists _; isplitr
    swap; · iexact H3
    ipureintro
    first | rfl | ((try delta sound_I.sl.r); (try delta sound_I.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H6]
  · iexists _; isplitr
    swap; · iexact H6
    ipureintro
    first | rfl | ((try delta sound_I.sl.r); (try delta sound_I.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H7]
  · iexists _; isplitr
    swap; · iexact H7
    ipureintro
    first | rfl | ((try delta sound_I.sl.r); (try delta sound_I.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  isplitl [H8]
  · iexists _; isplitr
    swap; · iexact H8
    ipureintro
    first | rfl | ((try delta sound_I.sl.r); (try delta sound_I.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))
  iexists _; isplitr
  swap; · iexact H9
  ipureintro
  first | rfl | ((try delta sound_I.sl.r); (try delta sound_I.sl.r); simp only [rdRow, covRow, rdBlk, rdTop, putRow, putBlk, rd0, rd1, View.read_writes_cons_put _ _ _ _ _ rfl, View.writes_nil, q0, q1, p0, p1, zero, dRow, keep, w0_put0, w1_put0, w0_put1, w1_put1]; first | rfl | exact (putRow _ _) | exact (putBlk _ _) | (refine (putRow _ _).trans ?_; simp only [rdRow, covRow, w0_put0, w1_put0, w0_put1, w1_put1]; done))

end Cert.KernelIdeal.Whole
end
-- ==== Proof.Sched1I.lean ====
module

public import proofs.«01_k».proof.Proof.Body1I
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Dat BodyObligation)

variable {F : FTy → Type} [FloatOps F] [Named F]

local notation "𝕄" => MT nD τ sig Unit (Elt F) ℕ (UR sig nD τ) ℕ

/-! ## The points of the Sinkhorn grid: pass p = t / 36, block j = t % 36 -/

theorem crd (t : Fin cfg1.N) : (grid1.coords t 0).val = t.val / 36 ∧ (grid1.coords t 1).val = t.val % 36 := by
  revert t; decide +kernel

theorem two (P : ℕ → ℕ → Prop) (h : ∀ p : Fin 52, ∀ j : Fin 36, P p.val j.val) (i : grid1.Coords) : P (i 0).val (i 1).val := h (i 0) (i 1)

theorem q1_iff (i : grid1.Coords) : Q1 i ↔ 1 ≤ (i 0).val ∧ (i 0).val ≤ 50 ∧ (i 1).val = 0 :=
  two (fun p j => Scalar.cmpi .ne ((Scalar.extui (Scalar.andi (Scalar.andi (Scalar.cmpi .sge (BitVec.ofNat 32 p) 1#32) (Scalar.cmpi .sle (BitVec.ofNat 32 p) 50#32)) (Scalar.cmpi .eq (BitVec.ofNat 32 j) 0#32)) : BitVec 32)) 0#32 = 1#1 ↔ 1 ≤ p ∧ p ≤ 50 ∧ j = 0) (by decide +kernel) i
theorem q2_iff (i : grid1.Coords) : Q2 i ↔ (i 0).val ≤ 50 ∧ (i 1).val = 0 :=
  two (fun p j => Scalar.cmpi .ne ((Scalar.extui (Scalar.andi (Scalar.cmpi .sle (BitVec.ofNat 32 p) 50#32) (Scalar.cmpi .eq (BitVec.ofNat 32 j) 0#32)) : BitVec 32)) 0#32 = 1#1 ↔ p ≤ 50 ∧ j = 0) (by decide +kernel) i
theorem q3_iff (i : grid1.Coords) : Q3 i ↔ (i 1).val < 32 ∧ (i 0).val ≤ 50 :=
  two (fun p j => Scalar.cmpi .ne ((Scalar.extui (Scalar.andi (Scalar.cmpi .slt (BitVec.ofNat 32 j) 32#32) (Scalar.cmpi .sle (BitVec.ofNat 32 p) 50#32)) : BitVec 32)) 0#32 = 1#1 ↔ j < 32 ∧ p ≤ 50) (by decide +kernel) i
theorem q4_iff (i : grid1.Coords) : Q4 i ↔ (i 0).val = 0 :=
  two (fun p j => Scalar.cmpi .ne ((Scalar.extui (Scalar.cmpi .eq (BitVec.ofNat 32 p) 0#32) : BitVec 32)) 0#32 = 1#1 ↔ p = 0) (by decide +kernel) i
theorem q5_iff (i : grid1.Coords) : Q5 i ↔ 1 ≤ (i 0).val ∧ (i 0).val ≤ 50 :=
  two (fun p j => Scalar.cmpi .ne ((Scalar.extui (Scalar.andi (Scalar.cmpi .sge (BitVec.ofNat 32 p) 1#32) (Scalar.cmpi .sle (BitVec.ofNat 32 p) 50#32)) : BitVec 32)) 0#32 = 1#1 ↔ 1 ≤ p ∧ p ≤ 50) (by decide +kernel) i
theorem c6_iff (i : grid1.Coords) : k1_cond6 i = 1#1 ↔ 32 ≤ (i 1).val :=
  two (fun p j => Scalar.cmpi .ne ((Scalar.extui (Scalar.cmpi .sge (BitVec.ofNat 32 j) 32#32) : BitVec 32)) 0#32 = 1#1 ↔ 32 ≤ j) (by decide +kernel) i
theorem c8_iff (i : grid1.Coords) : k1_cond8 i = 1#1 ↔ 1 ≤ (i 0).val ∧ (i 0).val ≤ 50 := q5_iff i
theorem c9_iff (i : grid1.Coords) : k1_cond9 i = 1#1 ↔ (i 0).val = 50 :=
  two (fun p j => Scalar.cmpi .ne ((Scalar.extui (Scalar.cmpi .eq (BitVec.ofNat 32 p) 50#32) : BitVec 32)) 0#32 = 1#1 ↔ p = 50) (by decide +kernel) i
theorem c10_iff (i : grid1.Coords) : k1_cond10 i = 1#1 ↔ (i 0).val = 51 ∧ 32 ≤ (i 1).val :=
  two (fun p j => Scalar.cmpi .ne ((Scalar.extui (Scalar.andi (Scalar.cmpi .eq (BitVec.ofNat 32 p) 51#32) (Scalar.cmpi .sge (BitVec.ofNat 32 j) 32#32)) : BitVec 32)) 0#32 = 1#1 ↔ p = 51 ∧ 32 ≤ j) (by decide +kernel) i
theorem off1_eq (i : grid1.Coords) (h : 32 ≤ (i 1).val) : k1_off1 i = ![1024 * ((i 1).val - 32), 0] := by
  have := two (fun p j => 32 ≤ j → (Scalar.indexCast (Scalar.muli (Scalar.subi (BitVec.ofNat 32 j) 32#32) 1024#32) : Index).toNat = 1024 * (j - 32)) (by decide +kernel) i h
  unfold k1_off1; dsimp only; rw [this]
theorem off2_eq (i : grid1.Coords) (h : 32 ≤ (i 1).val) : k1_off2 i = ![1024 * ((i 1).val - 32), 0] := off1_eq i h

/-! ## The passes, as a recursion -/

/-- What the running scalar starts a pass at. -/
def zw (p : ℕ) : Elt F .f32 := if p = 0 then Scalar.ofBits .f32 0x3F800000#32 else Scalar.ofBits .f32 0x00000000#32
theorem zw_eq (i : grid1.Coords) : k1_pay6 (F := F) i = zw (i 0).val := by
  have h := two (fun p j => Scalar.cmpi .eq (BitVec.ofNat 32 p) 0#32 = if p = 0 then 1#1 else 0#1) (by decide +kernel) i
  unfold k1_pay6 zw; dsimp only; rw [h]
  split <;> rfl

section Rec
variable (e : Vec F S1x1000 .f32) (q c : ℕ → Vec F S1024x1000 .f32)

/-- The column sums and the running scalar of pass `p` after `j` blocks, the row scaling being `g`. -/
def acc (p : ℕ) (g : Vec F S1x1000 .f32 × Elt F .f32) : ℕ → Vec F S1x1000 .f32 × Elt F .f32
  | 0 => (k1_pay5, zw p)
  | j + 1 => let a := acc p g j
    if p = 0 then
      (if j < 32 then (k1_pay7 (q j) a.1, a.2) else (k1_pay12 (c (j - 32)) a.1, a.2))
    else
      (if j < 32 then (k1_pay9 (q j) g.1 g.2 a.1, k1_pay10 (q j) g.1 g.2 a.2)
        else (k1_pay14 (c (j - 32)) g.1 g.2 a.1, k1_pay15 (c (j - 32)) g.1 g.2 a.2))

/-- The row scaling of pass `p` and its sum. -/
def row : ℕ → Vec F S1x1000 .f32 × Elt F .f32
  | 0 => (k1_pay5, zw 1)
  | p + 1 => (k1_pay3 e (acc q c p (row p) 36).1 (acc q c p (row p) 36).2, k1_pay4 e (acc q c p (row p) 36).1 (acc q c p (row p) 36).2)

/-- The state after point `(p, j)`. -/
structure Done (p j : ℕ) (s : St F) : Prop where
  u : p ≤ 50 → s.u = (acc q c p (row e q c p) (j + 1)).1
  w : p ≤ 50 → w0 s.sc = (acc q c p (row e q c p) (j + 1)).2
  r : 1 ≤ p → p ≤ 50 → s.r = (row e q c p).1
  v : 1 ≤ p → p ≤ 50 → w1 s.sc = (row e q c p).2
  u' : p = 51 → s.u = (acc q c 50 (row e q c 50) 36).1
  w' : p = 51 → w0 s.sc = (acc q c 50 (row e q c 50) 36).2
  cl : ∀ k < 4, (50 < p ∨ (p = 50 ∧ 32 + k ≤ j)) → ∀ (y : S1024x1.Idx) (z : S4096x1.Idx), (z 0).val = 1024 * k + (y 0).val →
    s.cl z = k1_pay16 (c k) (row e q c 50).1 (row e q c 50).2 y

variable {e q c}

theorem done_A (i : grid1.Coords) (h0 : (i 0).val = 0) (s : St F) : Done e q c 0 0 (q0 (q 0) (zero i s)) := by
  refine ⟨fun _ => ?_, fun _ => ?_, fun h => by omega, fun h => by omega, fun h => by omega, fun h => by omega, fun k _ h => by omega⟩
  · simp [acc, q0, zero]
  · exact (w0_put0 _ _).trans (by rw [zw_eq, h0]; rfl)
theorem done_B {j : ℕ} (hj : j + 1 < 32) {s : St F} (h : Done e q c 0 j s) : Done e q c 0 (j + 1) (q0 (q (j + 1)) s) := by
  refine ⟨fun _ => ?_, fun _ => ?_, fun h => by omega, fun h => by omega, fun h => by omega, fun h => by omega, fun k _ h => by omega⟩
  · rw [acc, if_pos rfl, if_pos hj, ← h.u (by omega)]; rfl
  · rw [acc, if_pos rfl, if_pos hj, ← h.w (by omega)]; rfl
theorem done_C {j : ℕ} (hj : 32 ≤ j + 1) {s : St F} (h : Done e q c 0 j s) : Done e q c 0 (j + 1) (p0 (c (j + 1 - 32)) s) := by
  refine ⟨fun _ => ?_, fun _ => ?_, fun h => by omega, fun h => by omega, fun h => by omega, fun h => by omega, fun k _ h => by omega⟩
  · rw [acc, if_pos rfl, if_neg (by omega), ← h.u (by omega)]; rfl
  · rw [acc, if_pos rfl, if_neg (by omega), ← h.w (by omega)]; rfl
theorem done_D (i : grid1.Coords) {p : ℕ} (h0 : (i 0).val = p + 1) (hp : p + 1 ≤ 50) {s : St F} (h : Done e q c p 35 s) :
    Done e q c (p + 1) 0 (q1 (q 0) (zero i (dRow e s))) := by
  have hr : k1_pay3 e s.u (w0 s.sc) = (row e q c (p + 1)).1 := by rw [row, h.u (by omega), h.w (by omega)]
  have hv : k1_pay4 e s.u (w0 s.sc) = (row e q c (p + 1)).2 := by rw [row, h.u (by omega), h.w (by omega)]
  have k1 : w1 (zero i (dRow e s)).sc = (row e q c (p + 1)).2 := (w1_put0 _ _).trans ((w1_put1 _ _).trans hv)
  have k0 : w0 (zero i (dRow e s)).sc = zw (p + 1) := (w0_put0 _ _).trans (by rw [zw_eq, h0])
  have kr : (zero i (dRow e s)).r = (row e q c (p + 1)).1 := hr
  refine ⟨fun _ => ?_, fun _ => ?_, fun _ _ => kr, fun _ _ => ?_, fun h => by omega, fun h => by omega, fun k _ h => by omega⟩
  · rw [acc, if_neg (by omega), if_pos (by omega), ← kr, ← k1]; rfl
  · rw [acc, if_neg (by omega), if_pos (by omega), ← kr, ← k1]; exact (w0_put0 _ _).trans (by rw [k0]; rfl)
  · exact (w1_put0 _ _).trans k1
theorem done_E {p j : ℕ} (hp1 : 1 ≤ p) (hp : p ≤ 50) (hj : j + 1 < 32) {s : St F} (h : Done e q c p j s) : Done e q c p (j + 1) (q1 (q (j + 1)) s) := by
  have hr := h.r hp1 hp; have hv := h.v hp1 hp
  refine ⟨fun _ => ?_, fun _ => ?_, fun _ _ => hr, fun _ _ => ?_, fun h => by omega, fun h => by omega, fun k _ h => by omega⟩
  · rw [acc, if_neg (by omega), if_pos hj, ← h.u hp, ← hr, ← hv]; rfl
  · rw [acc, if_neg (by omega), if_pos hj, ← h.w hp, ← hr, ← hv]; exact w0_put0 _ _
  · rw [← hv]; exact w1_put0 _ _
theorem done_F {p j : ℕ} (hp1 : 1 ≤ p) (hp : p < 50) (hj : 32 ≤ j + 1) {s : St F} (h : Done e q c p j s) :
    Done e q c p (j + 1) (p1 (c (j + 1 - 32)) s) := by
  have hr := h.r hp1 (by omega); have hv := h.v hp1 (by omega)
  refine ⟨fun _ => ?_, fun _ => ?_, fun _ _ => hr, fun _ _ => ?_, fun h => by omega, fun h => by omega, fun k _ h => by omega⟩
  · rw [acc, if_neg (by omega), if_neg (by omega), ← h.u (by omega), ← hr, ← hv]; rfl
  · rw [acc, if_neg (by omega), if_neg (by omega), ← h.w (by omega), ← hr, ← hv]; exact w0_put0 _ _
  · rw [← hv]; exact w1_put0 _ _
theorem done_G (i : grid1.Coords) {j : ℕ} (hi : (i 1).val = j + 1) (hj : 32 ≤ j + 1) (hj' : j + 1 < 36) {s : St F} (h : Done e q c 50 j s) :
    Done e q c 50 (j + 1) (keep i (c (j + 1 - 32)) (p1 (c (j + 1 - 32)) s)) := by
  have hr := h.r (by omega) le_rfl; have hv := h.v (by omega) le_rfl
  have hv' : w1 (p1 (c (j + 1 - 32)) s).sc = (row e q c 50).2 := by rw [← hv]; exact w1_put0 _ _
  refine ⟨fun _ => ?_, fun _ => ?_, fun _ _ => hr, fun _ _ => hv', fun h => by omega, fun h => by omega, fun k hk hkk y z hz => ?_⟩
  · rw [acc, if_neg (by omega), if_neg (by omega), ← h.u (by omega), ← hr, ← hv]; rfl
  · rw [acc, if_neg (by omega), if_neg (by omega), ← h.w (by omega), ← hr, ← hv]; exact w0_put0 _ _
  · have hy : (y 0).val < 1024 := (y 0).isLt
    have hy1 : (y 1).val < 1 := (y 1).isLt
    have hz1 : (z 1).val < 1 := (z 1).isLt
    have ho := off1_eq i (by omega)
    show VecWindow.put s.cl (k1_off1 i) S1024x1.size (k1_pay16 (c (j + 1 - 32)) (p1 (c (j + 1 - 32)) s).r (w1 (p1 (c (j + 1 - 32)) s).sc)) z = _
    rw [hv', show (p1 (c (j + 1 - 32)) s).r = (row e q c 50).1 from hr]
    unfold VecWindow.put
    by_cases hkj : k = j + 1 - 32
    · subst hkj
      have hin : ∀ a, k1_off1 i a ≤ (z a).val ∧ (z a).val < k1_off1 i a + S1024x1.size a := fun a => by
        rw [ho]; fin_cases a
        · show 1024 * ((i 1).val - 32) ≤ (z 0).val ∧ (z 0).val < 1024 * ((i 1).val - 32) + 1024
          rw [hi]; omega
        · show 0 ≤ (z 1).val ∧ (z 1).val < 0 + 1
          omega
      rw [dif_pos hin]
      refine congrArg _ (funext fun a => Fin.ext ?_)
      show (z a).val - k1_off1 i a = (y a).val
      rw [ho]
      fin_cases a
      · show (z 0).val - 1024 * ((i 1).val - 32) = (y 0).val
        rw [hi]; omega
      · show (z 1).val - 0 = (y 1).val
        omega
    · rw [dif_neg]
      · exact h.cl k hk (Or.inr ⟨rfl, by omega⟩) y z hz
      · intro hh
        have h0 := hh 0
        rw [ho] at h0
        have h1 : 1024 * ((i 1).val - 32) ≤ (z 0).val ∧ (z 0).val < 1024 * ((i 1).val - 32) + 1024 := h0
        rw [hi] at h1; omega
theorem done_H0 {s : St F} (h : Done e q c 50 35 s) : Done e q c 51 0 s :=
  ⟨fun h => by omega, fun h => by omega, fun _ h => by omega, fun _ h => by omega, fun _ => h.u le_rfl, fun _ => h.w le_rfl,
    fun k hk _ => h.cl k hk (Or.inr ⟨rfl, by omega⟩)⟩
theorem done_H {j : ℕ} {s : St F} (h : Done e q c 51 j s) : Done e q c 51 (j + 1) s :=
  ⟨fun h => by omega, fun h => by omega, fun _ h => by omega, fun _ h => by omega, fun _ => h.u' rfl, fun _ => h.w' rfl,
    fun k hk _ => h.cl k hk (Or.inl (by omega))⟩

/-- What the last pass reads of the kept column scaling. -/
theorem done_read (i : grid1.Coords) (hi : 32 ≤ (i 1).val) (hi' : (i 1).val < 36) {j : ℕ} {s : St F} (h : Done e q c 51 j s) (inb : ∀ a, k1_off2 i a + S1024x1.size a ≤ S4096x1.size a) :
    VecWindow.window s.cl (k1_off2 i) S1024x1.size inb = k1_pay16 (c ((i 1).val - 32)) (row e q c 50).1 (row e q c 50).2 := by
  funext y
  refine h.cl _ (by omega) (Or.inl (by omega)) y _ ?_
  show k1_off2 i 0 + 1 * (y 0).val = _
  rw [one_mul, congrFun (off2_eq i hi) 0]; rfl

/-- The block the last pass writes, of sample block `k`. -/
def fin (e : Vec F S1x1000 .f32) (q c : ℕ → Vec F S1024x1000 .f32) (k : ℕ) : Vec F S1024x1000 .f32 :=
  k1_pay17 e (acc q c 50 (row e q c 50) 36).1 (acc q c 50 (row e q c 50) 36).2 (k1_pay16 (c k) (row e q c 50).1 (row e q c 50).2) (c k)

theorem done_out (i : grid1.Coords) (hi : 32 ≤ (i 1).val) (hi' : (i 1).val < 36) {j : ℕ} {s : St F} (h : Done e q c 51 j s) (inb : ∀ a, k1_off2 i a + S1024x1.size a ≤ S4096x1.size a) :
    k1_pay17 e s.u (w0 s.sc) (VecWindow.window s.cl (k1_off2 i) S1024x1.size inb) (c ((i 1).val - 32)) = fin e q c ((i 1).val - 32) := by
  rw [done_read i hi hi' h inb, h.u' rfl, h.w' rfl, fin]

end Rec

end Cert.KernelIdeal.Whole

end
-- ==== Proof.PayI.lean ====
module

public import proofs.«01_k».proof.Proof.Sched1I
public import Idealize.ShloMosaic.Lib.Pipeline.ValueKit
public import Idealize.ShloMosaic.Lib.Pointwise
public import Idealize.ShloMosaic.PureOps.IdealRules

@[expose] public section

set_option maxRecDepth 16384

noncomputable section

namespace Cert.KernelIdeal.Val

open Cert.KernelIdeal Cert.KernelIdeal.Gen
open Idealize.ShloMosaic

/-- The smoothing constant of the iteration, as an extended real. -/
def eps : EReal := Ideal.ofBits .f32 0x322BCC77#32

/-- One over the number of rows. -/
def invN : EReal := ((1 / 36864 : ℝ) : EReal)

theorem named_invN : (Named.named (F := Ideal) κ "inv_n" 0x37E38E39#32 : Ideal .f32) = invN :=
  IdealRules.named_const.ideal_named_scalar _ _ _ _ rfl

theorem pay1_ap (e : FVec Ideal S1x1000 .f32) (k : Fin 1000) :
    k1_pay1 (F := Ideal) e (ix2 0 k) = Ideal.div (e (ix2 0 k)) (∑ j : Fin 1000, e (ix2 0 j)) := by
  pointwise [k1_pay1]
  simp

theorem pay2_ap (e u : FVec Ideal S1x1000 .f32) (s : Ideal .f32) (k : Fin 1000) :
    k1_pay2 (F := Ideal) e u s (ix2 0 k) = Ideal.div (k1_pay1 (F := Ideal) e (ix2 0 k)) (u (ix2 0 k) + eps * s) := by
  pointwise [k1_pay2, eps]

theorem pay3_ap (e u : FVec Ideal S1x1000 .f32) (s : Ideal .f32) (k : Fin 1000) :
    k1_pay3 (F := Ideal) e u s (ix2 0 k) = k1_pay2 (F := Ideal) e u s (ix2 0 k) := by
  pointwise [k1_pay3]

theorem pay4_ap (e u : FVec Ideal S1x1000 .f32) (s : Ideal .f32) :
    k1_pay4 (F := Ideal) e u s = ∑ k : Fin 1000, k1_pay2 e u s (ix2 0 k) := by
  pointwise [k1_pay4]
  simp

theorem pay5_ap (k : Fin 1000) : k1_pay5 (F := Ideal) (ix2 0 k) = 0 := by
  pointwise [k1_pay5]

theorem pay7_ap (x : FVec Ideal S1024x1000 .f32) (u : FVec Ideal S1x1000 .f32) (k : Fin 1000) :
    k1_pay7 (F := Ideal) x u (ix2 0 k) = u (ix2 0 k) + ∑ a : Fin 1024, invN * x (ix2 a k) := by
  pointwise [k1_pay7, named_invN]

theorem pay8_ap (x : FVec Ideal S1024x1000 .f32) (r : FVec Ideal S1x1000 .f32) (s : Ideal .f32) (a : Fin 1024) :
    k1_pay8 (F := Ideal) x r s (ix2 a 0) = Ideal.div invN ((∑ k : Fin 1000, x (ix2 a k) * r (ix2 0 k)) + eps * s) := by
  pointwise [k1_pay8, named_invN, eps]

theorem pay9_ap (x : FVec Ideal S1024x1000 .f32) (r : FVec Ideal S1x1000 .f32) (s : Ideal .f32) (u : FVec Ideal S1x1000 .f32) (k : Fin 1000) :
    k1_pay9 (F := Ideal) x r s u (ix2 0 k) = u (ix2 0 k) + ∑ a : Fin 1024, k1_pay8 (F := Ideal) x r s (ix2 a 0) * x (ix2 a k) := by
  pointwise [k1_pay9]

theorem pay10_ap (x : FVec Ideal S1024x1000 .f32) (r : FVec Ideal S1x1000 .f32) (s t : Ideal .f32) :
    k1_pay10 (F := Ideal) x r s t = (t + ∑ a : Fin 1024, k1_pay8 (F := Ideal) x r s (ix2 a 0) : EReal) := by
  pointwise [k1_pay10]
  simp

theorem pay11_ap (x : FVec Ideal S1024x1000 .f32) (a : Fin 1024) (k : Fin 1000) : k1_pay11 (F := Ideal) x (ix2 a k) = x (ix2 a k) := by
  pointwise [k1_pay11]

theorem pay17_ap (e u : FVec Ideal S1x1000 .f32) (s : Ideal .f32) (c : FVec Ideal S1024x1 .f32) (x : FVec Ideal S1024x1000 .f32) (a : Fin 1024) (k : Fin 1000) :
    k1_pay17 (F := Ideal) e u s c x (ix2 a k) = (x (ix2 a k) + eps) * c (ix2 a 0) * k1_pay2 (F := Ideal) e u s (ix2 0 k) * Ideal.ofBits .f32 0x47100000#32 := by
  pointwise [k1_pay17, eps, k1_pay2]

theorem pay11_eq (x : FVec Ideal S1024x1000 .f32) : k1_pay11 (F := Ideal) x = x := shapeCast_self _ _

theorem pay12_eq (x : FVec Ideal S1024x1000 .f32) (u : FVec Ideal S1x1000 .f32) : k1_pay12 (F := Ideal) x u = k1_pay7 (F := Ideal) x u :=
  (show k1_pay12 (F := Ideal) x u = k1_pay7 (F := Ideal) (k1_pay11 (F := Ideal) x) u from rfl).trans (by rw [pay11_eq])

theorem pay13_eq (x : FVec Ideal S1024x1000 .f32) (r : FVec Ideal S1x1000 .f32) (s : Ideal .f32) : k1_pay13 (F := Ideal) x r s = k1_pay8 (F := Ideal) x r s :=
  (show k1_pay13 (F := Ideal) x r s = k1_pay8 (F := Ideal) (k1_pay11 (F := Ideal) x) r s from rfl).trans (by rw [pay11_eq])

theorem pay14_eq (x : FVec Ideal S1024x1000 .f32) (r : FVec Ideal S1x1000 .f32) (s : Ideal .f32) (u : FVec Ideal S1x1000 .f32) :
    k1_pay14 (F := Ideal) x r s u = k1_pay9 (F := Ideal) x r s u :=
  (show k1_pay14 (F := Ideal) x r s u = k1_pay9 (F := Ideal) (k1_pay11 (F := Ideal) x) r s u from rfl).trans (by rw [pay11_eq])

theorem pay15_eq (x : FVec Ideal S1024x1000 .f32) (r : FVec Ideal S1x1000 .f32) (s t : Ideal .f32) :
    k1_pay15 (F := Ideal) x r s t = k1_pay10 (F := Ideal) x r s t :=
  (show k1_pay15 (F := Ideal) x r s t = k1_pay10 (F := Ideal) (k1_pay11 (F := Ideal) x) r s t from rfl).trans (by rw [pay11_eq])

theorem pay16_eq (x : FVec Ideal S1024x1000 .f32) (r : FVec Ideal S1x1000 .f32) (s : Ideal .f32) : k1_pay16 (F := Ideal) x r s = k1_pay8 (F := Ideal) x r s :=
  (show k1_pay16 (F := Ideal) x r s = shapeCast S1024x1 (k1_pay13 (F := Ideal) x r s) shapeCasts_S1024x1_S1024x1 from rfl).trans
    ((shapeCast_self _ _).trans (pay13_eq x r s))

end Cert.KernelIdeal.Val
-- ==== Proof.SinkMath.lean ====
module

public import proofs.«01_k».proof.Proof.PayI

@[expose] public section

set_option maxRecDepth 16384

noncomputable section

/-! The scaling iteration over extended reals, written twice: with the constant added to every entry before the
products (as the reference computes it) and with the constant taken out of the sums (as the kernel computes it).
The two agree where every entry is nonnegative or the least element. -/

namespace Cert.KernelIdeal.Val

open Idealize.ShloMosaic

theorem eps_eq : eps = (((11258999 : ℝ) / 2 ^ 50 : ℝ) : EReal) := by
  unfold eps
  simp [Ideal.ofBits, Ideal.ieee, -EReal.coe_mul]
  norm_num

theorem eps_pos : (0 : EReal) < eps := by rw [eps_eq]; exact_mod_cast (by positivity)

theorem eps_ne_top : eps ≠ ⊤ := by rw [eps_eq]; exact EReal.coe_ne_top _

theorem eps_ne_bot : eps ≠ ⊥ := by rw [eps_eq]; exact EReal.coe_ne_bot _

/-- What the entries of the scaled matrix are: nonnegative, or the least element. -/
def Good (x : EReal) : Prop := x = ⊥ ∨ 0 ≤ x

theorem good_distrib {x c : EReal} (hx : Good x) (h : x = ⊥ → c ≠ ⊥) : (x + eps) * c = x * c + eps * c := by
  rcases hx with rfl | hx
  · have hc := h rfl
    rw [EReal.bot_add]
    induction c with
    | bot => exact absurd rfl hc
    | top => rw [EReal.bot_mul_top, EReal.bot_add]
    | coe c =>
      rcases lt_trichotomy c 0 with h | h | h
      · rw [EReal.bot_mul_coe_of_neg h, eps_eq, ← EReal.coe_mul, EReal.top_add_coe]
      · subst h; simp
      · rw [EReal.bot_mul_coe_of_pos h, EReal.bot_add]
  · exact EReal.right_distrib_of_nonneg hx eps_pos.le

theorem eps_mul_sum {ι : Type*} (s : Finset ι) (f : ι → EReal) : eps * ∑ i ∈ s, f i = ∑ i ∈ s, eps * f i := by
  classical
  induction s using Finset.induction_on with
  | empty => simp
  | insert a s ha ih =>
    rw [Finset.sum_insert ha, Finset.sum_insert ha, EReal.left_distrib_of_nonneg_of_ne_top eps_pos.le eps_ne_top, ih]

theorem sum_bot {ι : Type*} [Fintype ι] (f : ι → EReal) (i : ι) (h : f i = ⊥) : ∑ i, f i = ⊥ := by
  classical
  rw [← Finset.add_sum_erase _ _ (Finset.mem_univ i), h, EReal.bot_add]

theorem sum_top {ι : Type*} [Fintype ι] (f : ι → EReal) (i : ι) (h : f i = ⊤) : ∑ i, f i = ⊤ ∨ ∑ i, f i = ⊥ := by
  classical
  rw [← Finset.add_sum_erase _ _ (Finset.mem_univ i), h]
  by_cases hb : ∑ x ∈ Finset.univ.erase i, f x = ⊥
  · right; rw [hb]; rfl
  · left; exact EReal.top_add_of_ne_bot hb

theorem div_top (x : EReal) : Ideal.div x ⊤ = 0 := by simp [Ideal.div]

theorem div_bot (x : EReal) : Ideal.div x ⊥ = 0 := by simp [Ideal.div]

theorem invN_pos : (0 : EReal) < invN := by unfold invN; exact_mod_cast (by positivity)

theorem div_invN_ne_bot (w : EReal) : Ideal.div invN w ≠ ⊥ := by
  unfold Ideal.div
  split
  · rw [if_pos invN_pos]; exact bot_lt_top.ne'
  · unfold invN
    induction w with
    | bot => simp
    | top => simp
    | coe w => rw [← EReal.coe_inv, ← EReal.coe_mul]; exact EReal.coe_ne_bot _

theorem sum_invN : ∑ _n : Fin 36864, invN = 1 := by
  rw [Finset.sum_const, Finset.card_univ, Fintype.card_fin]
  unfold invN
  rw [← EReal.coe_nsmul]
  norm_num

section Steps

variable (X : Fin 36864 → Fin 1000 → EReal) (e : Fin 1000 → EReal)

/-- The column scaling for row scaling `c`, the constant added to every entry. -/
def colR (c : Fin 36864 → EReal) (k : Fin 1000) : EReal := Ideal.div (e k) (∑ n, (X n k + eps) * c n)

/-- The row scaling for column scaling `r`, the constant added to every entry. -/
def rowR (r : Fin 1000 → EReal) (n : Fin 36864) : EReal := Ideal.div invN (∑ k, r k * (X n k + eps))

/-- The row scaling after `p` rounds, the constant added to every entry. -/
def itR : ℕ → Fin 36864 → EReal
  | 0 => fun _ => invN
  | p + 1 => rowR X (colR X e (itR p))

/-- The column scaling, the constant outside the sum. -/
def colK (c : Fin 36864 → EReal) (k : Fin 1000) : EReal := Ideal.div (e k) ((∑ n, c n * X n k) + eps * ∑ n, c n)

/-- The row scaling, the constant outside the sum. -/
def rowK (r : Fin 1000 → EReal) (n : Fin 36864) : EReal := Ideal.div invN ((∑ k, X n k * r k) + eps * ∑ k, r k)

/-- The row scaling after `p` rounds, the constant outside the sums. -/
def itK : ℕ → Fin 36864 → EReal
  | 0 => fun _ => invN
  | p + 1 => rowK X (colK X e (itK p))

variable (hX : ∀ n k, Good (X n k))

include hX in
theorem colK_eq (c : Fin 36864 → EReal) (hc : ∀ n, c n ≠ ⊥) : colK X e c = colR X e c := by
  funext k
  unfold colK colR
  rw [eps_mul_sum, ← Finset.sum_add_distrib]
  exact congrArg _ (Finset.sum_congr rfl fun n _ => by rw [good_distrib (hX n k) fun _ => hc n, mul_comm (c n)])

include hX in
theorem rowK_eq (r : Fin 1000 → EReal) : rowK X r = rowR X r := by
  funext n
  unfold rowK rowR
  by_cases h : ∃ k, X n k = ⊥ ∧ r k = ⊥
  · obtain ⟨k, hx, hr⟩ := h
    have h1 : (∑ k, X n k * r k) + eps * ∑ k, r k = ⊥ := by
      rw [sum_bot r k hr, EReal.mul_bot_of_pos eps_pos, EReal.add_bot]
    have h2 := sum_top (fun k => r k * (X n k + eps)) k (by simp [hx, hr])
    rw [h1, div_bot]
    rcases h2 with h2 | h2 <;> rw [h2]
    · exact (div_top _).symm
    · exact (div_bot _).symm
  · rw [eps_mul_sum, ← Finset.sum_add_distrib]
    refine congrArg _ (Finset.sum_congr rfl fun k _ => ?_)
    rw [mul_comm (r k), good_distrib (hX n k) fun hx hr => h ⟨k, hx, hr⟩]

theorem itK_ne_bot (p : ℕ) (n : Fin 36864) : itK X e p n ≠ ⊥ := by
  cases p with
  | zero => exact EReal.coe_ne_bot _
  | succ p => exact div_invN_ne_bot _

include hX in
theorem itK_eq (p : ℕ) : itK X e p = itR X e p := by
  induction p with
  | zero => rfl
  | succ p ih =>
    show rowK X (colK X e (itK X e p)) = rowR X (colR X e (itR X e p))
    rw [colK_eq X e hX _ (itK_ne_bot X e p), rowK_eq X hX, ih]

/-- The scaled matrix after the last round, as the reference writes it. -/
def planR (n : Fin 36864) (k : Fin 1000) : EReal :=
  (X n k + eps) * itR X e 50 n * colR X e (itR X e 50) k * Ideal.ofBits .f32 0x47100000#32

/-- The scaled matrix after the last round, as the kernel writes it. -/
def planK (n : Fin 36864) (k : Fin 1000) : EReal :=
  (X n k + eps) * itK X e 50 n * colK X e (itK X e 50) k * Ideal.ofBits .f32 0x47100000#32

include hX in
theorem planK_eq (n : Fin 36864) (k : Fin 1000) : planK X e n k = planR X e n k := by
  unfold planK planR
  rw [colK_eq X e hX _ (itK_ne_bot X e 50), itK_eq X e hX]

end Steps

end Cert.KernelIdeal.Val
-- ==== Proof.SinkI.lean ====
module

public import proofs.«01_k».proof.Proof.SinkMath

@[expose] public section

set_option maxRecDepth 16384

noncomputable section

/-! The call's running state, block by block, is the iteration of the module before. -/

namespace Cert.KernelIdeal.Val

open Cert.KernelIdeal Cert.KernelIdeal.Gen Cert.KernelIdeal.Whole
open Idealize.ShloMosaic

variable (e : FVec Ideal S1x1000 .f32) (q c : ℕ → FVec Ideal S1024x1000 .f32)

/-- Block `j` of the stacked matrix. -/
def blkT (j : ℕ) : FVec Ideal S1024x1000 .f32 := if j < 32 then q j else c (j - 32)

theorem acc_zero (g : FVec Ideal S1x1000 .f32 × Ideal .f32) (j : ℕ) :
    acc (F := Ideal) q c 0 g (j + 1) = (k1_pay7 (F := Ideal) (blkT q c j) (acc (F := Ideal) q c 0 g j).1, (acc (F := Ideal) q c 0 g j).2) := by
  rw [acc]
  unfold blkT
  rw [if_pos rfl]
  split
  · rfl
  · rw [pay12_eq]

theorem acc_pos (p : ℕ) (g : FVec Ideal S1x1000 .f32 × Ideal .f32) (j : ℕ) :
    acc (F := Ideal) q c (p + 1) g (j + 1) = (k1_pay9 (F := Ideal) (blkT q c j) g.1 g.2 (acc (F := Ideal) q c (p + 1) g j).1,
      k1_pay10 (F := Ideal) (blkT q c j) g.1 g.2 (acc (F := Ideal) q c (p + 1) g j).2) := by
  rw [acc]
  unfold blkT
  rw [if_neg (Nat.succ_ne_zero p)]
  split
  · rfl
  · rw [pay14_eq, pay15_eq]

theorem acc_zero_sum (g : FVec Ideal S1x1000 .f32 × Ideal .f32) (j : ℕ) (k : Fin 1000) :
    (acc (F := Ideal) q c 0 g j).1 (ix2 0 k) = ∑ i ∈ Finset.range j, ∑ a : Fin 1024, invN * blkT q c i (ix2 a k) := by
  induction j with
  | zero => exact (pay5_ap k).trans (Finset.sum_range_zero _).symm
  | succ j ih => rw [acc_zero, Finset.sum_range_succ, ← ih]; exact pay7_ap _ _ _

theorem acc_zero_snd (g : FVec Ideal S1x1000 .f32 × Ideal .f32) (j : ℕ) : (acc (F := Ideal) q c 0 g j).2 = (1 : EReal) := by
  induction j with
  | zero => exact Ideal.ofBits_one_f32
  | succ j ih => rw [acc_zero]; exact ih

theorem acc_pos_sum (p : ℕ) (g : FVec Ideal S1x1000 .f32 × Ideal .f32) (j : ℕ) (k : Fin 1000) :
    (acc (F := Ideal) q c (p + 1) g j).1 (ix2 0 k)
      = ∑ i ∈ Finset.range j, ∑ a : Fin 1024, k1_pay8 (F := Ideal) (blkT q c i) g.1 g.2 (ix2 a 0) * blkT q c i (ix2 a k) := by
  induction j with
  | zero => exact (pay5_ap k).trans (Finset.sum_range_zero _).symm
  | succ j ih => rw [acc_pos, Finset.sum_range_succ, ← ih]; exact pay9_ap _ _ _ _ _

theorem acc_pos_snd (p : ℕ) (g : FVec Ideal S1x1000 .f32 × Ideal .f32) (j : ℕ) :
    (acc (F := Ideal) q c (p + 1) g j).2
      = (∑ i ∈ Finset.range j, ∑ a : Fin 1024, k1_pay8 (F := Ideal) (blkT q c i) g.1 g.2 (ix2 a 0) : EReal) := by
  induction j with
  | zero => exact Ideal.ofBits_zero_f32.trans (Finset.sum_range_zero _).symm
  | succ j ih => rw [acc_pos, Finset.sum_range_succ, ← ih]; exact pay10_ap _ _ _ _

theorem sum_tiles (f : Fin 36864 → EReal) (g : ℕ → Fin 1024 → EReal)
    (h : ∀ (j : ℕ) (hj : j < 36) (a : Fin 1024), g j a = f ⟨j * 1024 + a.val, by omega⟩) :
    ∑ i ∈ Finset.range 36, ∑ a : Fin 1024, g i a = ∑ n, f n := by
  rw [Finset.sum_range, Fin.sum_univ_tiles 36 1024 rfl f]
  exact Finset.sum_congr rfl fun j _ => Finset.sum_congr rfl fun a _ => h j.val j.isLt a

variable (X : Fin 36864 → Fin 1000 → EReal) (E : Fin 1000 → EReal)
  (hT : ∀ (j : ℕ) (hj : j < 36) (a : Fin 1024) (k : Fin 1000), blkT q c j (ix2 a k) = X ⟨j * 1024 + a.val, by omega⟩ k)
  (hE : ∀ k : Fin 1000, k1_pay1 (F := Ideal) e (ix2 0 k) = E k)

include hT in
theorem pay8_row (r : FVec Ideal S1x1000 .f32) (s : Ideal .f32) (R : Fin 1000 → EReal) (hr : ∀ k, r (ix2 0 k) = R k)
    (hs : s = (∑ k, R k : EReal)) (j : ℕ) (hj : j < 36) (a : Fin 1024) :
    k1_pay8 (F := Ideal) (blkT q c j) r s (ix2 a 0) = rowK X R ⟨j * 1024 + a.val, by omega⟩ := by
  rw [pay8_ap]
  unfold rowK
  rw [hs]
  simp only [hT j hj, hr]

include hE in
theorem pay2_col (u : FVec Ideal S1x1000 .f32) (s : Ideal .f32) (v : Fin 36864 → EReal)
    (hu : ∀ k, u (ix2 0 k) = ∑ n, v n * X n k) (hs : s = (∑ n, v n : EReal)) (k : Fin 1000) :
    k1_pay2 (F := Ideal) e u s (ix2 0 k) = colK X E v k := by
  rw [pay2_ap, hE, hu, hs]; rfl

/-- What pass `p` accumulates, over all blocks. -/
def AccIs (p : ℕ) : Prop :=
  (∀ k, (acc (F := Ideal) q c p (row (F := Ideal) e q c p) 36).1 (ix2 0 k) = ∑ n, itK X E p n * X n k)
    ∧ (acc (F := Ideal) q c p (row (F := Ideal) e q c p) 36).2 = (∑ n, itK X E p n : EReal)

/-- What pass `p + 1` scales the columns by. -/
def RowIs (p : ℕ) : Prop :=
  (∀ k, (row (F := Ideal) e q c (p + 1)).1 (ix2 0 k) = colK X E (itK X E p) k)
    ∧ (row (F := Ideal) e q c (p + 1)).2 = (∑ k, colK X E (itK X E p) k : EReal)

include hT in
theorem accIs_zero : AccIs e q c X E 0 := by
  refine ⟨fun k => ?_, ?_⟩
  · rw [acc_zero_sum]
    exact sum_tiles (fun n => invN * X n k) _ fun j hj a => by rw [hT j hj]
  · rw [acc_zero_snd]; exact sum_invN.symm

include hE in
theorem rowIs_of (p : ℕ) (h : AccIs e q c X E p) : RowIs e q c X E p := by
  refine ⟨fun k => (pay3_ap _ _ _ _).trans (pay2_col e X E hE _ _ _ h.1 h.2 k), (pay4_ap _ _ _).trans ?_⟩
  exact Finset.sum_congr rfl fun k _ => pay2_col e X E hE _ _ _ h.1 h.2 k

include hT in
theorem accIs_of (p : ℕ) (h : RowIs e q c X E p) : AccIs e q c X E (p + 1) := by
  refine ⟨fun k => ?_, ?_⟩
  · rw [acc_pos_sum]
    exact sum_tiles (fun n => itK X E (p + 1) n * X n k) _ fun j hj a => by
      rw [hT j hj, pay8_row q c X hT _ _ _ h.1 h.2 j hj]; rfl
  · rw [acc_pos_snd]
    exact sum_tiles (fun n => itK X E (p + 1) n) _ fun j hj a => pay8_row q c X hT _ _ _ h.1 h.2 j hj a

include hT hE in
theorem accIs (p : ℕ) : AccIs e q c X E p := by
  induction p with
  | zero => exact accIs_zero e q c X E hT
  | succ p ih => exact accIs_of e q c X E hT p (rowIs_of e q c X E hE p ih)

include hT hE in
/-- The block the call writes for cost block `k` is the scaled matrix at the cost rows. -/
theorem fin_eq (k : ℕ) (hk : k < 4) (a : Fin 1024) (m : Fin 1000) :
    fin (F := Ideal) e q c k (ix2 a m) = planK X E ⟨(32 + k) * 1024 + a.val, by omega⟩ m := by
  have hc : c k = blkT q c (32 + k) := by
    unfold blkT
    rw [if_neg (by omega), Nat.add_sub_cancel_left]
  have hA := accIs e q c X E hT hE 50
  have hR := rowIs_of e q c X E hE 49 (accIs e q c X E hT hE 49)
  unfold fin planK
  rw [pay17_ap, pay2_col e X E hE _ _ _ hA.1 hA.2, pay16_eq, hc, hT (32 + k) (by omega),
    pay8_row q c X hT _ _ _ hR.1 hR.2 (32 + k) (by omega)]
  rfl

end Cert.KernelIdeal.Val
-- ==== Proof.RefVals.lean ====
module

public import proofs.«01_k».proof.Proof.RefFrame
public import proofs.«01_k».proof.Proof.SinkI
public import Idealize.ShloMosaic.Lib.Pipeline.ValueKit
public import Idealize.ShloMosaic.Lib.Pointwise
public import Idealize.ShloMosaic.PureOps.IdealRules

@[expose] public section

set_option maxRecDepth 100000
set_option maxHeartbeats 4000000

noncomputable section

/-! The values of the reference's straight-line stretches, as functions of the values they read, and the reading of
each stretch at the references the later ones use. -/

namespace Cert.ReferenceIdeal.Val

open Idealize.ShloMosaic Idealize.ShloMosaic.TcCoe Idealize.ShloMosaic.StableHlo Idealize.SL.Sem
open Cert.ReferenceIdeal Cert.ReferenceIdeal.Gen Cert.ReferenceIdeal.Value

/-- The largest entry of every row. -/
def r_max (x_arg0 : FVec Ideal S4096x1000 .f32) : FVec Ideal S4096 .f32 :=
  (maximumf (broadcastInDim S4096 ![] bcast_S_S4096 (constant (F := Ideal) S_ .f32 0xFF800000#32)) (Host.reduce FloatOps.maximumf x_arg0 (constant (F := Ideal) S_ .f32 0xFF800000#32) reducesTo_S4096x1000_S4096_d1 h_S_))

/-- The entries less their row's largest. -/
def r_sh (x_arg0 : FVec Ideal S4096x1000 .f32) : FVec Ideal S4096x1000 .f32 :=
  (subf x_arg0 (broadcastInDim S4096x1000 ![0, 1] bcast_S4096x1_S4096x1000_0_1 (broadcastInDim S4096x1 ![0] bcast_S4096_S4096x1_0 (r_max x_arg0))))

/-- The row sums of the exponentials. -/
def r_sum (x_arg0 : FVec Ideal S4096x1000 .f32) : FVec Ideal S4096 .f32 :=
  Host.reduceAdd (Host.exp (r_sh x_arg0)) (constant (F := Ideal) S_ .f32 0x00000000#32) reducesTo_S4096x1000_S4096_d1 h_S_

/-- The value `v10` of the value it is computed from. -/
def r_v10 (x_arg0 : FVec Ideal S4096x1000 .f32) : FVec Ideal S4096x1000 .f32 :=
  (Host.divf (Host.exp (r_sh x_arg0)) (broadcastInDim S4096x1000 ![0, 1] bcast_S4096x1_S4096x1000_0_1 (broadcastInDim S4096x1 ![0] bcast_S4096_S4096x1_0 (r_sum x_arg0))))

/-- The value `v11` of the values it is computed from. -/
def r_v11 (x_v10 : FVec Ideal S4096x1000 .f32) (x_arg1 : FVec Ideal S4096x1000 .f32) : FVec Ideal S4096x1000 .f32 :=
  (mulf x_v10 x_arg1)

/-- The value `v12` of the values it is computed from. -/
def r_v12 (x_arg2 : FVec Ideal S32768x1000 .f32) (x_v11 : FVec Ideal S4096x1000 .f32) : FVec Ideal S36864x1000 .f32 :=
  (concatenate S36864x1000 0 [⟨S32768x1000, x_arg2⟩, ⟨S4096x1000, x_v11⟩] concatenates_S32768x1000_S4096x1000_S36864x1000_d0)

/-- The value `v15` of the value it is computed from. -/
def r_v15 (x_arg3 : FVec Ideal S1000x1 .f32) : FVec Ideal S1000x1 .f32 :=
  (Host.divf x_arg3 (broadcastInDim S1000x1 ![] bcast_S_S1000x1 (Host.reduceAdd x_arg3 (constant (F := Ideal) S_ .f32 0x00000000#32) reducesTo_S1000x1_S_d0_1 h_S_)))

/-- The value `v20` of the value it is computed from. -/
def r_v20 (x_v12 : FVec Ideal S36864x1000 .f32) : FVec Ideal S1000x36864 .f32 :=
  (Host.powf (addf (transpose S1000x36864 [1, 0] x_v12 transposes_S36864x1000_S1000x36864_1_0) (broadcastInDim S1000x36864 ![] bcast_S_S1000x36864 (constant (F := Ideal) S_ .f32 0x322BCC77#32))) (broadcastInDim S1000x36864 ![] bcast_S_S1000x36864 (constant (F := Ideal) S_ .f32 0x3F800000#32)))

/-- The value `v23` of the values it is computed from. -/
def r_v23 : FVec Ideal S36864x1 .f32 :=
  (Host.divf (broadcastInDim S36864x1 ![] bcast_S_S36864x1 (constant (F := Ideal) S_ .f32 0x3F800000#32)) (broadcastInDim S36864x1 ![] bcast_S_S36864x1 (constant (F := Ideal) S_ .f32 0x47100000#32)))

/-- The value `v38` of the values it is computed from. -/
def r_v38 (x_v20 : FVec Ideal S1000x36864 .f32) (x_v24_4 : FVec Ideal S36864x1 .f32) (x_v15 : FVec Ideal S1000x1 .f32) : FVec Ideal S4096x1000 .f32 :=
  (extractStridedSlice S4096x1000 ![32768, 0] (mulf (mulf (transpose S36864x1000 [1, 0] (mulf x_v20 (broadcastInDim S1000x36864 ![0, 1] bcast_S1x36864_S1000x36864_0_1 (broadcastInDim S1x36864 ![1] bcast_S36864_S1x36864_1 (shapeCast S36864 x_v24_4 shapeCasts_S36864x1_S36864)))) transposes_S1000x36864_S36864x1000_1_0) (broadcastInDim S36864x1000 ![0, 1] bcast_S1x1000_S36864x1000_0_1 (broadcastInDim S1x1000 ![1] bcast_S1000_S1x1000_1 (shapeCast S1000 (Host.divf x_v15 (Host.dotGeneral dot_S1000x36864_S36864x1_S1000x1_1_0_0_1_n_n none x_v20 x_v24_4)) shapeCasts_S1000x1_S1000)))) (broadcastInDim S36864x1000 ![] bcast_S_S36864x1000 (constant (F := Ideal) S_ .f32 0x47100000#32))) slices_S36864x1000_S4096x1000_32768_0)

/-- The value `v39` of the value it is computed from. -/
def r_v39 (x_v38 : FVec Ideal S4096x1000 .f32) : IVec S4096 32 :=
  (fun j => (Host.argReduce reducer_argmax_f32_i32 x_v38 (iotaInDim S4096x1000 32 1) (constant (F := Ideal) S_ .f32 0xFF800000#32) (constantI S_ 32 0#32) reducesTo_S4096x1000_S4096_d1 h_S_ j).2)

/-- The value `v40` of the value it is computed from. -/
def r_v40 (x_arg0 : FVec Ideal S4096x1000 .f32) : FVec Ideal S4096x1000 .f32 :=
  (subf (r_sh x_arg0) (broadcastInDim S4096x1000 ![0, 1] bcast_S4096x1_S4096x1000_0_1 (Host.log (broadcastInDim S4096x1 ![0] bcast_S4096_S4096x1_0 (r_sum x_arg0)))))

/-- The value `v47` of the values it is computed from. -/
def r_v47 (x_v40 : FVec Ideal S4096x1000 .f32) (x_arg1 : FVec Ideal S4096x1000 .f32) : FVec Ideal S4096 .f32 :=
  (Host.negf (Host.reduceAdd (mulf x_v40 (Host.divf x_arg1 (broadcastInDim S4096x1000 ![0, 1] bcast_S4096x1_S4096x1000_0_1 (broadcastInDim S4096x1 ![0] bcast_S4096_S4096x1_0 (Host.reduceAdd x_arg1 (constant (F := Ideal) S_ .f32 0x00000000#32) reducesTo_S4096x1000_S4096_d1 h_S_))))) (constant (F := Ideal) S_ .f32 0x00000000#32) reducesTo_S4096x1000_S4096_d1 h_S_))

/-- The value `v50` of the values it is computed from. -/
def r_v50 (x_v40 : FVec Ideal S4096x1000 .f32) (x_v38 : FVec Ideal S4096x1000 .f32) : FVec Ideal S4096 .f32 :=
  (Host.negf (Host.reduceAdd (mulf x_v40 x_v38) (constant (F := Ideal) S_ .f32 0x00000000#32) reducesTo_S4096x1000_S4096_d1 h_S_))

/-- The value `v51` of the values it is computed from. -/
def r_v51 : IVec S1000 32 :=
  (broadcastInDim S1000 ![] bcast_S_S1000 (constantI S_ 32 0#32))

/-- The value `c_13` of the values it is computed from. -/
def r_c_13 : IVec S_ 32 :=
  (constantI S_ 32 0#32)

/-- The value `v52` of the values it is computed from. -/
def r_v52 (x_c_13 : IVec S_ 32) (x_v39 : IVec S4096 32) : IVec S4096 32 :=
  (maxsi (broadcastInDim S4096 ![] bcast_S_S4096 x_c_13) x_v39)

/-- The value `v58` of the value it is computed from. -/
def r_v58 (x_v52 : IVec S4096 32) : IVec S4096x1 32 :=
  (broadcastInDim S4096x1 ![0] bcast_S4096_S4096x1_0 (select (cmpi .slt x_v52 (broadcastInDim S4096 ![] bcast_S_S4096 (constantI S_ 32 0#32))) (addi x_v52 (broadcastInDim S4096 ![] bcast_S_S4096 (constantI S_ 32 1000#32))) x_v52))

/-- The value `v60` of the values it is computed from. -/
def r_v60 (x_v51 : IVec S1000 32) (x_v58 : IVec S4096x1 32) : IVec S1000 32 :=
  (Host.scatter scatter_S1000_S4096x1_S4096_n_0_0_1 IntOp.addi x_v51 x_v58 (broadcastInDim S4096 ![] bcast_S_S4096 (constantI S_ 32 1#32)))

/-- The value `v67` of the value it is computed from. -/
def r_v67 (x_v15 : FVec Ideal S1000x1 .f32) : IVec S1000 32 :=
  (fptosi 32 (Host.ceil (mulf (mulf (broadcastInDim S1000 ![] bcast_S_S1000 (constant (F := Ideal) S_ .f32 0x45800000#32)) (shapeCast S1000 x_v15 shapeCasts_S1000x1_S1000)) (broadcastInDim S1000 ![] bcast_S_S1000 (constant (F := Ideal) S_ .f32 0x3F000000#32)))))

/-- The value `v69` of the value it is computed from. -/
def r_v69 (x_v60 : IVec S1000 32) : IVec S1000 32 :=
  (maxsi x_v60 (broadcastInDim S1000 ![] bcast_S_S1000 (constantI S_ 32 1#32)))

/-- The value `c_20` of the values it is computed from. -/
def r_c_20 : IVec S_ 32 :=
  (constantI S_ 32 1#32)

/-- The value `v70` of the values it is computed from. -/
def r_v70 (x_v69 : IVec S1000 32) (x_c_20 : IVec S_ 32) (x_v67 : IVec S1000 32) : IVec S1000 32 :=
  (minsi x_v69 (maxsi (broadcastInDim S1000 ![] bcast_S_S1000 x_c_20) x_v67))

/-- The value `v71` of the values it is computed from. -/
def r_v71 (x_v39 : IVec S4096 32) (x_v50 : FVec Ideal S4096 .f32) : IVec S4096 32 :=
  ((Host.sort3 S4096 0 comparator_i32_f32_i32_d0 x_v39 x_v50 (iotaInDim S4096 32 0)).2.2)

/-- The value `v72` of the value it is computed from. -/
def r_v72 (x_v60 : IVec S1000 32) : IVec S1000 32 :=
  (Host.reduceWindow IntOp.addi ![1000] ![1] ![999] ![0] x_v60 (broadcastInDim S_ ![] bcast_S_S_ (constantI S_ 32 0#32)) reduceWindows_S1000_S1000_w1000s1p999_0 h_S_)

/-- The value `v73` of the values it is computed from. -/
def r_v73 (x_v72 : IVec S1000 32) (x_v60 : IVec S1000 32) : IVec S1000 32 :=
  (subi x_v72 x_v60)

/-- The value `v79` of the value it is computed from. -/
def r_v79 (x_v71 : IVec S4096 32) : IVec S4096 32 :=
  (select (cmpi .slt x_v71 (broadcastInDim S4096 ![] bcast_S_S4096 (constantI S_ 32 0#32))) (addi x_v71 (broadcastInDim S4096 ![] bcast_S_S4096 (constantI S_ 32 4096#32))) x_v71)

/-- The value `v80` of the value it is computed from. -/
def r_v80 (x_v79 : IVec S4096 32) : IVec S4096x1 32 :=
  (broadcastInDim S4096x1 ![0] bcast_S4096_S4096x1_0 x_v79)

/-- The value `v81` of the values it is computed from. -/
def r_v81 (x_v39 : IVec S4096 32) (x_v80 : IVec S4096x1 32) : IVec S4096 32 :=
  (Host.gather gather_S4096_S4096x1_S4096_n_0_n_n_0_1_1 x_v39 x_v80)

/-- The value `v87` of the value it is computed from. -/
def r_v87 (x_v81 : IVec S4096 32) : IVec S4096x1 32 :=
  (broadcastInDim S4096x1 ![0] bcast_S4096_S4096x1_0 (select (cmpi .slt x_v81 (broadcastInDim S4096 ![] bcast_S_S4096 (constantI S_ 32 0#32))) (addi x_v81 (broadcastInDim S4096 ![] bcast_S_S4096 (constantI S_ 32 1000#32))) x_v81))

/-- The value `v88` of the values it is computed from. -/
def r_v88 (x_v73 : IVec S1000 32) (x_v87 : IVec S4096x1 32) : IVec S4096 32 :=
  (Host.gather gather_S1000_S4096x1_S4096_n_0_n_n_0_1_1 x_v73 x_v87)

/-- The value `v89` of the value it is computed from. -/
def r_v89 (x_v88 : IVec S4096 32) : IVec S4096 32 :=
  (subi (iotaInDim S4096 32 0) x_v88)

/-- The value `v96` of the value it is computed from. -/
def r_v96 (x_v71 : IVec S4096 32) : IVec S4096x1 32 :=
  (broadcastInDim S4096x1 ![0] bcast_S4096_S4096x1_0 (select (cmpi .slt x_v71 (broadcastInDim S4096 ![] bcast_S_S4096 (constantI S_ 32 0#32))) (addi x_v71 (broadcastInDim S4096 ![] bcast_S_S4096 (constantI S_ 32 4096#32))) x_v71))

/-- The value `v97` of the values it is computed from. -/
def r_v97 (x_v96 : IVec S4096x1 32) (x_v89 : IVec S4096 32) : IVec S4096 32 :=
  (Host.scatter scatter_S4096_S4096x1_S4096_n_0_0_1 (fun _ b => b) (broadcastInDim S4096 ![] bcast_S_S4096 (constantI S_ 32 0#32)) x_v96 x_v89)

/-- The value `v103` of the value it is computed from. -/
def r_v103 (x_v39 : IVec S4096 32) : IVec S4096x1 32 :=
  (broadcastInDim S4096x1 ![0] bcast_S4096_S4096x1_0 (select (cmpi .slt x_v39 (broadcastInDim S4096 ![] bcast_S_S4096 (constantI S_ 32 0#32))) (addi x_v39 (broadcastInDim S4096 ![] bcast_S_S4096 (constantI S_ 32 1000#32))) x_v39))

/-- The value `v104` of the values it is computed from. -/
def r_v104 (x_v70 : IVec S1000 32) (x_v103 : IVec S4096x1 32) : IVec S4096 32 :=
  (Host.gather gather_S1000_S4096x1_S4096_n_0_n_n_0_1_1 x_v70 x_v103)

/-- The value `v105` of the values it is computed from. -/
def r_v105 (x_v97 : IVec S4096 32) (x_v104 : IVec S4096 32) : IVec S4096 1 :=
  (cmpi .slt x_v97 x_v104)

/-- The value `v109` of the values it is computed from. -/
def r_v109 (x_v38 : FVec Ideal S4096x1000 .f32) (x_v10 : FVec Ideal S4096x1000 .f32) : IVec S4096 1 :=
  (cmpf .ogt (Host.reduceAdd (mulf x_v38 x_v10) (constant (F := Ideal) S_ .f32 0x00000000#32) reducesTo_S4096x1000_S4096_d1 h_S_) (broadcastInDim S4096 ![] bcast_S_S4096 (constant (F := Ideal) S_ .f32 0x3F7D70A4#32)))

/-- The value `v110` of the values it is computed from. -/
def r_v110 (x_v105 : IVec S4096 1) (x_v109 : IVec S4096 1) : IVec S4096 1 :=
  (ori x_v105 x_v109)

/-- The value `v116` of the values it is computed from. -/
def r_v116 (x_v110 : IVec S4096 1) (x_v50 : FVec Ideal S4096 .f32) (x_v47 : FVec Ideal S4096 .f32) : FVec Ideal S4096 .f32 :=
  (addf (mulf (uitofp .f32 x_v110) x_v50) (mulf (subf (broadcastInDim S4096 ![] bcast_S_S4096 (constant (F := Ideal) S_ .f32 0x3F800000#32)) (uitofp .f32 x_v110)) x_v47))

theorem hostOps0_v10 (V : Valuation τ sig (Elt Ideal)) :
    after (hostOps0 (F := Ideal)) V (no_index (Proc.devRef .tc main_v10)) = (r_v10 (V (Proc.devRef .tc main_arg0))) := by
  simp only [hostOps0]
  after_results
  all_goals rfl

theorem hostOps0_v24_0 (V : Valuation τ sig (Elt Ideal)) :
    after (hostOps0 (F := Ideal)) V (no_index (Proc.devRef .tc main_v24_0)) = (r_v20 (r_v12 (V (Proc.devRef .tc main_arg2)) (r_v11 (r_v10 (V (Proc.devRef .tc main_arg0))) (V (Proc.devRef .tc main_arg1))))) := by
  simp only [hostOps0]
  after_results
  all_goals rfl

theorem hostOps0_v24_1 (V : Valuation τ sig (Elt Ideal)) :
    after (hostOps0 (F := Ideal)) V (no_index (Proc.devRef .tc main_v24_1)) = (r_v15 (V (Proc.devRef .tc main_arg3))) := by
  simp only [hostOps0]
  after_results
  all_goals rfl

theorem hostOps0_v24_4 (V : Valuation τ sig (Elt Ideal)) :
    after (hostOps0 (F := Ideal)) V (no_index (Proc.devRef .tc main_v24_4)) = (r_v23) := by
  simp only [hostOps0]
  after_results
  all_goals rfl

theorem hostOps0_v20 (V : Valuation τ sig (Elt Ideal)) :
    after (hostOps0 (F := Ideal)) V (no_index (Proc.devRef .tc main_v20)) = (r_v20 (r_v12 (V (Proc.devRef .tc main_arg2)) (r_v11 (r_v10 (V (Proc.devRef .tc main_arg0))) (V (Proc.devRef .tc main_arg1))))) := by
  simp only [hostOps0]
  after_results
  all_goals rfl

theorem hostOps0_v15 (V : Valuation τ sig (Elt Ideal)) :
    after (hostOps0 (F := Ideal)) V (no_index (Proc.devRef .tc main_v15)) = (r_v15 (V (Proc.devRef .tc main_arg3))) := by
  simp only [hostOps0]
  after_results
  all_goals rfl

theorem hostOps0_1_v38 (V : Valuation τ sig (Elt Ideal)) :
    after (hostOps0_1 (F := Ideal)) V (no_index (Proc.devRef .tc main_v38)) = (r_v38 (V (Proc.devRef .tc main_v20)) (V (Proc.devRef .tc main_v24_4)) (V (Proc.devRef .tc main_v15))) := by
  simp only [hostOps0_1]
  after_results_entrywise [cast_eq]
  all_goals rfl

theorem hostOps0_2_v39 (V : Valuation τ sig (Elt Ideal)) :
    after (hostOps0_2 (F := Ideal)) V (no_index (Proc.devRef .tc main_v39)) = (r_v39 (V (Proc.devRef .tc main_v38))) := by
  simp only [hostOps0_2]
  after_results_entrywise [cast_eq]
  all_goals rfl

theorem hostOps0_3_v40 (V : Valuation τ sig (Elt Ideal)) :
    after (hostOps0_3 (F := Ideal)) V (no_index (Proc.devRef .tc main_v40)) = (r_v40 (V (Proc.devRef .tc main_arg0))) := by
  unfold hostOps0_3
  after_results
  simp only [TRef.ofBuf_toBuf]
  rfl

theorem hostOps0_4_v47 (V : Valuation τ sig (Elt Ideal)) :
    after (hostOps0_4 (F := Ideal)) V (no_index (Proc.devRef .tc main_v47)) = (r_v47 (V (Proc.devRef .tc main_v40)) (V (Proc.devRef .tc main_arg1))) := by
  simp only [hostOps0_4]
  after_results_entrywise [cast_eq]
  all_goals rfl

theorem hostOps0_4_v50 (V : Valuation τ sig (Elt Ideal)) :
    after (hostOps0_4 (F := Ideal)) V (no_index (Proc.devRef .tc main_v50)) = (r_v50 (V (Proc.devRef .tc main_v40)) (V (Proc.devRef .tc main_v38))) := by
  simp only [hostOps0_4]
  after_results_entrywise [cast_eq]
  all_goals rfl

theorem hostOps0_4_v51 (V : Valuation τ sig (Elt Ideal)) :
    after (hostOps0_4 (F := Ideal)) V (no_index (Proc.devRef .tc main_v51)) = (r_v51) := by
  simp only [hostOps0_4]
  after_results_entrywise [cast_eq]
  all_goals rfl

theorem hostOps0_4_c_13 (V : Valuation τ sig (Elt Ideal)) :
    after (hostOps0_4 (F := Ideal)) V (no_index (Proc.devRef .tc main_c_13)) = (r_c_13) := by
  simp only [hostOps0_4]
  after_results_entrywise [cast_eq]
  all_goals rfl

theorem hostOps0_5_v52 (V : Valuation τ sig (Elt Ideal)) :
    after (hostOps0_5 (F := Ideal)) V (no_index (Proc.devRef .tc main_v52)) = (r_v52 (V (Proc.devRef .tc main_c_13)) (V (Proc.devRef .tc main_v39))) := by
  simp only [hostOps0_5]
  after_results_entrywise [cast_eq]
  all_goals rfl

theorem hostOps0_6_v60 (V : Valuation τ sig (Elt Ideal)) :
    after (hostOps0_6 (F := Ideal)) V (no_index (Proc.devRef .tc main_v60)) = (r_v60 (V (Proc.devRef .tc main_v51)) (r_v58 (V (Proc.devRef .tc main_v52)))) := by
  simp only [hostOps0_6]
  after_results_entrywise [cast_eq]
  all_goals rfl

theorem hostOps0_6_v67 (V : Valuation τ sig (Elt Ideal)) :
    after (hostOps0_6 (F := Ideal)) V (no_index (Proc.devRef .tc main_v67)) = (r_v67 (V (Proc.devRef .tc main_v15))) := by
  simp only [hostOps0_6]
  after_results_entrywise [cast_eq]
  all_goals rfl

theorem hostOps0_6_v69 (V : Valuation τ sig (Elt Ideal)) :
    after (hostOps0_6 (F := Ideal)) V (no_index (Proc.devRef .tc main_v69)) = (r_v69 (r_v60 (V (Proc.devRef .tc main_v51)) (r_v58 (V (Proc.devRef .tc main_v52))))) := by
  simp only [hostOps0_6]
  after_results_entrywise [cast_eq]
  all_goals rfl

theorem hostOps0_6_c_20 (V : Valuation τ sig (Elt Ideal)) :
    after (hostOps0_6 (F := Ideal)) V (no_index (Proc.devRef .tc main_c_20)) = (r_c_20) := by
  simp only [hostOps0_6]
  after_results_entrywise [cast_eq]
  all_goals rfl

theorem hostOps0_7_v70 (V : Valuation τ sig (Elt Ideal)) :
    after (hostOps0_7 (F := Ideal)) V (no_index (Proc.devRef .tc main_v70)) = (r_v70 (V (Proc.devRef .tc main_v69)) (V (Proc.devRef .tc main_c_20)) (V (Proc.devRef .tc main_v67))) := by
  simp only [hostOps0_7]
  after_results_entrywise [cast_eq]
  all_goals rfl

theorem hostOps0_8_v71 (V : Valuation τ sig (Elt Ideal)) :
    after (hostOps0_8 (F := Ideal)) V (no_index (Proc.devRef .tc main_v71)) = (r_v71 (V (Proc.devRef .tc main_v39)) (V (Proc.devRef .tc main_v50))) := by
  simp only [hostOps0_8]
  after_results_entrywise [cast_eq]
  all_goals rfl

theorem hostOps0_9_v72 (V : Valuation τ sig (Elt Ideal)) :
    after (hostOps0_9 (F := Ideal)) V (no_index (Proc.devRef .tc main_v72)) = (r_v72 (V (Proc.devRef .tc main_v60))) := by
  simp only [hostOps0_9]
  after_results_entrywise [cast_eq]
  all_goals rfl

theorem hostOps0_10_v116 (V : Valuation τ sig (Elt Ideal)) :
    after (hostOps0_10 (F := Ideal)) V (no_index (Proc.devRef .tc main_v116)) = (r_v116 (r_v110 (r_v105 (r_v97 (r_v96 (V (Proc.devRef .tc main_v71))) (r_v89 (r_v88 (r_v73 (V (Proc.devRef .tc main_v72)) (V (Proc.devRef .tc main_v60))) (r_v87 (r_v81 (V (Proc.devRef .tc main_v39)) (r_v80 (r_v79 (V (Proc.devRef .tc main_v71))))))))) (r_v104 (V (Proc.devRef .tc main_v70)) (r_v103 (V (Proc.devRef .tc main_v39))))) (r_v109 (V (Proc.devRef .tc main_v38)) (V (Proc.devRef .tc main_v10)))) (V (Proc.devRef .tc main_v50)) (V (Proc.devRef .tc main_v47))) := by
  simp only [hostOps0_10]
  after_results_entrywise [cast_eq]
  all_goals rfl

/-- Operations that write only the references of `W` keep every other one. -/
theorem rest_of {ops : List (HloOp τ sig (Elt Ideal))} (W L : List (Ref sig .tc))
    (hW : ops.map HloOp.writes = W.map fun w => {Proc.devRef (τ := τ) .tc w}) (h : ∀ b ∈ L, b ∉ W)
    (V : Valuation τ sig (Elt Ideal)) (b : Ref sig .tc) (hb : b ∈ L) : after ops V (Proc.devRef .tc b) = V (Proc.devRef .tc b) :=
  after_of_writes_sub ops V (forall_writes_sub_of_map hW) (h b hb)

theorem hostOps0_1_rest (V : Valuation τ sig (Elt Ideal)) (b : Ref sig .tc) (hb : b ∈ ([main_arg0, main_arg1, main_c_13, main_c_20, main_v10, main_v15, main_v39, main_v40, main_v47, main_v50, main_v51, main_v52, main_v60, main_v67, main_v69, main_v70, main_v71, main_v72] : List (Ref sig .tc))) :
    after (hostOps0_1 (F := Ideal)) V (Proc.devRef .tc b) = V (Proc.devRef .tc b) :=
  rest_of (ops := hostOps0_1 (F := Ideal)) [main_v25, main_v26, main_v27, main_v28, main_v29, main_v30, main_v31, main_v32, main_v33, main_v34, main_v35, main_cst_8, main_v36, main_v37, main_v38] [main_arg0, main_arg1, main_c_13, main_c_20, main_v10, main_v15, main_v39, main_v40, main_v47, main_v50, main_v51, main_v52, main_v60, main_v67, main_v69, main_v70, main_v71, main_v72] rfl (by decide) V b hb

theorem hostOps0_2_rest (V : Valuation τ sig (Elt Ideal)) (b : Ref sig .tc) (hb : b ∈ ([main_arg0, main_arg1, main_c_13, main_c_20, main_v10, main_v15, main_v38, main_v40, main_v47, main_v50, main_v51, main_v52, main_v60, main_v67, main_v69, main_v70, main_v71, main_v72] : List (Ref sig .tc))) :
    after (hostOps0_2 (F := Ideal)) V (Proc.devRef .tc b) = V (Proc.devRef .tc b) :=
  rest_of (ops := hostOps0_2 (F := Ideal)) [main_call0_v0, main_call0_cst, main_call0_c, main_call0_v1_0, main_v39] [main_arg0, main_arg1, main_c_13, main_c_20, main_v10, main_v15, main_v38, main_v40, main_v47, main_v50, main_v51, main_v52, main_v60, main_v67, main_v69, main_v70, main_v71, main_v72] rfl (by decide) V b hb

theorem hostOps0_3_rest (V : Valuation τ sig (Elt Ideal)) (b : Ref sig .tc) (hb : b ∈ ([main_arg1, main_c_13, main_c_20, main_v10, main_v15, main_v38, main_v39, main_v47, main_v50, main_v51, main_v52, main_v60, main_v67, main_v69, main_v70, main_v71, main_v72] : List (Ref sig .tc))) :
    after (hostOps0_3 (F := Ideal)) V (Proc.devRef .tc b) = V (Proc.devRef .tc b) :=
  rest_of (ops := hostOps0_3 (F := Ideal)) [main_call1_cst, main_call1_v0, main_call1_cst_0, main_call1_v1, main_call1_v2, main_call1_v3, main_call1_v4, main_call1_v5, main_call1_v6, main_call1_cst_1, main_call1_v7, main_call1_v8, main_call1_v9, main_call1_v10, main_v40] [main_arg1, main_c_13, main_c_20, main_v10, main_v15, main_v38, main_v39, main_v47, main_v50, main_v51, main_v52, main_v60, main_v67, main_v69, main_v70, main_v71, main_v72] rfl (by decide) V b hb

theorem hostOps0_4_rest (V : Valuation τ sig (Elt Ideal)) (b : Ref sig .tc) (hb : b ∈ ([main_c_20, main_v10, main_v15, main_v38, main_v39, main_v52, main_v60, main_v67, main_v69, main_v70, main_v71, main_v72] : List (Ref sig .tc))) :
    after (hostOps0_4 (F := Ideal)) V (Proc.devRef .tc b) = V (Proc.devRef .tc b) :=
  rest_of (ops := hostOps0_4 (F := Ideal)) [main_cst_9, main_v41, main_v42, main_v43, main_v44, main_v45, main_cst_10, main_v46, main_v47, main_v48, main_cst_11, main_v49, main_v50, main_c_12, main_v51, main_c_13] [main_c_20, main_v10, main_v15, main_v38, main_v39, main_v52, main_v60, main_v67, main_v69, main_v70, main_v71, main_v72] rfl (by decide) V b hb

theorem hostOps0_5_rest (V : Valuation τ sig (Elt Ideal)) (b : Ref sig .tc) (hb : b ∈ ([main_c_20, main_v10, main_v15, main_v38, main_v39, main_v47, main_v50, main_v51, main_v60, main_v67, main_v69, main_v70, main_v71, main_v72] : List (Ref sig .tc))) :
    after (hostOps0_5 (F := Ideal)) V (Proc.devRef .tc b) = V (Proc.devRef .tc b) :=
  rest_of (ops := hostOps0_5 (F := Ideal)) [main_call2_v0, main_call2_v1, main_v52] [main_c_20, main_v10, main_v15, main_v38, main_v39, main_v47, main_v50, main_v51, main_v60, main_v67, main_v69, main_v70, main_v71, main_v72] rfl (by decide) V b hb

theorem hostOps0_6_rest (V : Valuation τ sig (Elt Ideal)) (b : Ref sig .tc) (hb : b ∈ ([main_v10, main_v38, main_v39, main_v47, main_v50, main_v70, main_v71, main_v72] : List (Ref sig .tc))) :
    after (hostOps0_6 (F := Ideal)) V (Proc.devRef .tc b) = V (Proc.devRef .tc b) :=
  rest_of (ops := hostOps0_6 (F := Ideal)) [main_c_14, main_v53, main_v54, main_c_15, main_v55, main_v56, main_v57, main_v58, main_c_16, main_v59, main_v60, main_v61, main_cst_17, main_v62, main_v63, main_cst_18, main_v64, main_v65, main_v66, main_v67, main_c_19, main_v68, main_v69, main_c_20] [main_v10, main_v38, main_v39, main_v47, main_v50, main_v70, main_v71, main_v72] rfl (by decide) V b hb

theorem hostOps0_7_rest (V : Valuation τ sig (Elt Ideal)) (b : Ref sig .tc) (hb : b ∈ ([main_v10, main_v38, main_v39, main_v47, main_v50, main_v60, main_v71, main_v72] : List (Ref sig .tc))) :
    after (hostOps0_7 (F := Ideal)) V (Proc.devRef .tc b) = V (Proc.devRef .tc b) :=
  rest_of (ops := hostOps0_7 (F := Ideal)) [main_call3_v0, main_call3_v1, main_call3_v2, main_v70] [main_v10, main_v38, main_v39, main_v47, main_v50, main_v60, main_v71, main_v72] rfl (by decide) V b hb

theorem hostOps0_8_rest (V : Valuation τ sig (Elt Ideal)) (b : Ref sig .tc) (hb : b ∈ ([main_v10, main_v38, main_v39, main_v47, main_v50, main_v60, main_v70, main_v72] : List (Ref sig .tc))) :
    after (hostOps0_8 (F := Ideal)) V (Proc.devRef .tc b) = V (Proc.devRef .tc b) :=
  rest_of (ops := hostOps0_8 (F := Ideal)) [main_call4_v0, main_call4_v1_0, main_call4_v1_1, main_v71] [main_v10, main_v38, main_v39, main_v47, main_v50, main_v60, main_v70, main_v72] rfl (by decide) V b hb

theorem hostOps0_9_rest (V : Valuation τ sig (Elt Ideal)) (b : Ref sig .tc) (hb : b ∈ ([main_v10, main_v38, main_v39, main_v47, main_v50, main_v60, main_v70, main_v71] : List (Ref sig .tc))) :
    after (hostOps0_9 (F := Ideal)) V (Proc.devRef .tc b) = V (Proc.devRef .tc b) :=
  rest_of (ops := hostOps0_9 (F := Ideal)) [main_call5_call0_c, main_call5_call0_v0, main_v72] [main_v10, main_v38, main_v39, main_v47, main_v50, main_v60, main_v70, main_v71] rfl (by decide) V b hb

end Cert.ReferenceIdeal.Val
-- ==== Proof.RefAll.lean ====
module

public import proofs.«01_k».proof.Proof.RefVals
public import proofs.«01_k».proof.Proof.SinkI
public import Idealize.ShloMosaic.Lib.Pipeline.ValueKit
public import Idealize.ShloMosaic.Lib.Pointwise
public import Idealize.ShloMosaic.PureOps.IdealRules

@[expose] public section

set_option maxRecDepth 100000
set_option maxHeartbeats 4000000

noncomputable section

/-! The reference's result as one function of its four arguments. -/

namespace Cert.ReferenceIdeal.Val

open Idealize.ShloMosaic Idealize.ShloMosaic.TcCoe Idealize.ShloMosaic.StableHlo Idealize.SL.Sem
open Cert.ReferenceIdeal Cert.ReferenceIdeal.Gen Cert.ReferenceIdeal.Value

theorem while0Ops0_rest (V : Valuation τ sig (Elt Ideal)) (b : Ref sig .tc) (hb : b ∈ ([main_arg0, main_arg1, main_v10, main_v15, main_v20] : List (Ref sig .tc))) :
    after (while0Ops0 (F := Ideal)) V (Proc.devRef .tc b) = V (Proc.devRef .tc b) :=
  rest_of (ops := while0Ops0 (F := Ideal)) [main_while0b_c_37, main_while0b_v117, main_while0b_cst_38, main_while0b_cst_39, main_while0b_v118, main_while0b_v119, main_while0b_v120, main_while0b_v121, main_while0b_v122, main_while0b_v123, main_while0b_v124, main_while0b_v125, main_while0b_c_40, main_while0b_v126, main_v24_2, main_v24_3, main_v24_4] [main_arg0, main_arg1, main_v10, main_v15, main_v20] rfl (by decide) V b hb

theorem condOps_rest (V : Valuation τ sig (Elt Ideal)) (b : Ref sig .tc) (hb : b ∈ ([main_arg0, main_arg1, main_v10, main_v15, main_v20] : List (Ref sig .tc))) :
    after (condOps (F := Ideal)) V (Proc.devRef .tc b) = V (Proc.devRef .tc b) :=
  rest_of (ops := condOps (F := Ideal)) [main_while0c_c_37, main_while0c_v117] [main_arg0, main_arg1, main_v10, main_v15, main_v20] rfl (by decide) V b hb

theorem hostOps0_1_arg0_kept (V : Valuation τ sig (Elt Ideal)) : after (hostOps0_1 (F := Ideal)) V (no_index (Proc.devRef .tc main_arg0)) = V (Proc.devRef .tc main_arg0) :=
  hostOps0_1_rest V _ (by decide)

theorem hostOps0_1_arg1_kept (V : Valuation τ sig (Elt Ideal)) : after (hostOps0_1 (F := Ideal)) V (no_index (Proc.devRef .tc main_arg1)) = V (Proc.devRef .tc main_arg1) :=
  hostOps0_1_rest V _ (by decide)

theorem hostOps0_1_c_13_kept (V : Valuation τ sig (Elt Ideal)) : after (hostOps0_1 (F := Ideal)) V (no_index (Proc.devRef .tc main_c_13)) = V (Proc.devRef .tc main_c_13) :=
  hostOps0_1_rest V _ (by decide)

theorem hostOps0_1_c_20_kept (V : Valuation τ sig (Elt Ideal)) : after (hostOps0_1 (F := Ideal)) V (no_index (Proc.devRef .tc main_c_20)) = V (Proc.devRef .tc main_c_20) :=
  hostOps0_1_rest V _ (by decide)

theorem hostOps0_1_v10_kept (V : Valuation τ sig (Elt Ideal)) : after (hostOps0_1 (F := Ideal)) V (no_index (Proc.devRef .tc main_v10)) = V (Proc.devRef .tc main_v10) :=
  hostOps0_1_rest V _ (by decide)

theorem hostOps0_1_v15_kept (V : Valuation τ sig (Elt Ideal)) : after (hostOps0_1 (F := Ideal)) V (no_index (Proc.devRef .tc main_v15)) = V (Proc.devRef .tc main_v15) :=
  hostOps0_1_rest V _ (by decide)

theorem hostOps0_1_v39_kept (V : Valuation τ sig (Elt Ideal)) : after (hostOps0_1 (F := Ideal)) V (no_index (Proc.devRef .tc main_v39)) = V (Proc.devRef .tc main_v39) :=
  hostOps0_1_rest V _ (by decide)

theorem hostOps0_1_v40_kept (V : Valuation τ sig (Elt Ideal)) : after (hostOps0_1 (F := Ideal)) V (no_index (Proc.devRef .tc main_v40)) = V (Proc.devRef .tc main_v40) :=
  hostOps0_1_rest V _ (by decide)

theorem hostOps0_1_v47_kept (V : Valuation τ sig (Elt Ideal)) : after (hostOps0_1 (F := Ideal)) V (no_index (Proc.devRef .tc main_v47)) = V (Proc.devRef .tc main_v47) :=
  hostOps0_1_rest V _ (by decide)

theorem hostOps0_1_v50_kept (V : Valuation τ sig (Elt Ideal)) : after (hostOps0_1 (F := Ideal)) V (no_index (Proc.devRef .tc main_v50)) = V (Proc.devRef .tc main_v50) :=
  hostOps0_1_rest V _ (by decide)

theorem hostOps0_1_v51_kept (V : Valuation τ sig (Elt Ideal)) : after (hostOps0_1 (F := Ideal)) V (no_index (Proc.devRef .tc main_v51)) = V (Proc.devRef .tc main_v51) :=
  hostOps0_1_rest V _ (by decide)

theorem hostOps0_1_v52_kept (V : Valuation τ sig (Elt Ideal)) : after (hostOps0_1 (F := Ideal)) V (no_index (Proc.devRef .tc main_v52)) = V (Proc.devRef .tc main_v52) :=
  hostOps0_1_rest V _ (by decide)

theorem hostOps0_1_v60_kept (V : Valuation τ sig (Elt Ideal)) : after (hostOps0_1 (F := Ideal)) V (no_index (Proc.devRef .tc main_v60)) = V (Proc.devRef .tc main_v60) :=
  hostOps0_1_rest V _ (by decide)

theorem hostOps0_1_v67_kept (V : Valuation τ sig (Elt Ideal)) : after (hostOps0_1 (F := Ideal)) V (no_index (Proc.devRef .tc main_v67)) = V (Proc.devRef .tc main_v67) :=
  hostOps0_1_rest V _ (by decide)

theorem hostOps0_1_v69_kept (V : Valuation τ sig (Elt Ideal)) : after (hostOps0_1 (F := Ideal)) V (no_index (Proc.devRef .tc main_v69)) = V (Proc.devRef .tc main_v69) :=
  hostOps0_1_rest V _ (by decide)

theorem hostOps0_1_v70_kept (V : Valuation τ sig (Elt Ideal)) : after (hostOps0_1 (F := Ideal)) V (no_index (Proc.devRef .tc main_v70)) = V (Proc.devRef .tc main_v70) :=
  hostOps0_1_rest V _ (by decide)

theorem hostOps0_1_v71_kept (V : Valuation τ sig (Elt Ideal)) : after (hostOps0_1 (F := Ideal)) V (no_index (Proc.devRef .tc main_v71)) = V (Proc.devRef .tc main_v71) :=
  hostOps0_1_rest V _ (by decide)

theorem hostOps0_1_v72_kept (V : Valuation τ sig (Elt Ideal)) : after (hostOps0_1 (F := Ideal)) V (no_index (Proc.devRef .tc main_v72)) = V (Proc.devRef .tc main_v72) :=
  hostOps0_1_rest V _ (by decide)

theorem hostOps0_2_arg0_kept (V : Valuation τ sig (Elt Ideal)) : after (hostOps0_2 (F := Ideal)) V (no_index (Proc.devRef .tc main_arg0)) = V (Proc.devRef .tc main_arg0) :=
  hostOps0_2_rest V _ (by decide)

theorem hostOps0_2_arg1_kept (V : Valuation τ sig (Elt Ideal)) : after (hostOps0_2 (F := Ideal)) V (no_index (Proc.devRef .tc main_arg1)) = V (Proc.devRef .tc main_arg1) :=
  hostOps0_2_rest V _ (by decide)

theorem hostOps0_2_c_13_kept (V : Valuation τ sig (Elt Ideal)) : after (hostOps0_2 (F := Ideal)) V (no_index (Proc.devRef .tc main_c_13)) = V (Proc.devRef .tc main_c_13) :=
  hostOps0_2_rest V _ (by decide)

theorem hostOps0_2_c_20_kept (V : Valuation τ sig (Elt Ideal)) : after (hostOps0_2 (F := Ideal)) V (no_index (Proc.devRef .tc main_c_20)) = V (Proc.devRef .tc main_c_20) :=
  hostOps0_2_rest V _ (by decide)

theorem hostOps0_2_v10_kept (V : Valuation τ sig (Elt Ideal)) : after (hostOps0_2 (F := Ideal)) V (no_index (Proc.devRef .tc main_v10)) = V (Proc.devRef .tc main_v10) :=
  hostOps0_2_rest V _ (by decide)

theorem hostOps0_2_v15_kept (V : Valuation τ sig (Elt Ideal)) : after (hostOps0_2 (F := Ideal)) V (no_index (Proc.devRef .tc main_v15)) = V (Proc.devRef .tc main_v15) :=
  hostOps0_2_rest V _ (by decide)

theorem hostOps0_2_v38_kept (V : Valuation τ sig (Elt Ideal)) : after (hostOps0_2 (F := Ideal)) V (no_index (Proc.devRef .tc main_v38)) = V (Proc.devRef .tc main_v38) :=
  hostOps0_2_rest V _ (by decide)

theorem hostOps0_2_v40_kept (V : Valuation τ sig (Elt Ideal)) : after (hostOps0_2 (F := Ideal)) V (no_index (Proc.devRef .tc main_v40)) = V (Proc.devRef .tc main_v40) :=
  hostOps0_2_rest V _ (by decide)

theorem hostOps0_2_v47_kept (V : Valuation τ sig (Elt Ideal)) : after (hostOps0_2 (F := Ideal)) V (no_index (Proc.devRef .tc main_v47)) = V (Proc.devRef .tc main_v47) :=
  hostOps0_2_rest V _ (by decide)

theorem hostOps0_2_v50_kept (V : Valuation τ sig (Elt Ideal)) : after (hostOps0_2 (F := Ideal)) V (no_index (Proc.devRef .tc main_v50)) = V (Proc.devRef .tc main_v50) :=
  hostOps0_2_rest V _ (by decide)

theorem hostOps0_2_v51_kept (V : Valuation τ sig (Elt Ideal)) : after (hostOps0_2 (F := Ideal)) V (no_index (Proc.devRef .tc main_v51)) = V (Proc.devRef .tc main_v51) :=
  hostOps0_2_rest V _ (by decide)

theorem hostOps0_2_v52_kept (V : Valuation τ sig (Elt Ideal)) : after (hostOps0_2 (F := Ideal)) V (no_index (Proc.devRef .tc main_v52)) = V (Proc.devRef .tc main_v52) :=
  hostOps0_2_rest V _ (by decide)

theorem hostOps0_2_v60_kept (V : Valuation τ sig (Elt Ideal)) : after (hostOps0_2 (F := Ideal)) V (no_index (Proc.devRef .tc main_v60)) = V (Proc.devRef .tc main_v60) :=
  hostOps0_2_rest V _ (by decide)

theorem hostOps0_2_v67_kept (V : Valuation τ sig (Elt Ideal)) : after (hostOps0_2 (F := Ideal)) V (no_index (Proc.devRef .tc main_v67)) = V (Proc.devRef .tc main_v67) :=
  hostOps0_2_rest V _ (by decide)

theorem hostOps0_2_v69_kept (V : Valuation τ sig (Elt Ideal)) : after (hostOps0_2 (F := Ideal)) V (no_index (Proc.devRef .tc main_v69)) = V (Proc.devRef .tc main_v69) :=
  hostOps0_2_rest V _ (by decide)

theorem hostOps0_2_v70_kept (V : Valuation τ sig (Elt Ideal)) : after (hostOps0_2 (F := Ideal)) V (no_index (Proc.devRef .tc main_v70)) = V (Proc.devRef .tc main_v70) :=
  hostOps0_2_rest V _ (by decide)

theorem hostOps0_2_v71_kept (V : Valuation τ sig (Elt Ideal)) : after (hostOps0_2 (F := Ideal)) V (no_index (Proc.devRef .tc main_v71)) = V (Proc.devRef .tc main_v71) :=
  hostOps0_2_rest V _ (by decide)

theorem hostOps0_2_v72_kept (V : Valuation τ sig (Elt Ideal)) : after (hostOps0_2 (F := Ideal)) V (no_index (Proc.devRef .tc main_v72)) = V (Proc.devRef .tc main_v72) :=
  hostOps0_2_rest V _ (by decide)

theorem hostOps0_3_arg1_kept (V : Valuation τ sig (Elt Ideal)) : after (hostOps0_3 (F := Ideal)) V (no_index (Proc.devRef .tc main_arg1)) = V (Proc.devRef .tc main_arg1) :=
  hostOps0_3_rest V _ (by decide)

theorem hostOps0_3_c_13_kept (V : Valuation τ sig (Elt Ideal)) : after (hostOps0_3 (F := Ideal)) V (no_index (Proc.devRef .tc main_c_13)) = V (Proc.devRef .tc main_c_13) :=
  hostOps0_3_rest V _ (by decide)

theorem hostOps0_3_c_20_kept (V : Valuation τ sig (Elt Ideal)) : after (hostOps0_3 (F := Ideal)) V (no_index (Proc.devRef .tc main_c_20)) = V (Proc.devRef .tc main_c_20) :=
  hostOps0_3_rest V _ (by decide)

theorem hostOps0_3_v10_kept (V : Valuation τ sig (Elt Ideal)) : after (hostOps0_3 (F := Ideal)) V (no_index (Proc.devRef .tc main_v10)) = V (Proc.devRef .tc main_v10) :=
  hostOps0_3_rest V _ (by decide)

theorem hostOps0_3_v15_kept (V : Valuation τ sig (Elt Ideal)) : after (hostOps0_3 (F := Ideal)) V (no_index (Proc.devRef .tc main_v15)) = V (Proc.devRef .tc main_v15) :=
  hostOps0_3_rest V _ (by decide)

theorem hostOps0_3_v38_kept (V : Valuation τ sig (Elt Ideal)) : after (hostOps0_3 (F := Ideal)) V (no_index (Proc.devRef .tc main_v38)) = V (Proc.devRef .tc main_v38) :=
  hostOps0_3_rest V _ (by decide)

theorem hostOps0_3_v39_kept (V : Valuation τ sig (Elt Ideal)) : after (hostOps0_3 (F := Ideal)) V (no_index (Proc.devRef .tc main_v39)) = V (Proc.devRef .tc main_v39) :=
  hostOps0_3_rest V _ (by decide)

theorem hostOps0_3_v47_kept (V : Valuation τ sig (Elt Ideal)) : after (hostOps0_3 (F := Ideal)) V (no_index (Proc.devRef .tc main_v47)) = V (Proc.devRef .tc main_v47) :=
  hostOps0_3_rest V _ (by decide)

theorem hostOps0_3_v50_kept (V : Valuation τ sig (Elt Ideal)) : after (hostOps0_3 (F := Ideal)) V (no_index (Proc.devRef .tc main_v50)) = V (Proc.devRef .tc main_v50) :=
  hostOps0_3_rest V _ (by decide)

theorem hostOps0_3_v51_kept (V : Valuation τ sig (Elt Ideal)) : after (hostOps0_3 (F := Ideal)) V (no_index (Proc.devRef .tc main_v51)) = V (Proc.devRef .tc main_v51) :=
  hostOps0_3_rest V _ (by decide)

theorem hostOps0_3_v52_kept (V : Valuation τ sig (Elt Ideal)) : after (hostOps0_3 (F := Ideal)) V (no_index (Proc.devRef .tc main_v52)) = V (Proc.devRef .tc main_v52) :=
  hostOps0_3_rest V _ (by decide)

theorem hostOps0_3_v60_kept (V : Valuation τ sig (Elt Ideal)) : after (hostOps0_3 (F := Ideal)) V (no_index (Proc.devRef .tc main_v60)) = V (Proc.devRef .tc main_v60) :=
  hostOps0_3_rest V _ (by decide)

theorem hostOps0_3_v67_kept (V : Valuation τ sig (Elt Ideal)) : after (hostOps0_3 (F := Ideal)) V (no_index (Proc.devRef .tc main_v67)) = V (Proc.devRef .tc main_v67) :=
  hostOps0_3_rest V _ (by decide)

theorem hostOps0_3_v69_kept (V : Valuation τ sig (Elt Ideal)) : after (hostOps0_3 (F := Ideal)) V (no_index (Proc.devRef .tc main_v69)) = V (Proc.devRef .tc main_v69) :=
  hostOps0_3_rest V _ (by decide)

theorem hostOps0_3_v70_kept (V : Valuation τ sig (Elt Ideal)) : after (hostOps0_3 (F := Ideal)) V (no_index (Proc.devRef .tc main_v70)) = V (Proc.devRef .tc main_v70) :=
  hostOps0_3_rest V _ (by decide)

theorem hostOps0_3_v71_kept (V : Valuation τ sig (Elt Ideal)) : after (hostOps0_3 (F := Ideal)) V (no_index (Proc.devRef .tc main_v71)) = V (Proc.devRef .tc main_v71) :=
  hostOps0_3_rest V _ (by decide)

theorem hostOps0_3_v72_kept (V : Valuation τ sig (Elt Ideal)) : after (hostOps0_3 (F := Ideal)) V (no_index (Proc.devRef .tc main_v72)) = V (Proc.devRef .tc main_v72) :=
  hostOps0_3_rest V _ (by decide)

theorem hostOps0_4_c_20_kept (V : Valuation τ sig (Elt Ideal)) : after (hostOps0_4 (F := Ideal)) V (no_index (Proc.devRef .tc main_c_20)) = V (Proc.devRef .tc main_c_20) :=
  hostOps0_4_rest V _ (by decide)

theorem hostOps0_4_v10_kept (V : Valuation τ sig (Elt Ideal)) : after (hostOps0_4 (F := Ideal)) V (no_index (Proc.devRef .tc main_v10)) = V (Proc.devRef .tc main_v10) :=
  hostOps0_4_rest V _ (by decide)

theorem hostOps0_4_v15_kept (V : Valuation τ sig (Elt Ideal)) : after (hostOps0_4 (F := Ideal)) V (no_index (Proc.devRef .tc main_v15)) = V (Proc.devRef .tc main_v15) :=
  hostOps0_4_rest V _ (by decide)

theorem hostOps0_4_v38_kept (V : Valuation τ sig (Elt Ideal)) : after (hostOps0_4 (F := Ideal)) V (no_index (Proc.devRef .tc main_v38)) = V (Proc.devRef .tc main_v38) :=
  hostOps0_4_rest V _ (by decide)

theorem hostOps0_4_v39_kept (V : Valuation τ sig (Elt Ideal)) : after (hostOps0_4 (F := Ideal)) V (no_index (Proc.devRef .tc main_v39)) = V (Proc.devRef .tc main_v39) :=
  hostOps0_4_rest V _ (by decide)

theorem hostOps0_4_v52_kept (V : Valuation τ sig (Elt Ideal)) : after (hostOps0_4 (F := Ideal)) V (no_index (Proc.devRef .tc main_v52)) = V (Proc.devRef .tc main_v52) :=
  hostOps0_4_rest V _ (by decide)

theorem hostOps0_4_v60_kept (V : Valuation τ sig (Elt Ideal)) : after (hostOps0_4 (F := Ideal)) V (no_index (Proc.devRef .tc main_v60)) = V (Proc.devRef .tc main_v60) :=
  hostOps0_4_rest V _ (by decide)

theorem hostOps0_4_v67_kept (V : Valuation τ sig (Elt Ideal)) : after (hostOps0_4 (F := Ideal)) V (no_index (Proc.devRef .tc main_v67)) = V (Proc.devRef .tc main_v67) :=
  hostOps0_4_rest V _ (by decide)

theorem hostOps0_4_v69_kept (V : Valuation τ sig (Elt Ideal)) : after (hostOps0_4 (F := Ideal)) V (no_index (Proc.devRef .tc main_v69)) = V (Proc.devRef .tc main_v69) :=
  hostOps0_4_rest V _ (by decide)

theorem hostOps0_4_v70_kept (V : Valuation τ sig (Elt Ideal)) : after (hostOps0_4 (F := Ideal)) V (no_index (Proc.devRef .tc main_v70)) = V (Proc.devRef .tc main_v70) :=
  hostOps0_4_rest V _ (by decide)

theorem hostOps0_4_v71_kept (V : Valuation τ sig (Elt Ideal)) : after (hostOps0_4 (F := Ideal)) V (no_index (Proc.devRef .tc main_v71)) = V (Proc.devRef .tc main_v71) :=
  hostOps0_4_rest V _ (by decide)

theorem hostOps0_4_v72_kept (V : Valuation τ sig (Elt Ideal)) : after (hostOps0_4 (F := Ideal)) V (no_index (Proc.devRef .tc main_v72)) = V (Proc.devRef .tc main_v72) :=
  hostOps0_4_rest V _ (by decide)

theorem hostOps0_5_c_20_kept (V : Valuation τ sig (Elt Ideal)) : after (hostOps0_5 (F := Ideal)) V (no_index (Proc.devRef .tc main_c_20)) = V (Proc.devRef .tc main_c_20) :=
  hostOps0_5_rest V _ (by decide)

theorem hostOps0_5_v10_kept (V : Valuation τ sig (Elt Ideal)) : after (hostOps0_5 (F := Ideal)) V (no_index (Proc.devRef .tc main_v10)) = V (Proc.devRef .tc main_v10) :=
  hostOps0_5_rest V _ (by decide)

theorem hostOps0_5_v15_kept (V : Valuation τ sig (Elt Ideal)) : after (hostOps0_5 (F := Ideal)) V (no_index (Proc.devRef .tc main_v15)) = V (Proc.devRef .tc main_v15) :=
  hostOps0_5_rest V _ (by decide)

theorem hostOps0_5_v38_kept (V : Valuation τ sig (Elt Ideal)) : after (hostOps0_5 (F := Ideal)) V (no_index (Proc.devRef .tc main_v38)) = V (Proc.devRef .tc main_v38) :=
  hostOps0_5_rest V _ (by decide)

theorem hostOps0_5_v39_kept (V : Valuation τ sig (Elt Ideal)) : after (hostOps0_5 (F := Ideal)) V (no_index (Proc.devRef .tc main_v39)) = V (Proc.devRef .tc main_v39) :=
  hostOps0_5_rest V _ (by decide)

theorem hostOps0_5_v47_kept (V : Valuation τ sig (Elt Ideal)) : after (hostOps0_5 (F := Ideal)) V (no_index (Proc.devRef .tc main_v47)) = V (Proc.devRef .tc main_v47) :=
  hostOps0_5_rest V _ (by decide)

theorem hostOps0_5_v50_kept (V : Valuation τ sig (Elt Ideal)) : after (hostOps0_5 (F := Ideal)) V (no_index (Proc.devRef .tc main_v50)) = V (Proc.devRef .tc main_v50) :=
  hostOps0_5_rest V _ (by decide)

theorem hostOps0_5_v51_kept (V : Valuation τ sig (Elt Ideal)) : after (hostOps0_5 (F := Ideal)) V (no_index (Proc.devRef .tc main_v51)) = V (Proc.devRef .tc main_v51) :=
  hostOps0_5_rest V _ (by decide)

theorem hostOps0_5_v60_kept (V : Valuation τ sig (Elt Ideal)) : after (hostOps0_5 (F := Ideal)) V (no_index (Proc.devRef .tc main_v60)) = V (Proc.devRef .tc main_v60) :=
  hostOps0_5_rest V _ (by decide)

theorem hostOps0_5_v67_kept (V : Valuation τ sig (Elt Ideal)) : after (hostOps0_5 (F := Ideal)) V (no_index (Proc.devRef .tc main_v67)) = V (Proc.devRef .tc main_v67) :=
  hostOps0_5_rest V _ (by decide)

theorem hostOps0_5_v69_kept (V : Valuation τ sig (Elt Ideal)) : after (hostOps0_5 (F := Ideal)) V (no_index (Proc.devRef .tc main_v69)) = V (Proc.devRef .tc main_v69) :=
  hostOps0_5_rest V _ (by decide)

theorem hostOps0_5_v70_kept (V : Valuation τ sig (Elt Ideal)) : after (hostOps0_5 (F := Ideal)) V (no_index (Proc.devRef .tc main_v70)) = V (Proc.devRef .tc main_v70) :=
  hostOps0_5_rest V _ (by decide)

theorem hostOps0_5_v71_kept (V : Valuation τ sig (Elt Ideal)) : after (hostOps0_5 (F := Ideal)) V (no_index (Proc.devRef .tc main_v71)) = V (Proc.devRef .tc main_v71) :=
  hostOps0_5_rest V _ (by decide)

theorem hostOps0_5_v72_kept (V : Valuation τ sig (Elt Ideal)) : after (hostOps0_5 (F := Ideal)) V (no_index (Proc.devRef .tc main_v72)) = V (Proc.devRef .tc main_v72) :=
  hostOps0_5_rest V _ (by decide)

theorem hostOps0_6_v10_kept (V : Valuation τ sig (Elt Ideal)) : after (hostOps0_6 (F := Ideal)) V (no_index (Proc.devRef .tc main_v10)) = V (Proc.devRef .tc main_v10) :=
  hostOps0_6_rest V _ (by decide)

theorem hostOps0_6_v38_kept (V : Valuation τ sig (Elt Ideal)) : after (hostOps0_6 (F := Ideal)) V (no_index (Proc.devRef .tc main_v38)) = V (Proc.devRef .tc main_v38) :=
  hostOps0_6_rest V _ (by decide)

theorem hostOps0_6_v39_kept (V : Valuation τ sig (Elt Ideal)) : after (hostOps0_6 (F := Ideal)) V (no_index (Proc.devRef .tc main_v39)) = V (Proc.devRef .tc main_v39) :=
  hostOps0_6_rest V _ (by decide)

theorem hostOps0_6_v47_kept (V : Valuation τ sig (Elt Ideal)) : after (hostOps0_6 (F := Ideal)) V (no_index (Proc.devRef .tc main_v47)) = V (Proc.devRef .tc main_v47) :=
  hostOps0_6_rest V _ (by decide)

theorem hostOps0_6_v50_kept (V : Valuation τ sig (Elt Ideal)) : after (hostOps0_6 (F := Ideal)) V (no_index (Proc.devRef .tc main_v50)) = V (Proc.devRef .tc main_v50) :=
  hostOps0_6_rest V _ (by decide)

theorem hostOps0_6_v70_kept (V : Valuation τ sig (Elt Ideal)) : after (hostOps0_6 (F := Ideal)) V (no_index (Proc.devRef .tc main_v70)) = V (Proc.devRef .tc main_v70) :=
  hostOps0_6_rest V _ (by decide)

theorem hostOps0_6_v71_kept (V : Valuation τ sig (Elt Ideal)) : after (hostOps0_6 (F := Ideal)) V (no_index (Proc.devRef .tc main_v71)) = V (Proc.devRef .tc main_v71) :=
  hostOps0_6_rest V _ (by decide)

theorem hostOps0_6_v72_kept (V : Valuation τ sig (Elt Ideal)) : after (hostOps0_6 (F := Ideal)) V (no_index (Proc.devRef .tc main_v72)) = V (Proc.devRef .tc main_v72) :=
  hostOps0_6_rest V _ (by decide)

theorem hostOps0_7_v10_kept (V : Valuation τ sig (Elt Ideal)) : after (hostOps0_7 (F := Ideal)) V (no_index (Proc.devRef .tc main_v10)) = V (Proc.devRef .tc main_v10) :=
  hostOps0_7_rest V _ (by decide)

theorem hostOps0_7_v38_kept (V : Valuation τ sig (Elt Ideal)) : after (hostOps0_7 (F := Ideal)) V (no_index (Proc.devRef .tc main_v38)) = V (Proc.devRef .tc main_v38) :=
  hostOps0_7_rest V _ (by decide)

theorem hostOps0_7_v39_kept (V : Valuation τ sig (Elt Ideal)) : after (hostOps0_7 (F := Ideal)) V (no_index (Proc.devRef .tc main_v39)) = V (Proc.devRef .tc main_v39) :=
  hostOps0_7_rest V _ (by decide)

theorem hostOps0_7_v47_kept (V : Valuation τ sig (Elt Ideal)) : after (hostOps0_7 (F := Ideal)) V (no_index (Proc.devRef .tc main_v47)) = V (Proc.devRef .tc main_v47) :=
  hostOps0_7_rest V _ (by decide)

theorem hostOps0_7_v50_kept (V : Valuation τ sig (Elt Ideal)) : after (hostOps0_7 (F := Ideal)) V (no_index (Proc.devRef .tc main_v50)) = V (Proc.devRef .tc main_v50) :=
  hostOps0_7_rest V _ (by decide)

theorem hostOps0_7_v60_kept (V : Valuation τ sig (Elt Ideal)) : after (hostOps0_7 (F := Ideal)) V (no_index (Proc.devRef .tc main_v60)) = V (Proc.devRef .tc main_v60) :=
  hostOps0_7_rest V _ (by decide)

theorem hostOps0_7_v71_kept (V : Valuation τ sig (Elt Ideal)) : after (hostOps0_7 (F := Ideal)) V (no_index (Proc.devRef .tc main_v71)) = V (Proc.devRef .tc main_v71) :=
  hostOps0_7_rest V _ (by decide)

theorem hostOps0_7_v72_kept (V : Valuation τ sig (Elt Ideal)) : after (hostOps0_7 (F := Ideal)) V (no_index (Proc.devRef .tc main_v72)) = V (Proc.devRef .tc main_v72) :=
  hostOps0_7_rest V _ (by decide)

theorem hostOps0_8_v10_kept (V : Valuation τ sig (Elt Ideal)) : after (hostOps0_8 (F := Ideal)) V (no_index (Proc.devRef .tc main_v10)) = V (Proc.devRef .tc main_v10) :=
  hostOps0_8_rest V _ (by decide)

theorem hostOps0_8_v38_kept (V : Valuation τ sig (Elt Ideal)) : after (hostOps0_8 (F := Ideal)) V (no_index (Proc.devRef .tc main_v38)) = V (Proc.devRef .tc main_v38) :=
  hostOps0_8_rest V _ (by decide)

theorem hostOps0_8_v39_kept (V : Valuation τ sig (Elt Ideal)) : after (hostOps0_8 (F := Ideal)) V (no_index (Proc.devRef .tc main_v39)) = V (Proc.devRef .tc main_v39) :=
  hostOps0_8_rest V _ (by decide)

theorem hostOps0_8_v47_kept (V : Valuation τ sig (Elt Ideal)) : after (hostOps0_8 (F := Ideal)) V (no_index (Proc.devRef .tc main_v47)) = V (Proc.devRef .tc main_v47) :=
  hostOps0_8_rest V _ (by decide)

theorem hostOps0_8_v50_kept (V : Valuation τ sig (Elt Ideal)) : after (hostOps0_8 (F := Ideal)) V (no_index (Proc.devRef .tc main_v50)) = V (Proc.devRef .tc main_v50) :=
  hostOps0_8_rest V _ (by decide)

theorem hostOps0_8_v60_kept (V : Valuation τ sig (Elt Ideal)) : after (hostOps0_8 (F := Ideal)) V (no_index (Proc.devRef .tc main_v60)) = V (Proc.devRef .tc main_v60) :=
  hostOps0_8_rest V _ (by decide)

theorem hostOps0_8_v70_kept (V : Valuation τ sig (Elt Ideal)) : after (hostOps0_8 (F := Ideal)) V (no_index (Proc.devRef .tc main_v70)) = V (Proc.devRef .tc main_v70) :=
  hostOps0_8_rest V _ (by decide)

theorem hostOps0_8_v72_kept (V : Valuation τ sig (Elt Ideal)) : after (hostOps0_8 (F := Ideal)) V (no_index (Proc.devRef .tc main_v72)) = V (Proc.devRef .tc main_v72) :=
  hostOps0_8_rest V _ (by decide)

theorem hostOps0_9_v10_kept (V : Valuation τ sig (Elt Ideal)) : after (hostOps0_9 (F := Ideal)) V (no_index (Proc.devRef .tc main_v10)) = V (Proc.devRef .tc main_v10) :=
  hostOps0_9_rest V _ (by decide)

theorem hostOps0_9_v38_kept (V : Valuation τ sig (Elt Ideal)) : after (hostOps0_9 (F := Ideal)) V (no_index (Proc.devRef .tc main_v38)) = V (Proc.devRef .tc main_v38) :=
  hostOps0_9_rest V _ (by decide)

theorem hostOps0_9_v39_kept (V : Valuation τ sig (Elt Ideal)) : after (hostOps0_9 (F := Ideal)) V (no_index (Proc.devRef .tc main_v39)) = V (Proc.devRef .tc main_v39) :=
  hostOps0_9_rest V _ (by decide)

theorem hostOps0_9_v47_kept (V : Valuation τ sig (Elt Ideal)) : after (hostOps0_9 (F := Ideal)) V (no_index (Proc.devRef .tc main_v47)) = V (Proc.devRef .tc main_v47) :=
  hostOps0_9_rest V _ (by decide)

theorem hostOps0_9_v50_kept (V : Valuation τ sig (Elt Ideal)) : after (hostOps0_9 (F := Ideal)) V (no_index (Proc.devRef .tc main_v50)) = V (Proc.devRef .tc main_v50) :=
  hostOps0_9_rest V _ (by decide)

theorem hostOps0_9_v60_kept (V : Valuation τ sig (Elt Ideal)) : after (hostOps0_9 (F := Ideal)) V (no_index (Proc.devRef .tc main_v60)) = V (Proc.devRef .tc main_v60) :=
  hostOps0_9_rest V _ (by decide)

theorem hostOps0_9_v70_kept (V : Valuation τ sig (Elt Ideal)) : after (hostOps0_9 (F := Ideal)) V (no_index (Proc.devRef .tc main_v70)) = V (Proc.devRef .tc main_v70) :=
  hostOps0_9_rest V _ (by decide)

theorem hostOps0_9_v71_kept (V : Valuation τ sig (Elt Ideal)) : after (hostOps0_9 (F := Ideal)) V (no_index (Proc.devRef .tc main_v71)) = V (Proc.devRef .tc main_v71) :=
  hostOps0_9_rest V _ (by decide)

/-- One trip of the loop: the new row factors from the old. -/
def r_trip (p : FVec Ideal S1000x36864 .f32) (e : FVec Ideal S1000x1 .f32) (c : FVec Ideal S36864x1 .f32) : FVec Ideal S36864x1 .f32 :=
  Host.divf (broadcastInDim S36864x1 ![] bcast_S_S36864x1 (Host.divf (constant (F := Ideal) S_ .f32 0x3F800000#32) (constant (F := Ideal) S_ .f32 0x47100000#32)))
    (transpose S36864x1 [1, 0] (Host.dotGeneral dot_S1x1000_S1000x36864_S1x36864_1_0_0_1_n_n none
      (transpose S1x1000 [1, 0] (Host.divf e (Host.dotGeneral dot_S1000x36864_S36864x1_S1000x1_1_0_0_1_n_n none p c)) transposes_S1000x1_S1x1000_1_0) p)
      transposes_S1x36864_S36864x1_1_0)

/-- What follows the loop, of the values it reads. -/
def r_tail (a0 a1 x10 : FVec Ideal S4096x1000 .f32) (x15 : FVec Ideal S1000x1 .f32) (x38 : FVec Ideal S4096x1000 .f32) : FVec Ideal S4096 .f32 :=
  let x39 := (r_v39 x38)
  let x40 := (r_v40 a0)
  let x50 := (r_v50 x40 x38)
  let x60 := (r_v60 r_v51 (r_v58 (r_v52 r_c_13 x39)))
  let x71 := (r_v71 x39 x50)
  (r_v116 (r_v110 (r_v105 (r_v97 (r_v96 x71) (r_v89 (r_v88 (r_v73 (r_v72 x60) x60) (r_v87 (r_v81 x39 (r_v80 (r_v79 x71))))))) (r_v104 (r_v70 (r_v69 x60) r_c_20 (r_v67 x15)) (r_v103 x39))) (r_v109 x38 x10)) x50 (r_v47 x40 a1))

theorem tail_value (V : Valuation τ sig (Elt Ideal)) :
    after (hostOps0_10 (F := Ideal)) (after hostOps0_9 (after hostOps0_8 (after hostOps0_7 (after hostOps0_6 (after hostOps0_5
      (after hostOps0_4 (after hostOps0_3 (after hostOps0_2 (after hostOps0_1 V))))))))) (Proc.devRef .tc main_v116)
      = r_tail (V (Proc.devRef .tc main_arg0)) (V (Proc.devRef .tc main_arg1)) (V (Proc.devRef .tc main_v10)) (V (Proc.devRef .tc main_v15))
          (r_v38 (V (Proc.devRef .tc main_v20)) (V (Proc.devRef .tc main_v24_4)) (V (Proc.devRef .tc main_v15))) := by
  simp only [hostOps0_1_v38, hostOps0_2_v39, hostOps0_3_v40, hostOps0_4_v47, hostOps0_4_v50, hostOps0_4_v51, hostOps0_4_c_13, hostOps0_5_v52, hostOps0_6_v60, hostOps0_6_v67, hostOps0_6_v69, hostOps0_6_c_20, hostOps0_7_v70, hostOps0_8_v71, hostOps0_9_v72, hostOps0_10_v116, hostOps0_1_arg0_kept, hostOps0_1_arg1_kept, hostOps0_1_c_13_kept, hostOps0_1_c_20_kept, hostOps0_1_v10_kept, hostOps0_1_v15_kept, hostOps0_1_v39_kept, hostOps0_1_v40_kept, hostOps0_1_v47_kept, hostOps0_1_v50_kept, hostOps0_1_v51_kept, hostOps0_1_v52_kept, hostOps0_1_v60_kept, hostOps0_1_v67_kept, hostOps0_1_v69_kept, hostOps0_1_v70_kept, hostOps0_1_v71_kept, hostOps0_1_v72_kept, hostOps0_2_arg0_kept, hostOps0_2_arg1_kept, hostOps0_2_c_13_kept, hostOps0_2_c_20_kept, hostOps0_2_v10_kept, hostOps0_2_v15_kept, hostOps0_2_v38_kept, hostOps0_2_v40_kept, hostOps0_2_v47_kept, hostOps0_2_v50_kept, hostOps0_2_v51_kept, hostOps0_2_v52_kept, hostOps0_2_v60_kept, hostOps0_2_v67_kept, hostOps0_2_v69_kept, hostOps0_2_v70_kept, hostOps0_2_v71_kept, hostOps0_2_v72_kept, hostOps0_3_arg1_kept, hostOps0_3_c_13_kept, hostOps0_3_c_20_kept, hostOps0_3_v10_kept, hostOps0_3_v15_kept, hostOps0_3_v38_kept, hostOps0_3_v39_kept, hostOps0_3_v47_kept, hostOps0_3_v50_kept, hostOps0_3_v51_kept, hostOps0_3_v52_kept, hostOps0_3_v60_kept, hostOps0_3_v67_kept, hostOps0_3_v69_kept, hostOps0_3_v70_kept, hostOps0_3_v71_kept, hostOps0_3_v72_kept, hostOps0_4_c_20_kept, hostOps0_4_v10_kept, hostOps0_4_v15_kept, hostOps0_4_v38_kept, hostOps0_4_v39_kept, hostOps0_4_v52_kept, hostOps0_4_v60_kept, hostOps0_4_v67_kept, hostOps0_4_v69_kept, hostOps0_4_v70_kept, hostOps0_4_v71_kept, hostOps0_4_v72_kept, hostOps0_5_c_20_kept, hostOps0_5_v10_kept, hostOps0_5_v15_kept, hostOps0_5_v38_kept, hostOps0_5_v39_kept, hostOps0_5_v47_kept, hostOps0_5_v50_kept, hostOps0_5_v51_kept, hostOps0_5_v60_kept, hostOps0_5_v67_kept, hostOps0_5_v69_kept, hostOps0_5_v70_kept, hostOps0_5_v71_kept, hostOps0_5_v72_kept, hostOps0_6_v10_kept, hostOps0_6_v38_kept, hostOps0_6_v39_kept, hostOps0_6_v47_kept, hostOps0_6_v50_kept, hostOps0_6_v70_kept, hostOps0_6_v71_kept, hostOps0_6_v72_kept, hostOps0_7_v10_kept, hostOps0_7_v38_kept, hostOps0_7_v39_kept, hostOps0_7_v47_kept, hostOps0_7_v50_kept, hostOps0_7_v60_kept, hostOps0_7_v71_kept, hostOps0_7_v72_kept, hostOps0_8_v10_kept, hostOps0_8_v38_kept, hostOps0_8_v39_kept, hostOps0_8_v47_kept, hostOps0_8_v50_kept, hostOps0_8_v60_kept, hostOps0_8_v70_kept, hostOps0_8_v72_kept, hostOps0_9_v10_kept, hostOps0_9_v38_kept, hostOps0_9_v39_kept, hostOps0_9_v47_kept, hostOps0_9_v50_kept, hostOps0_9_v60_kept, hostOps0_9_v70_kept, hostOps0_9_v71_kept]
  rfl

/-- The matrix the iteration runs on, transposed, of the arguments. -/
def r_mat (a0 a1 : FVec Ideal S4096x1000 .f32) (a2 : FVec Ideal S32768x1000 .f32) : FVec Ideal S1000x36864 .f32 :=
  r_v20 (r_v12 a2 (r_v11 (r_v10 a0) a1))

/-- The row factors after `k` trips. -/
def r_iter (a0 a1 : FVec Ideal S4096x1000 .f32) (a2 : FVec Ideal S32768x1000 .f32) (a3 : FVec Ideal S1000x1 .f32) (k : ℕ) : FVec Ideal S36864x1 .f32 :=
  (r_trip (r_mat a0 a1 a2) (r_v15 a3))^[k] r_v23

/-- The result, of the arguments. -/
def r_all (a0 a1 : FVec Ideal S4096x1000 .f32) (a2 : FVec Ideal S32768x1000 .f32) (a3 : FVec Ideal S1000x1 .f32) : FVec Ideal S4096 .f32 :=
  r_tail a0 a1 (r_v10 a0) (r_v15 a3) (r_v38 (r_mat a0 a1 a2) (r_iter a0 a1 a2 a3 50) (r_v15 a3))

variable (m : (ℓ : Loc nD τ sig) → Buf (Elt Ideal) ℓ)

theorem iter_carried (V : Valuation τ sig (Elt Ideal)) (k : ℕ) :
    STEP^[k] V (Proc.devRef .tc main_v24_0) = V (Proc.devRef .tc main_v24_0)
    ∧ STEP^[k] V (Proc.devRef .tc main_v24_1) = V (Proc.devRef .tc main_v24_1)
    ∧ STEP^[k] V (Proc.devRef .tc main_v24_4)
        = (r_trip (V (Proc.devRef .tc main_v24_0)) (V (Proc.devRef .tc main_v24_1)))^[k] (V (Proc.devRef .tc main_v24_4)) := by
  induction k with
  | zero => exact ⟨rfl, rfl, rfl⟩
  | succ k ih =>
    obtain ⟨h0, h1, h4⟩ := ih
    rw [Function.iterate_succ_apply', Function.iterate_succ_apply', STEP_main_v24_0, STEP_main_v24_1, STEP_main_v24_4]
    refine ⟨h0, h1, ?_⟩
    rw [← h4, ← h0, ← h1]
    rfl

theorem trip_kept (c : Dev nD) (b : Ref sig .tc) (hb : b ∈ ([main_arg0, main_arg1, main_v10, main_v15, main_v20] : List (Ref sig .tc))) (k : ℕ) :
    atTrip (condOps (F := Ideal)) bodyI (entryContents preI m) k c (Proc.devRef .tc b) = entryContents preI m c (Proc.devRef .tc b) := by
  induction k with
  | zero => rfl
  | succ k ih => exact (while0Ops0_rest _ b hb).trans ((condOps_rest _ b hb).trans ih)

theorem ref_value (c : Dev nD) :
    finalContents (condOps (F := Ideal)) preI bodyI postI 50 m c (Proc.devRef .tc main_v116)
      = r_all (m (c.tc.loc main_arg0)) (m (c.tc.loc main_arg1)) (m (c.tc.loc main_arg2)) (m (c.tc.loc main_arg3)) := by
  have h := tail_value (after (condOps (F := Ideal)) (atTrip condOps bodyI (entryContents preI m) 50 c))
  have hk : ∀ b ∈ ([main_arg0, main_arg1, main_v10, main_v15, main_v20] : List (Ref sig .tc)),
      after (condOps (F := Ideal)) (atTrip condOps bodyI (entryContents preI m) 50 c) (Proc.devRef .tc b)
        = entryContents preI m c (Proc.devRef .tc b) :=
    fun b hb => (condOps_rest _ b hb).trans (trip_kept m c b hb 50)
  have h4 : after (condOps (F := Ideal)) (atTrip condOps bodyI (entryContents preI m) 50 c) (Proc.devRef .tc main_v24_4)
      = r_iter (m (c.tc.loc main_arg0)) (m (c.tc.loc main_arg1)) (m (c.tc.loc main_arg2)) (m (c.tc.loc main_arg3)) 50 := by
    rw [cond_keeps _ main_v24_4 (by decide)]
    refine (atK_agree m c 50 main_v24_4 (by decide)).trans ((iter_carried _ 50).2.2.trans ?_)
    have e0 : entryContents (F := Ideal) preI m c (Proc.devRef .tc main_v24_0) = _ := hostOps0_v24_0 _
    have e1 : entryContents (F := Ideal) preI m c (Proc.devRef .tc main_v24_1) = _ := hostOps0_v24_1 _
    have e4 : entryContents (F := Ideal) preI m c (Proc.devRef .tc main_v24_4) = _ := hostOps0_v24_4 _
    rw [e0, e1, e4]
    rfl
  refine Eq.trans ?_ (h.trans ?_)
  · rfl
  · rw [hk _ (by decide), hk _ (by decide), hk _ (by decide), hk _ (by decide), hk _ (by decide), h4]
    have e10 : entryContents (F := Ideal) preI m c (Proc.devRef .tc main_v10) = _ := hostOps0_v10 _
    have e15 : entryContents (F := Ideal) preI m c (Proc.devRef .tc main_v15) = _ := hostOps0_v15 _
    have e20 : entryContents (F := Ideal) preI m c (Proc.devRef .tc main_v20) = _ := hostOps0_v20 _
    have a0 : entryContents (F := Ideal) preI m c (Proc.devRef .tc main_arg0) = m (c.tc.loc main_arg0) :=
      Cert.ReferenceIdeal.Whole.hostOps0_keeps _ _ (by decide)
    have a1 : entryContents (F := Ideal) preI m c (Proc.devRef .tc main_arg1) = m (c.tc.loc main_arg1) :=
      Cert.ReferenceIdeal.Whole.hostOps0_keeps _ _ (by decide)
    rw [e10, e15, e20, a0, a1]
    rfl

end Cert.ReferenceIdeal.Val
-- ==== Proof.RefRows.lean ====
module

public import proofs.«01_k».proof.Proof.RefAll

@[expose] public section

set_option maxRecDepth 16384

noncomputable section

/-! The reference's named values, entry by entry. -/

namespace Cert.ReferenceIdeal.Val

open Idealize.ShloMosaic
open Cert.ReferenceIdeal Cert.ReferenceIdeal.Gen

theorem negInf_eq : Ideal.ofBits .f32 0xFF800000#32 = (⊥ : EReal) := by
  simp [Ideal.ofBits, Ideal.ieee]

theorem max_ap (a b : FVec Ideal S4096 .f32) (i : Fin 4096) : maximumf a b (ix1 i) = max (a (ix1 i)) (b (ix1 i)) := rfl

theorem inf_ap (i : Fin 4096) : broadcastInDim S4096 ![] bcast_S_S4096 (constant (F := Ideal) S_ .f32 0xFF800000#32) (ix1 i) = (⊥ : EReal) := by
  pointwise []
  exact negInf_eq

theorem rowFold_ap (x : FVec Ideal S4096x1000 .f32) (i : Fin 4096) :
    Host.reduce FloatOps.maximumf x (constant (F := Ideal) S_ .f32 0xFF800000#32) reducesTo_S4096x1000_S4096_d1 h_S_ (ix1 i)
      = Finset.univ.fold max (⊥ : EReal) (fun k : Fin 1000 => x (ix2 i k)) := by
  pointwise []
  rw [negInf_eq]

theorem r_max_ap (x : FVec Ideal S4096x1000 .f32) (i : Fin 4096) :
    r_max x (ix1 i) = Finset.univ.fold max (⊥ : EReal) (fun k : Fin 1000 => x (ix2 i k)) := by
  unfold r_max
  rw [max_ap, inf_ap, rowFold_ap]
  exact bot_sup_eq _

theorem r_sh_ap (x : FVec Ideal S4096x1000 .f32) (i : Fin 4096) (k : Fin 1000) :
    r_sh x (ix2 i k) = x (ix2 i k) - r_max x (ix1 i) := by
  pointwise [r_sh]

theorem r_sum_ap (x : FVec Ideal S4096x1000 .f32) (i : Fin 4096) :
    r_sum x (ix1 i) = ∑ k : Fin 1000, Ideal.exp (r_sh x (ix2 i k)) := by
  pointwise [r_sum]

theorem r_v10_ap (x : FVec Ideal S4096x1000 .f32) (i : Fin 4096) (k : Fin 1000) :
    r_v10 x (ix2 i k) = Ideal.div (Ideal.exp (r_sh x (ix2 i k))) (r_sum x (ix1 i)) := by
  pointwise [r_v10]

theorem r_v40_ap (x : FVec Ideal S4096x1000 .f32) (i : Fin 4096) (k : Fin 1000) :
    r_v40 x (ix2 i k) = r_sh x (ix2 i k) - Ideal.log (r_sum x (ix1 i)) := by
  pointwise [r_v40]

theorem r_v47_ap (l y : FVec Ideal S4096x1000 .f32) (i : Fin 4096) :
    r_v47 l y (ix1 i) = -∑ k : Fin 1000, l (ix2 i k) * Ideal.div (y (ix2 i k)) (∑ j : Fin 1000, y (ix2 i j)) := by
  pointwise [r_v47]

theorem r_v50_ap (l p : FVec Ideal S4096x1000 .f32) (i : Fin 4096) :
    r_v50 l p (ix1 i) = -∑ k : Fin 1000, l (ix2 i k) * p (ix2 i k) := by
  pointwise [r_v50]

theorem r_v109_ap (a b : FVec Ideal S4096x1000 .f32) (i : Fin 4096) :
    r_v109 a b (ix1 i) = BitVec.ofBool (decide (Ideal.ofBits .f32 0x3F7D70A4#32 < ∑ k : Fin 1000, a (ix2 i k) * b (ix2 i k))) := by
  pointwise [r_v109]

theorem r_v116_ap (a : IVec S4096 1) (b c : FVec Ideal S4096 .f32) (i : Fin 4096) :
    r_v116 a b c (ix1 i)
      = (FloatOps.uitofp .f32 (a (ix1 i)) : Ideal .f32) * b (ix1 i) + (1 - (FloatOps.uitofp .f32 (a (ix1 i)) : Ideal .f32)) * c (ix1 i) := by
  pointwise [r_v116]

theorem r_v67_ap (e : FVec Ideal S1000x1 .f32) (k : Fin 1000) :
    r_v67 e (ix1 k) = FloatOps.fptosi (F := Ideal) (φ := .f32) 32
      (Ideal.liftRound Int.ceil ((Ideal.ofBits .f32 0x45800000#32 * e (ix2 k 0)) * Ideal.ofBits .f32 0x3F000000#32)) := by
  pointwise [r_v67]

theorem r_v15_ap (e : FVec Ideal S1000x1 .f32) (k : Fin 1000) :
    r_v15 e (ix2 k 0) = Ideal.div (e (ix2 k 0)) (∑ j : Fin 1000, e (ix2 j 0)) := by
  pointwise [r_v15]
  simp

theorem r_v23_ap (n : Fin 36864) : r_v23 (ix2 n 0) = Ideal.div 1 (Ideal.ofBits .f32 0x47100000#32) := by
  pointwise [r_v23]

theorem r_trip_ap (p : FVec Ideal S1000x36864 .f32) (e : FVec Ideal S1000x1 .f32) (c : FVec Ideal S36864x1 .f32) (n : Fin 36864) :
    r_trip p e c (ix2 n 0) = Ideal.div (Ideal.div 1 (Ideal.ofBits .f32 0x47100000#32))
      (∑ k : Fin 1000, Ideal.div (e (ix2 k 0)) (∑ j : Fin 36864, p (ix2 k j) * c (ix2 j 0)) * p (ix2 k n)) := by
  pointwise [r_trip]

theorem r_v38_ap (p : FVec Ideal S1000x36864 .f32) (c : FVec Ideal S36864x1 .f32) (e : FVec Ideal S1000x1 .f32) (i : Fin 4096) (k : Fin 1000) :
    r_v38 p c e (ix2 i k) = p (ix2 k ⟨32768 + i.val, by omega⟩) * c (ix2 ⟨32768 + i.val, by omega⟩ 0)
      * Ideal.div (e (ix2 k 0)) (∑ j : Fin 36864, p (ix2 k j) * c (ix2 j 0)) * Ideal.ofBits .f32 0x47100000#32 := by
  pointwise [r_v38]

theorem r_v11_ap (a b : FVec Ideal S4096x1000 .f32) (i : Fin 4096) (k : Fin 1000) : r_v11 a b (ix2 i k) = a (ix2 i k) * b (ix2 i k) := by
  pointwise [r_v11]

end Cert.ReferenceIdeal.Val
-- ==== Proof.RefMat.lean ====
module

public import proofs.«01_k».proof.Proof.RefRows

@[expose] public section

set_option maxRecDepth 16384

noncomputable section

/-! The reference's stacked matrix and its scaling loop, in the terms of the scaling iteration. -/

namespace Cert.ReferenceIdeal.Val

open Idealize.ShloMosaic
open Cert.ReferenceIdeal Cert.ReferenceIdeal.Gen
open Cert.KernelIdeal.Val (eps invN Good itR colR rowR planR)

theorem one_eq : Ideal.ofBits .f32 0x3F800000#32 = (1 : EReal) := by
  simp [Ideal.ofBits, Ideal.ieee, -EReal.coe_mul]
  norm_num

theorem bigN_eq : Ideal.ofBits .f32 0x47100000#32 = ((36864 : ℝ) : EReal) := by
  simp [Ideal.ofBits, Ideal.ieee, -EReal.coe_mul]
  norm_num

theorem div_bigN : Ideal.div 1 (Ideal.ofBits .f32 0x47100000#32) = invN := by
  rw [bigN_eq]
  unfold invN Ideal.div
  rw [if_neg (by exact_mod_cast (by norm_num : (36864 : ℝ) ≠ 0)), one_mul, ← EReal.coe_inv]
  norm_num

theorem pow_one_eq (x : EReal) : Ideal.pow x 1 = x := by
  unfold Ideal.pow
  induction x with
  | bot => rfl
  | top => exact if_pos zero_lt_one
  | coe r => exact congrArg (fun z : ℝ => (z : EReal)) (Real.rpow_one r)

/-- The stacked matrix: the queue's rows, then the predictions times the labels. -/
def matX (a0 a1 : FVec Ideal S4096x1000 .f32) (a2 : FVec Ideal S32768x1000 .f32) (n : Fin 36864) (k : Fin 1000) : EReal :=
  if h : n.val < 32768 then a2 (ix2 ⟨n.val, h⟩ k)
  else r_v10 a0 (ix2 ⟨n.val - 32768, by omega⟩ k) * a1 (ix2 ⟨n.val - 32768, by omega⟩ k)

theorem r_v12_ap (x : FVec Ideal S32768x1000 .f32) (y : FVec Ideal S4096x1000 .f32) (n : Fin 36864) (k : Fin 1000) :
    r_v12 x y (ix2 n k) = if h : n.val < 32768 then x (ix2 ⟨n.val, h⟩ k) else y (ix2 ⟨n.val - 32768, by omega⟩ k) := by
  pointwise [r_v12]

theorem r_v20_ap (x : FVec Ideal S36864x1000 .f32) (n : Fin 36864) (k : Fin 1000) :
    r_v20 x (ix2 k n) = x (ix2 n k) + eps := by
  have h : r_v20 x (ix2 k n) = Ideal.pow (x (ix2 n k) + Ideal.ofBits .f32 0x322BCC77#32) 1 := by
    pointwise [r_v20]
  rw [h, pow_one_eq]
  rfl

theorem r_mat_ap (a0 a1 : FVec Ideal S4096x1000 .f32) (a2 : FVec Ideal S32768x1000 .f32) (n : Fin 36864) (k : Fin 1000) :
    r_mat a0 a1 a2 (ix2 k n) = matX a0 a1 a2 n k + eps := by
  unfold r_mat matX
  rw [r_v20_ap, r_v12_ap]
  simp only [r_v11_ap]

variable (a0 a1 : FVec Ideal S4096x1000 .f32) (a2 : FVec Ideal S32768x1000 .f32) (a3 : FVec Ideal S1000x1 .f32)

theorem r_iter_ap (p : ℕ) (n : Fin 36864) :
    r_iter a0 a1 a2 a3 p (ix2 n 0) = itR (matX a0 a1 a2) (fun k => r_v15 a3 (ix2 k 0)) p n := by
  induction p generalizing n with
  | zero =>
    show r_v23 (ix2 n 0) = invN
    rw [r_v23_ap, div_bigN]
  | succ p ih =>
    have h : r_iter a0 a1 a2 a3 (p + 1) = r_trip (r_mat a0 a1 a2) (r_v15 a3) (r_iter a0 a1 a2 a3 p) :=
      Function.iterate_succ_apply' _ _ _
    rw [h, r_trip_ap, div_bigN]
    simp only [r_mat_ap, ih]
    rfl

theorem plabel_ap (i : Fin 4096) (k : Fin 1000) :
    r_v38 (r_mat a0 a1 a2) (r_iter a0 a1 a2 a3 50) (r_v15 a3) (ix2 i k)
      = planR (matX a0 a1 a2) (fun k => r_v15 a3 (ix2 k 0)) ⟨32768 + i.val, by omega⟩ k := by
  rw [r_v38_ap]
  simp only [r_mat_ap, r_iter_ap]
  rfl

theorem exp_nonneg' (x : EReal) : 0 ≤ Ideal.exp x := by
  unfold Ideal.exp
  induction x with
  | bot => exact le_refl (0 : EReal)
  | top => exact le_top
  | coe r => exact EReal.coe_nonneg.2 (Real.exp_pos r).le

theorem good_div {x y : EReal} (hx : 0 ≤ x) (hy : 0 ≤ y) : Good (Ideal.div x y) := by
  unfold Ideal.div
  split
  · split
    · exact Or.inr le_top
    · exact Or.inl rfl
  · exact Or.inr (mul_nonneg hx (EReal.inv_nonneg_of_nonneg hy))

theorem good_mul {x y : EReal} (hx : Good x) (hy : 0 ≤ y) : Good (x * y) := by
  rcases hx with rfl | hx
  · rcases hy.eq_or_lt with rfl | hy
    · right; simp
    · left; exact EReal.bot_mul_of_pos hy
  · exact Or.inr (mul_nonneg hx hy)

/-- Every entry of the stacked matrix is the least element or nonnegative, the queue and the labels being nonnegative. -/
theorem matX_good (h1 : ∀ i k, 0 ≤ a1 (ix2 i k)) (h2 : ∀ i k, 0 ≤ a2 (ix2 i k)) (n : Fin 36864) (k : Fin 1000) :
    Good (matX a0 a1 a2 n k) := by
  unfold matX
  split
  · exact Or.inr (h2 _ _)
  · refine good_mul ?_ (h1 _ _)
    rw [r_v10_ap, r_sum_ap]
    exact good_div (exp_nonneg' _) (Finset.sum_nonneg fun _ _ => exp_nonneg' _)

end Cert.ReferenceIdeal.Val
-- ==== Proof.RankMath.lean ====
module

public import proofs.«01_k».proof.Proof.RefMat
public import Idealize.ShloMosaic.Lib.SortFacts
public import Idealize.ShloMosaic.Lib.SortPrefix
public import Mathlib.Data.Prod.Lex

@[expose] public section

noncomputable section

/-! The first position of a row's greatest entry, and the place of an element among those of its class, counted. -/

namespace Cert.Rank

open Idealize.ShloMosaic

/-- `k` is the first position at which `v` is greatest. -/
def IsTop (v : Fin 1000 → EReal) (k : Fin 1000) : Prop := (∀ j, v j ≤ v k) ∧ ∀ j, v j = v k → k ≤ j

theorem IsTop.unique {v : Fin 1000 → EReal} {a b : Fin 1000} (ha : IsTop v a) (hb : IsTop v b) : a = b :=
  le_antisymm (ha.2 b (le_antisymm (ha.1 b) (hb.1 a))) (hb.2 a (le_antisymm (hb.1 a) (ha.1 b)))

theorem exists_isTop (v : Fin 1000 → EReal) : ∃ k, IsTop v k := by
  obtain ⟨m, -, hm⟩ := Finset.exists_max_image (Finset.univ : Finset (Fin 1000)) v ⟨0, Finset.mem_univ _⟩
  obtain ⟨k, hk, hmin⟩ := Finset.exists_min_image ((Finset.univ : Finset (Fin 1000)).filter fun j => v j = v m) id
    ⟨m, by simp⟩
  have hkm : v k = v m := (Finset.mem_filter.1 hk).2
  refine ⟨k, fun j => hkm ▸ hm j (Finset.mem_univ _), fun j hj => hmin j ?_⟩
  rw [Finset.mem_filter]
  exact ⟨Finset.mem_univ _, hj.trans hkm⟩

/-- The first position at which `v` is greatest. -/
def top (v : Fin 1000 → EReal) : Fin 1000 := Classical.choose (exists_isTop v)

theorem top_spec (v : Fin 1000 → EReal) : IsTop v (top v) := Classical.choose_spec (exists_isTop v)

theorem fold_max (v : Fin 1000 → EReal) : Finset.univ.fold max (⊥ : EReal) v = v (top v) := by
  refine le_antisymm ?_ ?_
  · rw [Finset.fold_max_le]
    exact ⟨bot_le, fun k _ => (top_spec v).1 k⟩
  · rw [Finset.le_fold_max]
    exact Or.inr ⟨top v, Finset.mem_univ _, le_rfl⟩

/-- `a` is at least as good as `b`: greater, or equal with no later position. -/
def Beats (a b : EReal × BitVec 32) : Prop := b.1 < a.1 ∨ (b.1 = a.1 ∧ a.2.toInt ≤ b.2.toInt)

theorem Beats.refl (a : EReal × BitVec 32) : Beats a a := Or.inr ⟨rfl, le_rfl⟩

theorem Beats.trans {a b c : EReal × BitVec 32} (h : Beats a b) (h' : Beats b c) : Beats a c := by
  rcases h with h | ⟨h, k⟩ <;> rcases h' with h' | ⟨h', k'⟩
  · exact Or.inl (h'.trans h)
  · exact Or.inl (h' ▸ h)
  · exact Or.inl (h ▸ h')
  · exact Or.inr ⟨h'.trans h, k.trans k'⟩

/-- A fold by a choice of the better of two ends at one of the pairs met, at least as good as all of them. -/
theorem foldl_best (f : EReal × BitVec 32 → EReal × BitVec 32 → EReal × BitVec 32)
    (hf : ∀ a b, (f a b = a ∨ f a b = b) ∧ Beats (f a b) a ∧ Beats (f a b) b) (l : List (EReal × BitVec 32)) (z : EReal × BitVec 32) :
    (l.foldl f z = z ∨ l.foldl f z ∈ l) ∧ Beats (l.foldl f z) z ∧ ∀ p ∈ l, Beats (l.foldl f z) p := by
  induction l generalizing z with
  | nil => exact ⟨Or.inl rfl, Beats.refl z, fun p hp => (List.not_mem_nil hp).elim⟩
  | cons b l ih =>
    obtain ⟨h1, h2, h3⟩ := ih (f z b)
    obtain ⟨g1, g2, g3⟩ := hf z b
    rw [List.foldl_cons]
    refine ⟨?_, h2.trans g2, fun p hp => ?_⟩
    · rcases h1 with h1 | h1
      · rw [h1]
        rcases g1 with g1 | g1
        · exact Or.inl g1
        · exact Or.inr (List.mem_cons.2 (Or.inl g1))
      · exact Or.inr (List.mem_cons_of_mem _ h1)
    · rcases List.mem_cons.1 hp with rfl | hp
      · exact h2.trans g3
      · exact h3 p hp

theorem toInt_ofNat (n : ℕ) (h : n < 2 ^ 31) : (BitVec.ofNat 32 n).toInt = (n : ℤ) := by
  rw [BitVec.toInt_eq_toNat_cond, BitVec.toNat_ofNat]
  have : n % 2 ^ 32 = n := Nat.mod_eq_of_lt (by omega)
  rw [this, if_pos (by omega)]

/-- The best of a row's entries, each with its position, is the first greatest. -/
theorem best_is_top (v : Fin 1000 → EReal) (r : EReal × BitVec 32) (hr : r = (⊥, 0#32) ∨ ∃ k : Fin 1000, r = (v k, BitVec.ofNat 32 k.val))
    (hb : ∀ k : Fin 1000, Beats r (v k, BitVec.ofNat 32 k.val)) : r.2 = BitVec.ofNat 32 (top v).val := by
  have ht := top_spec v
  rcases hr with rfl | ⟨k, rfl⟩
  · have hall : ∀ k, v k = ⊥ := fun k => by
      rcases hb k with h | h
      · exact (not_lt_bot h).elim
      · exact h.1
    have : top v ≤ 0 := ht.2 0 ((hall 0).trans (hall _).symm)
    have h0 : (top v).val = 0 := Nat.le_zero.1 this
    rw [h0]
  · have : IsTop v k := ⟨fun j => by
        rcases hb j with h | h
        · exact h.le
        · exact h.1.le, fun j hj => by
        rcases hb j with h | h
        · exact absurd h (by simp only; rw [hj]; exact lt_irrefl _)
        · have := h.2
          simp only at this
          rw [toInt_ofNat _ (by omega), toInt_ofNat _ (by omega)] at this
          exact Fin.le_def.2 (by omega)⟩
    rw [this.unique ht]

/-- The least of the positions holding the greatest entry, the other positions replaced by a great number. -/
theorem fold_min (v : Fin 1000 → EReal) :
    Finset.univ.fold IntOp.minsi 2147483647#32 (fun k : Fin 1000 => if v k = v (top v) then BitVec.ofNat 32 k.val else 1000#32)
      = BitVec.ofNat 32 (top v).val := by
  have key : ∀ (f : Fin 1000 → BitVec 32) (s : Finset (Fin 1000)),
      (s.fold IntOp.minsi 2147483647#32 f = 2147483647#32 ∨ ∃ k ∈ s, s.fold IntOp.minsi 2147483647#32 f = f k)
        ∧ ∀ k ∈ s, (s.fold IntOp.minsi 2147483647#32 f).toInt ≤ (f k).toInt := by
    intro f s
    induction s using Finset.induction_on with
    | empty => exact ⟨Or.inl rfl, fun k hk => (Finset.notMem_empty _ hk).elim⟩
    | insert a s ha ih =>
      rw [Finset.fold_insert ha]
      obtain ⟨h1, h2⟩ := ih
      rw [show IntOp.minsi (f a) (s.fold IntOp.minsi 2147483647#32 f)
        = if (f a).slt (s.fold IntOp.minsi 2147483647#32 f) then f a else s.fold IntOp.minsi 2147483647#32 f from rfl]
      by_cases h : (f a).slt (s.fold IntOp.minsi 2147483647#32 f)
      · rw [if_pos h]
        refine ⟨Or.inr ⟨a, Finset.mem_insert_self _ _, rfl⟩, fun k hk => ?_⟩
        rcases Finset.mem_insert.1 hk with rfl | hk
        · exact le_rfl
        · have := BitVec.slt_iff_toInt_lt.1 h
          exact this.le.trans (h2 k hk)
      · rw [if_neg h]
        refine ⟨h1.imp id fun ⟨k, hk, e⟩ => ⟨k, Finset.mem_insert_of_mem hk, e⟩, fun k hk => ?_⟩
        rcases Finset.mem_insert.1 hk with rfl | hk
        · exact not_lt.1 fun h' => h (BitVec.slt_iff_toInt_lt.2 h')
        · exact h2 k hk
  obtain ⟨h1, h2⟩ := key (fun k : Fin 1000 => if v k = v (top v) then BitVec.ofNat 32 k.val else 1000#32) Finset.univ
  have hle := h2 (top v) (Finset.mem_univ _)
  have htl := (top v).isLt
  simp only [if_true] at hle
  rw [toInt_ofNat _ (by omega)] at hle
  rcases h1 with h1 | ⟨k, -, h1⟩
  · rw [h1] at hle
    have : (2147483647#32 : BitVec 32).toInt = 2147483647 := by decide
    omega
  · rw [h1] at hle ⊢
    by_cases hk : v k = v (top v)
    · rw [if_pos hk] at hle ⊢
      rw [toInt_ofNat _ (by omega)] at hle
      have := (top_spec v).2 k hk
      have : k = top v := le_antisymm (Fin.le_def.2 (by omega)) this
      rw [this]
    · rw [if_neg hk] at hle
      have : (1000#32 : BitVec 32).toInt = 1000 := by decide
      omega

variable (idx : Fin 4096 → Fin 1000) (loss : Fin 4096 → EReal)

/-- `p` comes before `q` within their class: a smaller loss, or the same loss and an earlier position. -/
def InFront (p q : Fin 4096) : Prop := loss p < loss q ∨ (loss p = loss q ∧ p < q)

instance (p q : Fin 4096) : Decidable (InFront loss p q) := Classical.dec _

/-- How many of `q`'s class come before it. -/
def rank (q : Fin 4096) : ℕ := (Finset.univ.filter fun p => idx p = idx q ∧ InFront loss p q).card

/-- How many elements class `k` has. -/
def cnt (k : ℕ) : ℕ := (Finset.univ.filter fun p => (idx p).val = k).card

/-- How many elements the classes before `k` have. -/
def start (k : ℕ) : ℕ := (Finset.univ.filter fun p => (idx p).val < k).card

theorem card_le (s : Finset (Fin 4096)) : s.card ≤ 4096 := (Finset.card_le_univ s).trans (by simp)

theorem rank_lt (q : Fin 4096) : rank idx loss q < 4097 := Nat.lt_succ_of_le (card_le _)
theorem cnt_lt (k : ℕ) : cnt idx k < 4097 := Nat.lt_succ_of_le (card_le _)
theorem start_lt (k : ℕ) : start idx k < 4097 := Nat.lt_succ_of_le (card_le _)

theorem sum_cnt (k : ℕ) : ((List.range k).map (cnt idx)).sum = start idx k := by
  induction k with
  | zero => unfold start; simp
  | succ k ih =>
    rw [List.range_succ, List.map_append, List.sum_append, ih]
    unfold start cnt
    simp only [List.map_cons, List.map_nil, List.sum_cons, List.sum_nil, add_zero]
    rw [← Finset.card_union_of_disjoint (by
      rw [Finset.disjoint_left]
      intro p hp hq
      have h1 := (Finset.mem_filter.1 hp).2
      have h2 := (Finset.mem_filter.1 hq).2
      omega)]
    congr 1
    ext p
    simp only [Finset.mem_union, Finset.mem_filter, Finset.mem_univ, true_and]
    omega

/-- The full order: class, loss, position. -/
def key (p : Fin 4096) : Fin 1000 ×ₗ (EReal ×ₗ Fin 4096) := toLex (idx p, toLex (loss p, p))

theorem key_lt (p q : Fin 4096) : key idx loss p < key idx loss q ↔ idx p < idx q ∨ (idx p = idx q ∧ InFront loss p q) := by
  unfold key InFront
  rw [Prod.Lex.toLex_lt_toLex, Prod.Lex.toLex_lt_toLex]

theorem key_inj {p q : Fin 4096} (h : key idx loss p = key idx loss q) : p = q := by
  have := congrArg (fun z => (ofLex (ofLex z).2).2) h
  exact this

/-- The order the sort is given: class, then loss. -/
def coarse (p q : Fin 4096) : Bool := decide (idx p < idx q ∨ (idx p = idx q ∧ loss p < loss q))

/-- The full order, as a test. -/
def fine (p q : Fin 4096) : Bool := decide (key idx loss p < key idx loss q)

theorem coarse_eq_fine {a b : Fin 4096} (h : a < b) : coarse idx loss b a = fine idx loss b a := by
  unfold coarse fine
  rw [decide_eq_decide, key_lt]
  unfold InFront
  have : ¬ b < a := not_lt.2 h.le
  tauto

/-- A stable sort by class and loss is the sort by class, loss and position. -/
theorem stableSort_eq : ∀ l : List (Fin 4096), l.Pairwise (· < ·) → stableSort (coarse idx loss) l = stableSort (fine idx loss) l
  | [], _ => rfl
  | a :: l, h => by
    have h' := List.pairwise_cons.1 h
    unfold stableSort
    rw [stableSort_eq l h'.2]
    refine insertBefore_congr _ _ a _ fun b hb => coarse_eq_fine idx loss (h'.1 b ?_)
    exact (perm_stableSort _ l).mem_iff.1 hb

theorem sortedFrom_of {n : ℕ} (R R' : Fin n → Fin n → Bool) (h : sortPositions n R = sortPositions n R') : sortedFrom R = sortedFrom R' := by
  funext k
  unfold sortedFrom
  rw [List.get_of_eq h]
  rfl

theorem sortedFrom_eq : sortedFrom (coarse idx loss) = sortedFrom (fine idx loss) := by
  refine sortedFrom_of _ _ ?_
  unfold sortPositions
  exact stableSort_eq idx loss _ (List.pairwise_lt_finRange 4096)

/-- The position the sort puts at place `k`. -/
def src (k : Fin 4096) : Fin 4096 := sortedFrom (coarse idx loss) k

theorem src_bij : Function.Bijective (src idx loss) := ⟨sortedFrom_injective _, sortedFrom_surjective _⟩

theorem src_mono {i j : Fin 4096} (h : i < j) : key idx loss (src idx loss i) < key idx loss (src idx loss j) := by
  have hn : fine idx loss (src idx loss j) (src idx loss i) = false := by
    unfold src
    rw [sortedFrom_eq]
    refine sortedFrom_noInversion (fine idx loss) (fine idx loss) ?_ ?_ ?_ i j h
    · intro a b hab
      exact decide_eq_false (not_lt.2 (of_decide_eq_true hab).le)
    · exact fun a b hab => hab
    · intro a b c hab hbc
      exact decide_eq_false (not_lt.2 ((not_lt.1 (of_decide_eq_false hbc)).trans (not_lt.1 (of_decide_eq_false hab))))
  have hle := not_lt.1 (of_decide_eq_false hn)
  refine lt_of_le_of_ne hle fun e => ?_
  exact h.ne ((src_bij idx loss).1 (key_inj idx loss e))

theorem src_lt_iff (i j : Fin 4096) : key idx loss (src idx loss i) < key idx loss (src idx loss j) ↔ i < j := by
  refine ⟨fun h => ?_, src_mono idx loss⟩
  by_contra hn
  rcases (not_lt.1 hn).eq_or_lt with e | e
  · exact absurd h (by rw [e]; exact lt_irrefl _)
  · exact absurd h (src_mono idx loss e).not_gt

/-- The place of an element in the sorted order: the smaller classes' elements, then those of its class before it. -/
theorem place (k : Fin 4096) : k.val = start idx (idx (src idx loss k)).val + rank idx loss (src idx loss k) := by
  have h1 : k.val = (Finset.univ.filter fun p => key idx loss p < key idx loss (src idx loss k)).card := by
    have h : (Finset.univ.filter fun p => key idx loss p < key idx loss (src idx loss k))
        = (Finset.univ.filter fun i : Fin 4096 => i < k).map ⟨src idx loss, (src_bij idx loss).1⟩ := by
      ext p
      obtain ⟨i, rfl⟩ := (src_bij idx loss).2 p
      simp only [Finset.mem_filter, Finset.mem_univ, true_and, Finset.mem_map, Function.Embedding.coeFn_mk, src_lt_iff]
      exact ⟨fun h => ⟨i, h, rfl⟩, fun ⟨j, hj, e⟩ => (src_bij idx loss).1 e ▸ hj⟩
    rw [h, Finset.card_map]
    have : (Finset.univ.filter fun i : Fin 4096 => i < k) = Finset.Iio k := by ext; simp
    rw [this, Fin.card_Iio]
  have h2 : (Finset.univ.filter fun p => key idx loss p < key idx loss (src idx loss k))
      = (Finset.univ.filter fun p => (idx p).val < (idx (src idx loss k)).val)
        ∪ (Finset.univ.filter fun p => idx p = idx (src idx loss k) ∧ InFront loss p (src idx loss k)) := by
    ext p
    simp only [Finset.mem_union, Finset.mem_filter, Finset.mem_univ, true_and, key_lt, Fin.lt_def]
  rw [h2, Finset.card_union_of_disjoint] at h1
  · exact h1
  · rw [Finset.disjoint_left]
    intro p hp hq
    have a := (Finset.mem_filter.1 hp).2
    have b := (Finset.mem_filter.1 hq).2.1
    rw [b] at a
    exact lt_irrefl _ a

end Cert.Rank
-- ==== Proof.RefRank.lean ====
module

public import proofs.«01_k».proof.Proof.RankMath
public import Idealize.ShloMosaic.Lib.Routing.OpsSet
public import Idealize.ShloMosaic.Lib.Routing.OpsPair
public import Idealize.ShloMosaic.PureOps.Reduce
public import Idealize.ShloMosaic.PureOps.Ideal.Laws

@[expose] public section

set_option maxRecDepth 16384

noncomputable section

/-! The reference's integer values: the classes' sizes, and the rank of a row in its class, which it
finds by a sort and a scatter. -/

namespace Cert.ReferenceIdeal.Val

open Idealize.ShloMosaic Idealize.ShloMosaic.Routing
open Cert.ReferenceIdeal Cert.ReferenceIdeal.Gen Cert.Rank

/-- Update `i` of the scatter into the classes lands at `k` exactly when its index is `k`. -/
theorem lands (idx : IVec S4096x1 32) (i : Fin 4096) (k : Fin 1000) :
    scatter_S1000_S4096x1_S4096_n_0_0_1.resultIdx? (ix1 i) idx = some (ix1 k) ↔ (idx (ix2 i 0)).toInt = (k.val : ℤ) := by
  refine (resultIdx?_ix1 (N := 1000) scatter_S1000_S4096x1_S4096_n_0_0_1 (ix1 i) idx k).trans ?_
  have h1 : scatter_S1000_S4096x1_S4096_n_0_0_1.window (ix1 i) 0 = 0 := by
    unfold ScatterDims.window
    exact dif_neg (by decide)
  have h2 : scatter_S1000_S4096x1_S4096_n_0_0_1.start (ix1 i) idx 0 = (idx (ix2 i 0)).toInt := by
    unfold ScatterDims.start
    rw [dif_pos (by decide)]
    refine congrArg (fun z => (idx z).toInt) (funext fun a => ?_)
    match a with
    | ⟨0, _⟩ => rfl
    | ⟨1, _⟩ => rfl
  rw [h1, h2]
  simp

theorem slt_zero (n : ℕ) (h : n < 2 ^ 31) : IntOp.cmpi .slt (BitVec.ofNat 32 n) 0#32 = 0#1 := by
  have : (BitVec.ofNat 32 n).slt 0#32 = false := by
    rw [show (BitVec.ofNat 32 n).slt 0#32 = decide ((BitVec.ofNat 32 n).toInt < (0#32 : BitVec 32).toInt) from rfl, toInt_ofNat n h]
    exact decide_eq_false (by simp)
  unfold IntOp.cmpi
  simp [this]

theorem wrap (n : ℕ) (h : n < 2 ^ 31) (a : BitVec 32) :
    Scalar.select (IntOp.cmpi .slt (BitVec.ofNat 32 n) 0#32) a (BitVec.ofNat 32 n) = BitVec.ofNat 32 n := by
  rw [slt_zero n h]
  rfl

theorem maxsi_ofNat (m n : ℕ) (hm : m < 2 ^ 31) (hn : n < 2 ^ 31) :
    IntOp.maxsi (BitVec.ofNat 32 m) (BitVec.ofNat 32 n) = BitVec.ofNat 32 (max m n) := by
  have e : IntOp.maxsi (BitVec.ofNat 32 m) (BitVec.ofNat 32 n)
      = if (BitVec.ofNat 32 n).toInt < (BitVec.ofNat 32 m).toInt then BitVec.ofNat 32 m else BitVec.ofNat 32 n := by
    unfold IntOp.maxsi
    simp only [BitVec.slt, decide_eq_true_eq]
  rw [e, toInt_ofNat _ hm, toInt_ofNat _ hn]
  split
  · rw [max_eq_left (by omega)]
  · rw [max_eq_right (by omega)]

variable (x39 : IVec S4096 32) (x50 : FVec Ideal S4096 .f32) (idx : Fin 4096 → Fin 1000) (loss : Fin 4096 → EReal)
  (h39 : ∀ i, x39 (ix1 i) = BitVec.ofNat 32 (idx i).val) (h50 : ∀ i, x50 (ix1 i) = loss i)

include h39 in
theorem v58_ap (i : Fin 4096) : r_v58 (r_v52 r_c_13 x39) (ix2 i 0) = BitVec.ofNat 32 (idx i).val := by
  have hi := (idx i).isLt
  have e1 : ∀ (a : IVec S_ 32) (b : IVec S4096 32), r_v52 a b (ix1 i) = IntOp.maxsi (a ix0) (b (ix1 i)) := fun a b => by pointwise [r_v52]
  have e2 : ∀ (a : IVec S4096 32), r_v58 a (ix2 i 0) = Scalar.select (IntOp.cmpi .slt (a (ix1 i)) 0#32) (IntOp.addi (a (ix1 i)) 1000#32) (a (ix1 i)) :=
    fun a => by pointwise [r_v58]
  have e3 : r_v52 r_c_13 x39 (ix1 i) = BitVec.ofNat 32 (idx i).val := by
    rw [e1, h39]
    have : r_c_13 ix0 = BitVec.ofNat 32 0 := rfl
    rw [this, maxsi_ofNat _ _ (by omega) (by omega), Nat.zero_max]
  rw [e2, e3, wrap _ (by omega)]

include h39 in
theorem v60_ap (k : Fin 1000) : r_v60 r_v51 (r_v58 (r_v52 r_c_13 x39)) (ix1 k) = BitVec.ofNat 32 (cnt idx k.val) := by
  have h58 := v58_ap x39 idx h39
  generalize r_v58 (r_v52 r_c_13 x39) = y at h58 ⊢
  have hl : ∀ i : Fin 4096, scatter_S1000_S4096x1_S4096_n_0_0_1.resultIdx? (ix1 i) y = some (ix1 k) ↔ (idx i).val = k.val := fun i => by
    have hi := (idx i).isLt
    rw [lands, h58, toInt_ofNat _ (by omega)]
    omega
  unfold r_v60 Host.scatter
  refine (foldl_count _ (ix1 k) (fun n => decide ((idx (n.cast (numel1 4096))).val = k.val)) (fun r n => ?_) _ _ 0 rfl).trans ?_
  · have e := symm1 (N := 4096) n
    rw [show S4096.rowMajor.symm n = ix1 (n.cast (numel1 4096)) from e]
    have hi := hl (n.cast (numel1 4096))
    generalize scatter_S1000_S4096x1_S4096_n_0_0_1.resultIdx? (ix1 (n.cast (numel1 4096))) y = o at hi ⊢
    by_cases hc : (idx (n.cast (numel1 4096))).val = k.val
    · rw [if_pos (decide_eq_true hc), hi.2 hc]
      exact if_pos rfl
    · rw [if_neg fun h => hc (of_decide_eq_true h)]
      cases o with
      | none => rfl
      | some j => exact if_neg fun h => hc (hi.1 (congrArg some h.symm))
  · rw [Nat.zero_add]
    have : ∀ (M : ℕ) (hM : M = 4096), (List.finRange M).countP (fun n => decide ((idx (n.cast hM)).val = k.val)) = cnt idx k.val := by
      intro M hM
      subst hM
      rw [List.countP_eq_length_filter]
      rfl
    rw [this _ (numel1 4096)]

theorem sub_ofNat (a b : ℕ) : IntOp.subi (BitVec.ofNat 32 (a + b)) (BitVec.ofNat 32 a) = BitVec.ofNat 32 b := by
  unfold IntOp.subi
  rw [BitVec.ofNat_add, BitVec.add_comm, BitVec.add_sub_cancel]

include h39 in
theorem v73_ap (k : Fin 1000) :
    r_v73 (r_v72 (r_v60 r_v51 (r_v58 (r_v52 r_c_13 x39)))) (r_v60 r_v51 (r_v58 (r_v52 r_c_13 x39))) (ix1 k) = BitVec.ofNat 32 (start idx k.val) := by
  have h60 := v60_ap x39 idx h39
  generalize r_v60 r_v51 (r_v58 (r_v52 r_c_13 x39)) = y at h60 ⊢
  have h72 : r_v72 y (ix1 k) = BitVec.ofNat 32 (cnt idx k.val + start idx k.val) := by
    unfold r_v72
    refine (cumsum1 (Nm1 := 999) rfl y (cnt idx) h60 _ rfl _ _ k).trans ?_
    rw [sum_cnt, ← sum_cnt, List.range_succ, List.map_append, List.sum_append, sum_cnt]
    simp [Nat.add_comm]
  show IntOp.subi (r_v72 y (ix1 k)) (y (ix1 k)) = _
  rw [h72, h60, sub_ofNat]

theorem cmp_eq (a b : BitVec 32) (x y : EReal) (p q : BitVec 32) :
    (comparator_i32_f32_i32_d0 (F := Ideal) (a, x, p) (b, y, q) == 1#1) = decide (a.toInt < b.toInt ∨ (a = b ∧ x < y)) := by
  have hz : Ideal.ofBits .f32 0x00000000#32 = (0 : EReal) := by simp [Ideal.ofBits, Ideal.ieee]
  have hc : ∀ z : EReal, Scalar.select (BitVec.ofBool (decide (z ≠ z))) (Ideal.ofBits .f32 0x7FC00000#32)
      (Scalar.select (BitVec.ofBool (decide (z = Ideal.ofBits .f32 0x00000000#32))) (Ideal.ofBits .f32 0x00000000#32) z) = z := fun z => by
    rw [hz]
    by_cases h : z = 0 <;> simp [h, Scalar.select]
  have e : comparator_i32_f32_i32_d0 (F := Ideal) (a, x, p) (b, y, q)
      = IntOp.ori (BitVec.ofBool (a.slt b)) (IntOp.andi (BitVec.ofBool (a == b))
          (BitVec.ofBool (decide (Scalar.select (BitVec.ofBool (decide (x ≠ x))) (Ideal.ofBits .f32 0x7FC00000#32)
            (Scalar.select (BitVec.ofBool (decide (x = Ideal.ofBits .f32 0x00000000#32))) (Ideal.ofBits .f32 0x00000000#32) x)
            < Scalar.select (BitVec.ofBool (decide (y ≠ y))) (Ideal.ofBits .f32 0x7FC00000#32)
            (Scalar.select (BitVec.ofBool (decide (y = Ideal.ofBits .f32 0x00000000#32))) (Ideal.ofBits .f32 0x00000000#32) y))))) := rfl
  rw [e, hc, hc, show a.slt b = decide (a.toInt < b.toInt) from rfl]
  rw [show (a == b) = decide (a = b) from rfl]
  by_cases h1 : a.toInt < b.toInt
  · rw [decide_eq_true h1, decide_eq_true (Or.inl h1 : a.toInt < b.toInt ∨ (a = b ∧ x < y))]
    cases decide (a = b) <;> cases decide (x < y) <;> rfl
  · rw [decide_eq_false h1]
    by_cases h2 : a = b
    · rw [decide_eq_true h2]
      by_cases h3 : x < y
      · rw [decide_eq_true h3, decide_eq_true (Or.inr ⟨h2, h3⟩ : a.toInt < b.toInt ∨ (a = b ∧ x < y))]
        rfl
      · rw [decide_eq_false h3, decide_eq_false (fun h => h.elim h1 fun h => h3 h.2 : ¬(a.toInt < b.toInt ∨ (a = b ∧ x < y)))]
        rfl
    · rw [decide_eq_false h2, decide_eq_false (fun h => h.elim h1 fun h => h2 h.1 : ¬(a.toInt < b.toInt ∨ (a = b ∧ x < y)))]
      cases decide (x < y) <;> rfl

theorem sort_at {N : ℕ} {α β γ : Type} (cmp : α × β × γ → α × β × γ → BitVec 1) (x : (shape1 N).Idx → α) (y : (shape1 N).Idx → β) (z : (shape1 N).Idx → γ)
    (k : Fin N) : (Host.sort3 (shape1 N) 0 cmp x y z).2.2 (ix1 k)
      = z (ix1 (sortedFrom (fun p q : Fin N => cmp (x (ix1 p), y (ix1 p), z (ix1 p)) (x (ix1 q), y (ix1 q), z (ix1 q)) == 1#1) k)) := by
  have ha : ∀ p : Fin N, (ix1 k : (shape1 N).Idx).along (0 : Fin 1) p = ix1 p := fun p => by
    funext a
    match a with
    | ⟨0, _⟩ => rfl
  refine congrArg z ((ha _).trans (congrArg ix1 ?_))
  refine congrFun (congrArg sortedFrom (funext fun p => funext fun q => ?_)) k
  exact congrArg₂ (fun p q => cmp (x p, y p, z p) (x q, y q, z q) == 1#1) (ha p) (ha q)

include h39 h50 in
theorem v71_ap (k : Fin 4096) : r_v71 x39 x50 (ix1 k) = BitVec.ofNat 32 (src idx loss k).val := by
  have hcmp : (fun p q : Fin 4096 => comparator_i32_f32_i32_d0 (F := Ideal)
        (x39 (ix1 p), x50 (ix1 p), iotaInDim S4096 32 0 (ix1 p)) (x39 (ix1 q), x50 (ix1 q), iotaInDim S4096 32 0 (ix1 q)) == 1#1)
      = coarse idx loss := by
    funext p q
    have hp := (idx p).isLt
    have hq := (idx q).isLt
    rw [cmp_eq, h39, h39, h50, h50, toInt_ofNat _ (by omega), toInt_ofNat _ (by omega)]
    unfold coarse
    rw [decide_eq_decide]
    have : BitVec.ofNat 32 (idx p).val = BitVec.ofNat 32 (idx q).val ↔ idx p = idx q := by
      constructor
      · intro h
        have h' := congrArg BitVec.toNat h
        rw [BitVec.toNat_ofNat, BitVec.toNat_ofNat] at h'
        exact Fin.ext (by omega)
      · intro h
        rw [h]
    rw [this, Fin.lt_def, Nat.cast_lt]
  have hs := sort_at (comparator_i32_f32_i32_d0 (F := Ideal)) x39 x50 (iotaInDim S4096 32 0) k
  rw [hcmp] at hs
  exact hs

end Cert.ReferenceIdeal.Val
-- ==== Proof.RefArg.lean ====
module

public import proofs.«01_k».proof.Proof.RefRank
public import Idealize.ShloMosaic.Lib.Routing.OpsSet
public import Idealize.ShloMosaic.Lib.Routing.OpsPair
public import Idealize.ShloMosaic.PureOps.Reduce
public import Idealize.ShloMosaic.PureOps.Ideal.Laws

@[expose] public section

set_option maxRecDepth 16384

noncomputable section

/-! The class of a row in the reference: the first position of its greatest label. -/

namespace Cert.ReferenceIdeal.Val

open Idealize.ShloMosaic Idealize.ShloMosaic.Routing
open Cert.ReferenceIdeal Cert.ReferenceIdeal.Gen Cert.Rank

theorem red_best (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  have h : reducer_argmax_f32_i32 (F := Ideal) a b
      = if b.1 < a.1 ∨ (a.1 = b.1 ∧ a.2.toInt < b.2.toInt) then a else b := by
    obtain ⟨x, p⟩ := a
    obtain ⟨y, q⟩ := b
    have e : reducer_argmax_f32_i32 (F := Ideal) (x, p) (y, q)
        = (Scalar.select (IntOp.ori (BitVec.ofBool (decide (y < x))) (BitVec.ofBool (decide (x ≠ x)))) x y,
            Scalar.select (IntOp.ori (IntOp.ori (BitVec.ofBool (decide (y < x))) (BitVec.ofBool (decide (x ≠ x))))
              (IntOp.andi (BitVec.ofBool (decide (x = y))) (BitVec.ofBool (p.slt q)))) p q) := rfl
    rw [e]
    have hs : p.slt q = decide (p.toInt < q.toInt) := rfl
    rw [hs]
    rw [decide_eq_false (fun h : x ≠ x => h rfl)]
    by_cases h1 : y < x
    · rw [if_pos (Or.inl h1), decide_eq_true h1]
      cases decide (x = y) <;> cases decide (p.toInt < q.toInt) <;> rfl
    · rw [decide_eq_false h1]
      by_cases h2 : x = y
      · rw [decide_eq_true h2]
        by_cases h3 : p.toInt < q.toInt
        · rw [if_pos (Or.inr ⟨h2, h3⟩), decide_eq_true h3]
          exact Prod.ext h2.symm rfl
        · rw [if_neg fun h => h.elim h1 fun h => h3 h.2, decide_eq_false h3]
          rfl
      · rw [decide_eq_false h2, if_neg fun h => h.elim h1 fun h => h2 h.1]
        cases decide (p.toInt < q.toInt) <;> rfl
  rw [h]
  split
  · next hc =>
    refine ⟨Or.inl rfl, Beats.refl a, ?_⟩
    rcases hc with hc | ⟨hc, hd⟩
    · exact Or.inl hc
    · exact Or.inr ⟨hc.symm, hd.le⟩
  · next hc =>
    refine ⟨Or.inr rfl, ?_, Beats.refl b⟩
    rw [not_or, not_and] at hc
    rcases (not_lt.1 hc.1).eq_or_lt with e | e
    · exact Or.inr ⟨e, not_lt.1 (hc.2 e)⟩
    · exact Or.inl e

theorem argFold (l : List (EReal × BitVec 32)) (v : Fin 1000 → EReal)
    (hm : ∀ p ∈ l, ∃ k : Fin 1000, p = (v k, BitVec.ofNat 32 k.val)) (ha : ∀ k : Fin 1000, (v k, BitVec.ofNat 32 k.val) ∈ l) :
    (l.foldl (reducer_argmax_f32_i32 (F := Ideal)) (⊥, 0#32)).2 = BitVec.ofNat 32 (top v).val := by
  obtain ⟨h1, h2, h3⟩ := foldl_best (reducer_argmax_f32_i32 (F := Ideal)) red_best l (⊥, 0#32)
  exact best_is_top v _ (h1.imp id fun h => hm _ h) fun k => h3 _ (ha k)

theorem mem_fiber {s t : Shape} {axes : List (Fin s.rank)} {α β : Type} (x : s.Idx → α) (y : s.Idx → β) (h : s.ReducesTo axes t) (j : t.Idx)
    (p : α × β) : p ∈ Host.argReduceFiber x y h j ↔ ∃ q, h.drop q = j ∧ p = (x q, y q) := by
  unfold Host.argReduceFiber
  constructor
  · intro hp
    obtain ⟨n, hn, rfl⟩ := List.mem_map.1 hp
    exact ⟨_, of_decide_eq_true (List.mem_filter.1 hn).2, rfl⟩
  · rintro ⟨q, hq, rfl⟩
    refine List.mem_map.2 ⟨s.rowMajor q, List.mem_filter.2 ⟨List.mem_finRange _, decide_eq_true ?_⟩, ?_⟩
    · rw [Equiv.symm_apply_apply, hq]
    · rw [Equiv.symm_apply_apply]

theorem drop_row (q : S4096x1000.Idx) : reducesTo_S4096x1000_S4096_d1.drop q = ix1 (q 0) := by
  funext a
  match a with
  | ⟨0, _⟩ => rfl

theorem arg_fiber {x : FVec Ideal S4096x1000 .f32} {y : IVec S4096x1000 32} (hy : ∀ q, y q = BitVec.ofNat 32 (q 1).val) (i : Fin 4096) :
    ((Host.argReduceFiber x y reducesTo_S4096x1000_S4096_d1 (ix1 i)).foldl (reducer_argmax_f32_i32 (F := Ideal)) ((⊥ : EReal), 0#32)).2
      = BitVec.ofNat 32 (top fun k => x (ix2 i k)).val := by
  have hm := mem_fiber x y reducesTo_S4096x1000_S4096_d1 (ix1 i)
  generalize Host.argReduceFiber x y reducesTo_S4096x1000_S4096_d1 (ix1 i) = l at hm ⊢
  refine argFold l (fun k => x (ix2 i k)) (fun p hp => ?_) fun k => ?_
  · obtain ⟨q, hq, rfl⟩ := (hm p).1 hp
    rw [drop_row] at hq
    have hq0 : q 0 = i := congrFun hq 0
    refine ⟨q 1, ?_⟩
    rw [hy, ← hq0, ← eq_ix2 q]
  · exact (hm _).2 ⟨ix2 i k, by rw [drop_row]; rfl, by rw [hy]; rfl⟩

theorem arg_eq (x : FVec Ideal S4096x1000 .f32) (y : IVec S4096x1000 32) (ix : FVec Ideal S_ .f32) (iy : IVec S_ 32)
    (hx : ∀ j, ix j = (⊥ : EReal)) (hiy : ∀ j, iy j = 0#32) (hy : ∀ q, y q = BitVec.ofNat 32 (q 1).val) (i : Fin 4096) :
    (Host.argReduce (reducer_argmax_f32_i32 (F := Ideal)) x y ix iy reducesTo_S4096x1000_S4096_d1 h_S_ (ix1 i)).2
      = BitVec.ofNat 32 (top fun k => x (ix2 i k)).val := by
  rw [Ideal.argReduce_eq_reduce2, Host.reduce2_eq_foldl_fiber, hx, hiy]
  exact arg_fiber hy i

theorem r_v39_def : r_v39 = fun x j => (Host.argReduce (reducer_argmax_f32_i32 (F := Ideal)) x (iotaInDim S4096x1000 32 1)
    (constant (F := Ideal) S_ .f32 0xFF800000#32) (constantI S_ 32 0#32) reducesTo_S4096x1000_S4096_d1 h_S_ j).2 := by
  delta r_v39
  rfl

theorem inf_const (j : S_.Idx) : constant (F := Ideal) S_ .f32 0xFF800000#32 j = (⊥ : EReal) := negInf_eq

theorem r_v39_ap (x : FVec Ideal S4096x1000 .f32) (i : Fin 4096) :
    r_v39 x (ix1 i) = BitVec.ofNat 32 (top fun k => x (ix2 i k)).val :=
  (congrFun (congrFun r_v39_def x) (ix1 i)).trans
    (arg_eq x (iotaInDim S4096x1000 32 1) (constant (F := Ideal) S_ .f32 0xFF800000#32) (constantI S_ 32 0#32) inf_const (fun _ => rfl) (fun _ => rfl) i)

end Cert.ReferenceIdeal.Val
-- ==== Proof.RefSel.lean ====
module

public import proofs.«01_k».proof.Proof.RefArg

@[expose] public section

set_option maxRecDepth 16384

noncomputable section

/-! The reference's rank of each row in its class, the quota of the class, and the choice between the two losses. -/

namespace Cert.ReferenceIdeal.Val

open Idealize.ShloMosaic Idealize.ShloMosaic.Routing
open Cert.ReferenceIdeal Cert.ReferenceIdeal.Gen Cert.Rank

/-- The rounded quota of a class with share `e`. -/
def quota (e : EReal) : BitVec 32 := FloatOps.fptosi (F := Ideal) (φ := .f32) 32
  (Ideal.liftRound Int.ceil ((Ideal.ofBits .f32 0x45800000#32 * e) * Ideal.ofBits .f32 0x3F000000#32))

/-- An integer word read as a number. -/
def num (b : BitVec 32) : EReal := ((b.toInt : ℝ) : EReal)

section Ranks

variable (x39 : IVec S4096 32) (x71 : IVec S4096 32) (x73 : IVec S1000 32) (idx : Fin 4096 → Fin 1000) (loss : Fin 4096 → EReal)
  (h39 : ∀ i, x39 (ix1 i) = BitVec.ofNat 32 (idx i).val) (h71 : ∀ k, x71 (ix1 k) = BitVec.ofNat 32 (src idx loss k).val)
  (h73 : ∀ k, x73 (ix1 k) = BitVec.ofNat 32 (start idx k.val))

theorem r_v79_ap (a : IVec S4096 32) (k : Fin 4096) :
    r_v80 (r_v79 a) (ix2 k 0) = Scalar.select (IntOp.cmpi .slt (a (ix1 k)) 0#32) (IntOp.addi (a (ix1 k)) 4096#32) (a (ix1 k)) := by
  have e : ∀ b : IVec S4096 32, r_v80 b (ix2 k 0) = b (ix1 k) := fun b => by pointwise [r_v80]
  rw [e]
  pointwise [r_v79]

theorem r_v87_ap (a : IVec S4096 32) (k : Fin 4096) :
    r_v87 a (ix2 k 0) = Scalar.select (IntOp.cmpi .slt (a (ix1 k)) 0#32) (IntOp.addi (a (ix1 k)) 1000#32) (a (ix1 k)) := by
  pointwise [r_v87]

theorem r_v96_ap (a : IVec S4096 32) (k : Fin 4096) :
    r_v96 a (ix2 k 0) = Scalar.select (IntOp.cmpi .slt (a (ix1 k)) 0#32) (IntOp.addi (a (ix1 k)) 4096#32) (a (ix1 k)) := by
  pointwise [r_v96]

theorem r_v103_ap (a : IVec S4096 32) (k : Fin 4096) :
    r_v103 a (ix2 k 0) = Scalar.select (IntOp.cmpi .slt (a (ix1 k)) 0#32) (IntOp.addi (a (ix1 k)) 1000#32) (a (ix1 k)) := by
  pointwise [r_v103]

theorem r_v89_ap (a : IVec S4096 32) (k : Fin 4096) : r_v89 a (ix1 k) = IntOp.subi (BitVec.ofNat 32 k.val) (a (ix1 k)) := by
  pointwise [r_v89]

include h39 h71 in
theorem v81_ap (k : Fin 4096) : r_v81 x39 (r_v80 (r_v79 x71)) (ix1 k) = BitVec.ofNat 32 (idx (src idx loss k)).val := by
  have hs := (src idx loss k).isLt
  have hb : r_v80 (r_v79 x71) (ix2 k 0) = BitVec.ofNat 32 (src idx loss k).val := by
    rw [r_v79_ap, h71, wrap _ (by omega)]
  unfold r_v81
  exact (gather_take1 (N := 4096) (n := 4096) gather_S4096_S4096x1_S4096_n_0_n_n_0_1_1 rfl rfl rfl rfl x39 _ k (src idx loss k) hb (by norm_num)).trans (h39 _)

include h39 h71 h73 in
theorem v89_ap (k : Fin 4096) :
    r_v89 (r_v88 x73 (r_v87 (r_v81 x39 (r_v80 (r_v79 x71))))) (ix1 k) = BitVec.ofNat 32 (rank idx loss (src idx loss k)) := by
  have hi := (idx (src idx loss k)).isLt
  have h81 := v81_ap x39 x71 idx loss h39 h71 k
  generalize r_v81 x39 (r_v80 (r_v79 x71)) = y at h81 ⊢
  have hb : r_v87 y (ix2 k 0) = BitVec.ofNat 32 (idx (src idx loss k)).val := by
    rw [r_v87_ap, h81, wrap _ (by omega)]
  have h88 : r_v88 x73 (r_v87 y) (ix1 k) = BitVec.ofNat 32 (start idx (idx (src idx loss k)).val) := by
    unfold r_v88
    exact (gather_take1 (N := 1000) (n := 4096) gather_S1000_S4096x1_S4096_n_0_n_n_0_1_1 rfl rfl rfl rfl x73 _ k (idx (src idx loss k)) hb (by norm_num)).trans (h73 _)
  rw [r_v89_ap, h88, place idx loss k, sub_ofNat]

include h39 h71 h73 in
theorem v97_ap (i : Fin 4096) :
    r_v97 (r_v96 x71) (r_v89 (r_v88 x73 (r_v87 (r_v81 x39 (r_v80 (r_v79 x71)))))) (ix1 i) = BitVec.ofNat 32 (rank idx loss i) := by
  have h89 := v89_ap x39 x71 x73 idx loss h39 h71 h73
  generalize r_v89 (r_v88 x73 (r_v87 (r_v81 x39 (r_v80 (r_v79 x71))))) = y at h89 ⊢
  have h96 : ∀ k : Fin 4096, r_v96 x71 (ix2 k 0) = BitVec.ofNat 32 (src idx loss k).val := fun k => by
    have hs := (src idx loss k).isLt
    rw [r_v96_ap, h71, wrap _ (by omega)]
  have hi : ∀ k : Fin 4096, (r_v96 x71 (ix2 k 0)).toInt = (i.val : ℤ) ↔ src idx loss k = i := fun k => by
    have hs := (src idx loss k).isLt
    rw [h96, toInt_ofNat _ (by omega), Nat.cast_inj, Fin.ext_iff]
  obtain ⟨k, hk⟩ := (src_bij idx loss).2 i
  unfold r_v97
  refine (scatter_set_signed (N := 4096) scatter_S4096_S4096x1_S4096_n_0_0_1 rfl rfl rfl _ (r_v96 x71) y i (BitVec.ofNat 32 (rank idx loss i))
    (fun k h => ?_)).1 ⟨k, (hi k).2 hk⟩
  exact (h89 k).trans (by rw [(hi k).1 h])

end Ranks

theorem num_max (a b : BitVec 32) : num (IntOp.maxsi a b) = max (num a) (num b) := by
  have e : IntOp.maxsi a b = if b.toInt < a.toInt then a else b := by
    unfold IntOp.maxsi
    simp only [BitVec.slt, decide_eq_true_eq]
  have m : ∀ x y : BitVec 32, num x ≤ num y ↔ x.toInt ≤ y.toInt := fun x y => by
    unfold num
    rw [EReal.coe_le_coe_iff, Int.cast_le]
  rw [e]
  split
  · next h => rw [max_eq_left ((m _ _).2 h.le)]
  · next h => rw [max_eq_right ((m _ _).2 (not_lt.1 h))]

theorem num_min (a b : BitVec 32) : num (IntOp.minsi a b) = min (num a) (num b) := by
  have e : IntOp.minsi a b = if a.toInt < b.toInt then a else b := by
    unfold IntOp.minsi
    simp only [BitVec.slt, decide_eq_true_eq]
  have m : ∀ x y : BitVec 32, num x ≤ num y ↔ x.toInt ≤ y.toInt := fun x y => by
    unfold num
    rw [EReal.coe_le_coe_iff, Int.cast_le]
  rw [e]
  split
  · next h => rw [min_eq_left ((m _ _).2 h.le)]
  · next h => rw [min_eq_right ((m _ _).2 (not_lt.1 h))]

theorem num_ofNat (n : ℕ) (h : n < 2 ^ 31) : num (BitVec.ofNat 32 n) = (n : EReal) := by
  unfold num
  rw [toInt_ofNat n h, Int.cast_natCast]
  rfl

theorem slt_num (a b : BitVec 32) : IntOp.cmpi .slt a b = BitVec.ofBool (decide (num a < num b)) := by
  have e : IntOp.cmpi .slt a b = BitVec.ofBool (decide (a.toInt < b.toInt)) := rfl
  rw [e]
  unfold num
  simp only [EReal.coe_lt_coe_iff, Int.cast_lt]

/-- Whether the row takes the pseudo-label's loss: within its class's quota, or confident. -/
def Taken (r c : ℕ) (kc : BitVec 32) (s : EReal) : Prop :=
  (r : EReal) < min (max (num kc) 1) (max (c : EReal) 1) ∨ Ideal.ofBits .f32 0x3F7D70A4#32 < s

open Classical in
/-- The row's loss. -/
def chosen (r c : ℕ) (kc : BitVec 32) (s x y : EReal) : EReal := if Taken r c kc s then x else y

theorem r_v104_ap (x60 : IVec S1000 32) (x67 : IVec S1000 32) (x39 : IVec S4096 32) (i : Fin 4096) (k : Fin 1000) (n : ℕ) (hn : n < 4097)
    (h39 : x39 (ix1 i) = BitVec.ofNat 32 k.val) (h60 : x60 (ix1 k) = BitVec.ofNat 32 n) :
    num (r_v104 (r_v70 (r_v69 x60) r_c_20 x67) (r_v103 x39) (ix1 i)) = min (max (n : EReal) 1) (max 1 (num (x67 (ix1 k)))) := by
  have hk := k.isLt
  have hb : r_v103 x39 (ix2 i 0) = BitVec.ofNat 32 k.val := by
    rw [r_v103_ap, h39, wrap _ (by omega)]
  have e1 : ∀ (a : IVec S1000 32) (b : IVec S_ 32) (c : IVec S1000 32), r_v70 a b c (ix1 k) = IntOp.minsi (a (ix1 k)) (IntOp.maxsi (b ix0) (c (ix1 k))) :=
    fun a b c => by pointwise [r_v70]
  have e2 : ∀ a : IVec S1000 32, r_v69 a (ix1 k) = IntOp.maxsi (a (ix1 k)) (BitVec.ofNat 32 1) := fun a => by pointwise [r_v69]
  have e3 : r_c_20 ix0 = BitVec.ofNat 32 1 := rfl
  have h : r_v104 (r_v70 (r_v69 x60) r_c_20 x67) (r_v103 x39) (ix1 i) = r_v70 (r_v69 x60) r_c_20 x67 (ix1 k) := by
    unfold r_v104
    exact gather_take1 (N := 1000) (n := 4096) gather_S1000_S4096x1_S4096_n_0_n_n_0_1_1 rfl rfl rfl rfl _ _ i k hb (by norm_num)
  rw [h, e1, e2, e3, h60, num_min, num_max, num_max, num_ofNat _ (by omega), num_ofNat _ (by omega), Nat.cast_one]

theorem choose_mul (b : Bool) (x y : EReal) :
    (FloatOps.uitofp .f32 (BitVec.ofBool b) : Ideal .f32) * x + (1 - (FloatOps.uitofp .f32 (BitVec.ofBool b) : Ideal .f32)) * y = if b then x else y := by
  cases b
  · have h : (FloatOps.uitofp .f32 (BitVec.ofBool false) : Ideal .f32) = ((((0 : ℕ) : ℝ)) : EReal) := rfl
    rw [h]
    simp
  · have h : (FloatOps.uitofp .f32 (BitVec.ofBool true) : Ideal .f32) = ((((1 : ℕ) : ℝ)) : EReal) := rfl
    rw [h]
    have h1 : (1 : EReal) - (((1 : ℕ) : ℝ) : EReal) = 0 := by
      rw [Nat.cast_one, EReal.coe_one]
      exact EReal.sub_self (by decide) (by decide)
    rw [h1]
    simp

/-- The class of each row. -/
def clsE (x38 : FVec Ideal S4096x1000 .f32) (i : Fin 4096) : Fin 1000 := top fun k => x38 (ix2 i k)

/-- The pseudo-label's loss of each row. -/
def lossE (a0 x38 : FVec Ideal S4096x1000 .f32) (i : Fin 4096) : EReal := r_v50 (r_v40 a0) x38 (ix1 i)

theorem r_tail_ap (a0 a1 x10 : FVec Ideal S4096x1000 .f32) (x15 : FVec Ideal S1000x1 .f32) (x38 : FVec Ideal S4096x1000 .f32) (i : Fin 4096) :
    r_tail a0 a1 x10 x15 x38 (ix1 i)
      = chosen (rank (clsE x38) (lossE a0 x38) i) (cnt (clsE x38) (clsE x38 i).val) (quota (x15 (ix2 (clsE x38 i) 0)))
          (∑ k : Fin 1000, x38 (ix2 i k) * x10 (ix2 i k)) (lossE a0 x38 i) (r_v47 (r_v40 a0) a1 (ix1 i)) := by
  have h39 : ∀ p, r_v39 x38 (ix1 p) = BitVec.ofNat 32 (clsE x38 p).val := fun p => r_v39_ap x38 p
  have h50 : ∀ p, r_v50 (r_v40 a0) x38 (ix1 p) = lossE a0 x38 p := fun p => rfl
  have h67 : ∀ k, r_v67 x15 (ix1 k) = quota (x15 (ix2 k 0)) := fun k => r_v67_ap x15 k
  have h109 := r_v109_ap x38 x10 i
  unfold r_tail
  generalize r_v39 x38 = x39 at h39 ⊢
  generalize r_v50 (r_v40 a0) x38 = x50 at h50 ⊢
  generalize r_v67 x15 = x67 at h67 ⊢
  generalize r_v109 x38 x10 = x109 at h109 ⊢
  have h60 := v60_ap x39 (clsE x38) h39
  have h73 := v73_ap x39 (clsE x38) h39
  have h71 := v71_ap x39 x50 (clsE x38) (lossE a0 x38) h39 h50
  generalize r_v60 r_v51 (r_v58 (r_v52 r_c_13 x39)) = x60 at h60 h73 ⊢
  generalize r_v73 (r_v72 x60) x60 = x73 at h73 ⊢
  generalize r_v71 x39 x50 = x71 at h71 ⊢
  have h97 := v97_ap x39 x71 x73 (clsE x38) (lossE a0 x38) h39 h71 h73 i
  have h104 := r_v104_ap x60 x67 x39 i (clsE x38 i) _ (cnt_lt _ _) (h39 i) (h60 _)
  generalize r_v97 (r_v96 x71) (r_v89 (r_v88 x73 (r_v87 (r_v81 x39 (r_v80 (r_v79 x71)))))) = x97 at h97 ⊢
  generalize r_v104 (r_v70 (r_v69 x60) r_c_20 x67) (r_v103 x39) = x104 at h104 ⊢
  have h105 : r_v105 x97 x104 (ix1 i) = IntOp.cmpi .slt (x97 (ix1 i)) (x104 (ix1 i)) := by pointwise [r_v105]
  have h110 : r_v110 (r_v105 x97 x104) x109 (ix1 i) = IntOp.ori (r_v105 x97 x104 (ix1 i)) (x109 (ix1 i)) := rfl
  have hr := rank_lt (clsE x38) (lossE a0 x38) i
  rw [r_v116_ap, h110, h105, slt_num, h97, h104, h67, h109, num_ofNat _ (by omega), h50]
  have hor : ∀ p q : Bool, IntOp.ori (BitVec.ofBool p) (BitVec.ofBool q) = BitVec.ofBool (p || q) := by decide
  rw [hor, choose_mul]
  unfold chosen Taken
  rw [max_comm (1 : EReal), min_comm]
  simp only [Bool.or_eq_true, decide_eq_true_eq]
  congr

end Cert.ReferenceIdeal.Val
-- ==== Proof.KPay.lean ====
module

public import proofs.«01_k».proof.Proof.RefSel

@[expose] public section

set_option maxRecDepth 16384

noncomputable section

/-! The kernel's row computations on a block, against the reference's on the whole array: a row of the block being a row of
the array, each of its values is the reference's value of that row. -/

namespace Cert.KernelIdeal.Val

open Idealize.ShloMosaic
open Cert.KernelIdeal Cert.KernelIdeal.Gen Cert.Rank
open Cert.ReferenceIdeal.Val (r_max r_sh r_sum r_v10 r_v11 r_v40 r_v47 r_v50 r_max_ap r_sh_ap r_sum_ap r_v10_ap r_v11_ap r_v40_ap r_v47_ap r_v50_ap
  negInf_eq quota num num_ofNat Taken chosen)

section Block

variable (x y : FVec Ideal S512x1000 .f32) (A B : FVec Ideal S4096x1000 .f32) (i : Fin 512) (g : Fin 4096)
  (hx : ∀ k : Fin 1000, x (ix2 i k) = A (ix2 g k)) (hy : ∀ k : Fin 1000, y (ix2 i k) = B (ix2 g k))

include hx in
theorem p0_max : k0_pay1 (F := Ideal) x (ix2 i 0) = r_max A (ix1 g) := by
  have h : k0_pay1 (F := Ideal) x (ix2 i 0) = Finset.univ.fold max (Ideal.ofBits .f32 0xFF800000#32) (fun k : Fin 1000 => x (ix2 i k)) := by
    pointwise [k0_pay1]
  rw [h, negInf_eq, r_max_ap]
  simp only [hx]

include hx in
theorem p0_exp (k : Fin 1000) : k0_pay2 (F := Ideal) x (ix2 i k) = Ideal.exp (r_sh A (ix2 g k)) := by
  have h : k0_pay2 (F := Ideal) x (ix2 i k) = Ideal.exp (x (ix2 i k) - k0_pay1 (F := Ideal) x (ix2 i 0)) := by
    pointwise [k0_pay2]
  rw [h, p0_max x A i g hx, hx, r_sh_ap]

include hx in
theorem p0_sum : k0_pay3 (F := Ideal) x (ix2 i 0) = r_sum A (ix1 g) := by
  have h : k0_pay3 (F := Ideal) x (ix2 i 0) = ∑ k : Fin 1000, k0_pay2 (F := Ideal) x (ix2 i k) := by
    pointwise [k0_pay3]
  rw [h, r_sum_ap]
  exact Finset.sum_congr rfl fun k _ => p0_exp x A i g hx k

include hx in
theorem p0_pred (k : Fin 1000) : k0_pay4 (F := Ideal) x (ix2 i k) = r_v10 A (ix2 g k) := by
  have h : k0_pay4 (F := Ideal) x (ix2 i k) = Ideal.div (k0_pay2 (F := Ideal) x (ix2 i k)) (k0_pay3 (F := Ideal) x (ix2 i 0)) := by
    pointwise [k0_pay4]
  rw [h, p0_exp x A i g hx, p0_sum x A i g hx, r_v10_ap]

include hx hy in
theorem p0_cost (k : Fin 1000) : k0_pay6 (F := Ideal) x y (ix2 i k) = r_v11 (r_v10 A) B (ix2 g k) := by
  have h : k0_pay6 (F := Ideal) x y (ix2 i k) = k0_pay4 (F := Ideal) x (ix2 i k) * y (ix2 i k) := by
    pointwise [k0_pay6]
  rw [h, p0_pred x A i g hx, hy, r_v11_ap]

include hx in
theorem p0_log (k : Fin 1000) : k0_pay5 (F := Ideal) x (ix2 i k) = r_v40 A (ix2 g k) := by
  have h : k0_pay5 (F := Ideal) x (ix2 i k)
      = x (ix2 i k) - k0_pay1 (F := Ideal) x (ix2 i 0) - Ideal.log (k0_pay3 (F := Ideal) x (ix2 i 0)) := by
    pointwise [k0_pay5]
  rw [h, p0_max x A i g hx, p0_sum x A i g hx, hx, r_v40_ap, r_sh_ap]

include hx hy in
theorem p0_rn : k0_pay7 (F := Ideal) x y (ix2 i 0) = r_v47 (r_v40 A) B (ix1 g) := by
  have h : k0_pay7 (F := Ideal) x y (ix2 i 0)
      = 0 - ∑ k : Fin 1000, k0_pay5 (F := Ideal) x (ix2 i k) * Ideal.div (y (ix2 i k)) (∑ j : Fin 1000, y (ix2 i j)) := by
    pointwise [k0_pay7]
  rw [h, r_v47_ap, zero_sub]
  simp only [hy, p0_log x A i g hx]

/-- The losses of the rows whose labels are `x` and whose log-predictions are `y`. -/
theorem p2_loss_aux : k2_pay5 (F := Ideal) x y (ix2 i 0) = 0 - ∑ k : Fin 1000, y (ix2 i k) * x (ix2 i k) := by
  have h3 : k2_pay3 (F := Ideal) x = x := shapeCast_self _ _
  pointwise [k2_pay5]
  rw [h3]

include hx hy in
theorem p2_loss : k2_pay5 (F := Ideal) x y (ix2 i 0) = r_v50 B A (ix1 g) := by
  rw [p2_loss_aux, r_v50_ap, zero_sub]
  simp only [hx, hy]

include hx in
theorem p2_cls : k2_pay6 (F := Ideal) x (ix2 i 0) = BitVec.ofNat 32 (top fun k => A (ix2 g k)).val := by
  have h : k2_pay6 (F := Ideal) x (ix2 i 0) = Finset.univ.fold IntOp.minsi 2147483647#32 (fun k : Fin 1000 =>
      if k2_pay3 (F := Ideal) x (ix2 i k) = Finset.univ.fold max (Ideal.ofBits .f32 0xFF800000#32) (fun j : Fin 1000 => k2_pay3 (F := Ideal) x (ix2 i j))
      then BitVec.ofNat 32 k.val else 1000#32) := by
    pointwise [k2_pay6]
  have h3 : k2_pay3 (F := Ideal) x = x := shapeCast_self _ _
  rw [h, h3, negInf_eq]
  simp only [hx]
  rw [fold_max]
  exact fold_min _

include hx hy in
theorem p2_conf : k2_pay7 (F := Ideal) x y (ix2 i 0)
    = BitVec.ofBool (decide (Ideal.ofBits .f32 0x3F7D70A4#32 < ∑ k : Fin 1000, A (ix2 g k) * B (ix2 g k))) := by
  have h : k2_pay7 (F := Ideal) x y (ix2 i 0)
      = BitVec.ofBool (decide (Ideal.ofBits .f32 0x3F7D70A4#32 < ∑ k : Fin 1000, k2_pay3 (F := Ideal) x (ix2 i k) * y (ix2 i k))) := by
    pointwise [k2_pay7]
  have h3 : k2_pay3 (F := Ideal) x = x := shapeCast_self _ _
  rw [h, h3]
  simp only [hx, hy]

end Block

/-- The confidence mark: one where the row is confident, else nothing. -/
theorem p2_mark (b : Bool) (a : IVec S512x1 1) (i : Fin 512) (h : a (ix2 i 0) = BitVec.ofBool b) :
    Ideal.ofBits .f32 0x3F000000#32 < k2_pay1 (F := Ideal) a (Scalar.ofBits .f32 0x3F800000#32) (Scalar.ofBits .f32 0x00000000#32) (ix2 i 0) ↔ b = true := by
  have e : k2_pay1 (F := Ideal) a (Scalar.ofBits .f32 0x3F800000#32) (Scalar.ofBits .f32 0x00000000#32) (ix2 i 0)
      = Scalar.select (a (ix2 i 0)) (Ideal.ofBits .f32 0x3F800000#32) (Ideal.ofBits .f32 0x00000000#32) := by
    pointwise [k2_pay1]
  have hh : Ideal.ofBits .f32 0x3F000000#32 = (((1 : ℝ) / 2 : ℝ) : EReal) := by
    simp [Ideal.ofBits, Ideal.ieee, -EReal.coe_mul]
    norm_num
  have h0 : Ideal.ofBits .f32 0x00000000#32 = (((0 : ℝ) : ℝ) : EReal) := by simp [Ideal.ofBits, Ideal.ieee]
  rw [e, h, Cert.ReferenceIdeal.Val.one_eq, hh, h0]
  cases b
  · have s : Scalar.select (BitVec.ofBool false) (1 : EReal) (((0 : ℝ) : EReal)) = ((0 : ℝ) : EReal) := rfl
    rw [s, EReal.coe_lt_coe_iff]
    norm_num
  · have s : Scalar.select (BitVec.ofBool true) (1 : EReal) (((0 : ℝ) : EReal)) = ((1 : ℝ) : EReal) := rfl
    rw [s, EReal.coe_lt_coe_iff]
    norm_num

theorem sum_pick (e : Fin 1000 → EReal) (c : Fin 1000) :
    ∑ k : Fin 1000, Scalar.select (IntOp.cmpi .eq (BitVec.ofNat 32 k.val) (BitVec.ofNat 32 c.val)) (e k) 0 = e c := by
  have h : ∀ k : Fin 1000, Scalar.select (IntOp.cmpi .eq (BitVec.ofNat 32 k.val) (BitVec.ofNat 32 c.val)) (e k) 0 = if k = c then e k else 0 := fun k => by
    have hk := k.isLt
    have hc := c.isLt
    by_cases hkc : k = c
    · rw [hkc, if_pos rfl]
      simp [IntOp.cmpi, Scalar.select]
    · rw [if_neg hkc]
      have : ¬ (BitVec.ofNat 32 k.val = BitVec.ofNat 32 c.val) := fun h' => by
        have h'' := congrArg BitVec.toNat h'
        rw [BitVec.toNat_ofNat, BitVec.toNat_ofNat] at h''
        exact hkc (Fin.ext (by omega))
      have hb : (BitVec.ofNat 32 k.val == BitVec.ofNat 32 c.val) = false := by simpa using this
      show Scalar.select (BitVec.ofBool (BitVec.ofNat 32 k.val == BitVec.ofNat 32 c.val)) (e k) 0 = 0
      rw [hb]
      rfl
  rw [Finset.sum_congr rfl fun k _ => h k]
  simp

/-- The quota of a row's class: the share picked out by a masked sum. -/
theorem p2_quota (E : FVec Ideal Cert.ReferenceIdeal.S1000x1 .f32)
    (w : FVec Ideal S1x1000 .f32) (hw : ∀ k : Fin 1000, w (ix2 0 k) = E (ix2 k 0))
    (p : IVec S512x1 32) (i : Fin 512) (c : Fin 1000) (hp : p (ix2 i 0) = BitVec.ofNat 32 c.val) :
    k2_pay2 (F := Ideal) (k2_pay4 (F := Ideal) w) (iota .tc S512x1000 32 [1] iota_S512x1000_d1_w32) p (ix2 i 0)
      = quota (Cert.ReferenceIdeal.Val.r_v15 E (ix2 c 0)) := by
  have h2 : ∀ (a : FVec Ideal S1x1000 .f32) (b : IVec S512x1000 32), k2_pay2 (F := Ideal) a b p (ix2 i 0)
      = FloatOps.fptosi (F := Ideal) (φ := .f32) 32 (Ideal.liftRound Int.ceil ((Ideal.ofBits .f32 0x45800000#32
        * ∑ x : Fin 1000, Scalar.select (IntOp.cmpi .eq (b (ix2 i x)) (p (ix2 i 0))) (a (ix2 0 x)) 0) * Ideal.ofBits .f32 0x3F000000#32)) := fun a b => by
    pointwise [k2_pay2]
  have h4 : ∀ k : Fin 1000, k2_pay4 (F := Ideal) w (ix2 0 k) = Cert.ReferenceIdeal.Val.r_v15 E (ix2 k 0) := fun k => by
    have : k2_pay4 (F := Ideal) w (ix2 0 k) = Ideal.div (w (ix2 0 k)) (∑ j : Fin 1000, w (ix2 0 j)) := by
      pointwise [k2_pay4]
      simp
    rw [this, Cert.ReferenceIdeal.Val.r_v15_ap]
    simp only [hw]
  have hi : ∀ k : Fin 1000, iota .tc S512x1000 32 [1] iota_S512x1000_d1_w32 (ix2 i k) = BitVec.ofNat 32 k.val := fun k => by
    pointwise []
  rw [h2, hp]
  simp only [hi, h4]
  rw [sum_pick fun k => Cert.ReferenceIdeal.Val.r_v15 E (ix2 k 0)]
  rfl

theorem cmp_class (a b : Fin 1000) : IntOp.cmpi .eq (BitVec.ofNat 32 a.val) (BitVec.ofNat 32 b.val) = BitVec.ofBool (decide (a = b)) := by
  have ha := a.isLt
  have hb := b.isLt
  by_cases h : a = b
  · rw [h, decide_eq_true rfl]
    simp [IntOp.cmpi]
  · have : ¬ (BitVec.ofNat 32 a.val = BitVec.ofNat 32 b.val) := fun h' => by
      have h'' := congrArg BitVec.toNat h'
      rw [BitVec.toNat_ofNat, BitVec.toNat_ofNat] at h''
      exact h (Fin.ext (by omega))
    have hb : (BitVec.ofNat 32 a.val == BitVec.ofNat 32 b.val) = false := by simpa using this
    show BitVec.ofBool (BitVec.ofNat 32 a.val == BitVec.ofNat 32 b.val) = _
    rw [hb, decide_eq_false h]

theorem sum_mark (P : Fin 4096 → Prop) [DecidablePred P] :
    ∑ j : Fin 4096, Scalar.select (BitVec.ofBool (decide (P j))) (1 : EReal) 0 = ((Finset.univ.filter P).card : EReal) := by
  rw [← Finset.sum_boole]
  refine Finset.sum_congr rfl fun j _ => ?_
  by_cases h : P j
  · rw [decide_eq_true h, if_pos h]
    rfl
  · rw [decide_eq_false h, if_neg h]
    rfl

section Select

variable (t : ℕ) (ht : t < 8) (a : grid3.Coords) (ha : (a 0).val = t) (i : Fin 512) (g : Fin 4096) (hg : g.val = 512 * t + i.val)
  (idx : Fin 4096 → Fin 1000) (loss : Fin 4096 → EReal)
  (x0 : IVec S512x1 32) (x1 : FVec Ideal S512x1 .f32) (x5 : IVec S1x4096 32) (x6 : FVec Ideal S1x4096 .f32)
  (h0 : x0 (ix2 i 0) = BitVec.ofNat 32 (idx g).val) (h1 : x1 (ix2 i 0) = loss g)
  (h5 : ∀ j : Fin 4096, x5 (ix2 0 j) = BitVec.ofNat 32 (idx j).val) (h6 : ∀ j : Fin 4096, x6 (ix2 0 j) = loss j)

include h0 h5 in
theorem p3_same (j : Fin 4096) : k3_pay3 (F := Ideal) x0 x5 (ix2 i j) = BitVec.ofBool (decide (idx j = idx g)) := by
  have h : k3_pay3 (F := Ideal) x0 x5 (ix2 i j) = IntOp.cmpi .eq (x5 (ix2 0 j)) (x0 (ix2 i 0)) := by
    pointwise [k3_pay3]
  rw [h, h0, h5, cmp_class]

include h0 h5 in
theorem p3_cnt : k3_pay5 (F := Ideal) x0 x5 (ix2 i 0) = (cnt idx (idx g).val : EReal) := by
  have h : k3_pay5 (F := Ideal) x0 x5 (ix2 i 0) = ∑ j : Fin 4096, Scalar.select (k3_pay3 (F := Ideal) x0 x5 (ix2 i j)) (1 : EReal) 0 := by
    pointwise [k3_pay5]
  rw [h]
  simp only [p3_same i g idx x0 x5 h0 h5]
  rw [sum_mark]
  unfold cnt
  simp only [Fin.ext_iff]

include ht ha hg h0 h1 h5 h6 in
theorem p3_rank : k3_pay4 (F := Ideal) a x0 x1 x5 x6 (ix2 i 0) = (rank idx loss g : EReal) := by
  have hi := i.isLt
  have h2 : k3_pay2 (F := Ideal) x1 = x1 := shapeCast_self _ _
  have h : k3_pay4 (F := Ideal) a x0 x1 x5 x6 (ix2 i 0)
      = ∑ j : Fin 4096, Scalar.select (IntOp.andi (k3_pay3 (F := Ideal) x0 x5 (ix2 i j)) (IntOp.ori
          (BitVec.ofBool (decide (x6 (ix2 0 j) < k3_pay2 (F := Ideal) x1 (ix2 i 0))))
          (IntOp.andi (BitVec.ofBool (decide (x6 (ix2 0 j) = k3_pay2 (F := Ideal) x1 (ix2 i 0))))
            (IntOp.cmpi .slt (BitVec.ofNat 32 j.val) (IntOp.addi (Scalar.muli (BitVec.ofNat 32 (a 0).val) 512#32) (BitVec.ofNat 32 i.val)))))) (1 : EReal) 0 := by
    pointwise [k3_pay4]
  have hpos : IntOp.addi (Scalar.muli (BitVec.ofNat 32 (a 0).val) 512#32) (BitVec.ofNat 32 i.val) = BitVec.ofNat 32 g.val := by
    rw [ha, hg]
    show BitVec.ofNat 32 t * 512#32 + BitVec.ofNat 32 i.val = _
    rw [← BitVec.ofNat_mul, ← BitVec.ofNat_add, Nat.mul_comm]
  have hlt : ∀ j : Fin 4096, IntOp.cmpi .slt (BitVec.ofNat 32 j.val) (BitVec.ofNat 32 g.val) = BitVec.ofBool (decide (j < g)) := fun j => by
    have hj := j.isLt
    have hg' := g.isLt
    have e : IntOp.cmpi .slt (BitVec.ofNat 32 j.val) (BitVec.ofNat 32 g.val)
        = BitVec.ofBool (decide ((BitVec.ofNat 32 j.val).toInt < (BitVec.ofNat 32 g.val).toInt)) := rfl
    rw [e, toInt_ofNat _ (by omega), toInt_ofNat _ (by omega)]
    simp only [Nat.cast_lt, Fin.lt_def]
  have hw : ∀ p q r s : Bool, IntOp.andi (BitVec.ofBool p) (IntOp.ori (BitVec.ofBool q) (IntOp.andi (BitVec.ofBool r) (BitVec.ofBool s)))
      = BitVec.ofBool (p && (q || (r && s))) := by decide
  rw [h, h2, hpos, h1]
  simp only [p3_same i g idx x0 x5 h0 h5, h6, hlt, hw]
  have hP : ∀ j : Fin 4096, (decide (idx j = idx g) && (decide (loss j < loss g) || (decide (loss j = loss g) && decide (j < g))))
      = decide (idx j = idx g ∧ InFront loss j g) := fun j => by
    unfold InFront
    rw [← Bool.decide_and, ← Bool.decide_or, ← Bool.decide_and]
    congr
  simp only [hP]
  rw [sum_mark]
  rfl

include ht ha hg h0 h1 h5 h6 in
theorem p3_out (x2 : IVec S512x1 32) (x3 x4 : FVec Ideal S512x1 .f32) (kc : BitVec 32) (s y : EReal)
    (h2 : x2 (ix2 i 0) = kc) (h3 : Ideal.ofBits .f32 0x3F000000#32 < x3 (ix2 i 0) ↔ Ideal.ofBits .f32 0x3F7D70A4#32 < s) (h4 : x4 (ix2 i 0) = y) :
    k3_pay1 (F := Ideal) (k3_pay2 (F := Ideal) x1) (k3_pay4 (F := Ideal) a x0 x1 x5 x6) (k3_pay5 (F := Ideal) x0 x5) (k3_pay6 (F := Ideal) x2)
      (k3_pay7 (F := Ideal)) x3 x4 (ix2 i 0) = chosen (rank idx loss g) (cnt idx (idx g).val) kc s (loss g) y := by
  have hp2 : k3_pay2 (F := Ideal) x1 = x1 := shapeCast_self _ _
  have e : ∀ (p b c d o f q : FVec Ideal S512x1 .f32), k3_pay1 (F := Ideal) p b c d o f q (ix2 i 0)
      = Scalar.select (IntOp.ori (BitVec.ofBool (decide (b (ix2 i 0) < min (max (d (ix2 i 0)) (o (ix2 i 0))) (max (c (ix2 i 0)) 1))))
          (BitVec.ofBool (decide (Ideal.ofBits .f32 0x3F000000#32 < f (ix2 i 0))))) (p (ix2 i 0)) (q (ix2 i 0)) := fun p b c d o f q => by
    pointwise [k3_pay1]
  have e6 : k3_pay6 (F := Ideal) x2 (ix2 i 0) = num kc := by
    have : k3_pay6 (F := Ideal) x2 (ix2 i 0) = FloatOps.sitofp (F := Ideal) .f32 (x2 (ix2 i 0)) := by pointwise [k3_pay6]
    rw [this, h2]
    rfl
  have e7 : k3_pay7 (F := Ideal) (ix2 i 0) = 1 := by
    pointwise [k3_pay7]
  rw [e, e6, e7, p3_rank t ht a ha i g hg idx loss x0 x1 x5 x6 h0 h1 h5 h6, p3_cnt i g idx x0 x5 h0 h5, hp2, h1, h4]
  have hor : ∀ p q : Bool, IntOp.ori (BitVec.ofBool p) (BitVec.ofBool q) = BitVec.ofBool (p || q) := by decide
  rw [hor, ← Bool.decide_or]
  unfold chosen
  have key : ∀ (A B C : Prop) {i1 : Decidable (A ∨ B)} {i2 : Decidable (A ∨ C)} (u v : EReal), (B ↔ C) →
      Scalar.select (α := EReal) (BitVec.ofBool (decide (A ∨ B))) u v = if A ∨ C then u else v := fun A B C _ _ u v h => by
    have h' := or_congr (Iff.refl A) h
    split
    · next q => rw [decide_eq_true (h'.2 q)]; rfl
    · next q => rw [decide_eq_false (fun w => q (h'.1 w))]; rfl
  unfold Taken
  exact key _ _ _ _ _ h3

end Select

end Cert.KernelIdeal.Val
-- ==== Proof.Step1I.lean ====
module

public import proofs.«01_k».proof.Proof.Sched1I
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

public import Idealize.ShloMosaic.Lib.Pipeline.ValueKit.Point
import Idealize.ShloMosaic.Lib.Pointwise

@[expose] public section

set_option maxRecDepth 16384

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Dat BodyObligation)

variable {F : FTy → Type} [FloatOps F] [Named F]

local notation "𝕄" => MT nD τ sig Unit (Elt F) ℕ (UR sig nD τ) ℕ

/-! ## The blocks of the Sinkhorn windows -/

section Blocks
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Block `j` of the queue's 32. -/
def qb (X : Vec F S32768x1000 .f32) (j : ℕ) : Vec F S1024x1000 .f32 :=
  VecWindow.window X ![1024 * min j 31, 0] S1024x1000.size (fun a => by
    fin_cases a
    · show 1024 * min j 31 + 1024 ≤ 32768
      omega
    · show 0 + 1000 ≤ 1000
      omega)
/-- Block `k` of the samples' 4. -/
def cb (X : Vec F S4096x1000 .f32) (k : ℕ) : Vec F S1024x1000 .f32 :=
  VecWindow.window X ![1024 * min k 3, 0] S1024x1000.size (fun a => by
    fin_cases a
    · show 1024 * min k 3 + 1024 ≤ 4096
      omega
    · show 0 + 1000 ≤ 1000
      omega)

theorem tr0 (t : Fin cfg1.N) (h : t.val / 36 ≤ 50) : cc1_transform_0 (grid1.coords t) = ![min (t.val % 36) 31, 0] := by
  have := two (fun p j => p ≤ 50 → ((Scalar.select (Scalar.cmpi .sgt (BitVec.ofNat 32 p) 50#32) 31#32 (Scalar.minsi (BitVec.ofNat 32 j) 31#32)) : BitVec 32).toNat = min j 31) (by decide +kernel) (grid1.coords t)
  rw [(crd t).1, (crd t).2] at this
  have h2 := this h
  unfold cc1_transform_0; dsimp only; rw [(crd t).1, (crd t).2, h2]; rfl
theorem tr1 (t : Fin cfg1.N) (h : 32 ≤ t.val % 36) : cc1_transform_1 (grid1.coords t) = ![min (t.val % 36 - 32) 3, 0] := by
  have := two (fun p j => 32 ≤ j → ((Scalar.select (Scalar.cmpi .slt (BitVec.ofNat 32 j) 32#32) 3#32 (Scalar.subi (BitVec.ofNat 32 j) 32#32)) : BitVec 32).toNat = min (j - 32) 3) (by decide +kernel) (grid1.coords t)
  rw [(crd t).2] at this
  have h2 := this h
  unfold cc1_transform_1; dsimp only; rw [(crd t).2, h2]; rfl
theorem tr3 (t : Fin cfg1.N) (h : 1836 ≤ t.val) (h' : 32 ≤ t.val % 36) : cc1_transform_3 (grid1.coords t) = ![t.val % 36 - 32, 0] := by
  have := two (fun p j => 50 < p → 32 ≤ j → ((Scalar.select (Scalar.cmpi .sle (BitVec.ofNat 32 p) 50#32) 0#32 (Scalar.minsi 3#32 (Scalar.maxsi 0#32 (Scalar.subi (BitVec.ofNat 32 j) 32#32)))) : BitVec 32).toNat = j - 32) (by decide +kernel) (grid1.coords t)
  rw [(crd t).1, (crd t).2] at this
  have h2 := this (by omega) h'
  unfold cc1_transform_3; dsimp only; rw [(crd t).1, (crd t).2, h2]; rfl

theorem iblk1_0 (c : Dev nD) (t : Fin cfg1.N) (h : t.val / 36 ≤ 50) (h' : t.val % 36 < 32) : iblk1 V c 0 t = qb (V c main_arg2) (t.val % 36) := by
  have e : win1_0.index t = ![min (t.val % 36) 31, 0] := tr0 t h
  funext y
  unfold qb VecWindow.window
  blk_ext [iblk1, e]
theorem iblk1_1 (c : Dev nD) (t : Fin cfg1.N) (h : 32 ≤ t.val % 36) : iblk1 V c 1 t = cb (V c main_v2_1) (t.val % 36 - 32) := by
  have e : win1_1.index t = ![min (t.val % 36 - 32) 3, 0] := tr1 t h
  funext y
  unfold cb VecWindow.window
  blk_ext [iblk1, e]
theorem iblk1_2 (c : Dev nD) (t : Fin cfg1.N) : iblk1 V c 2 t = V c main_v1 := by
  have e : win1_2.index t = ![0, 0] := rfl
  funext y
  blk_ext [iblk1, e]
end Blocks

/-! ## The body at a point, with what it leaves known -/

section Step
variable (c : Dev nD) (E : Set ℕ) (i : grid1.Coords) (arg2 : Memref sig .tc .vmem S1024x1000 .f32) (harg2 : arg2.IsWhole) (arg3 : Memref sig .tc .vmem S1024x1000 .f32) (harg3 : arg3.IsWhole) (arg4 : Memref sig .tc .vmem S8x1000 .f32) (harg4 : arg4.IsWhole) (arg5 : Memref sig .tc .vmem S1024x1000 .f32) (harg5 : arg5.IsWhole) (arg6 : Memref sig .tc .vmem S1x1000 .f32) (harg6 : arg6.IsWhole) (arg7 : Memref sig .tc .vmem S1x1000 .f32) (harg7 : arg7.IsWhole) (arg8 : Memref sig .tc .vmem S4096x1 .f32) (harg8 : arg8.IsWhole) (arg9 : Memref sig .tc .smem S4 .f32) (harg9 : arg9.IsWhole)
    (x0 x1 : Vec F S1024x1000 .f32) (x2 : Vec F S8x1000 .f32) (y3 : Vec F S1024x1000 .f32) (s : St F) (q cc : ℕ → Vec F S1024x1000 .f32)

/-- What a point leaves: the state of the recursion, and the output block at the last pass's sample blocks. -/
def Leaves (s' : St F) (y' : Vec F S1024x1000 .f32) : Prop :=
  Done (rowOf x2) q cc (i 0).val (i 1).val s' ∧ (¬ k1_cond10 i = 1#1 → y' = y3) ∧ (k1_cond10 i = 1#1 → y' = fin (rowOf x2) q cc ((i 1).val - 32))

set_option maxHeartbeats 1000000 in
theorem sound_step
    (hx0 : (i 0).val ≤ 50 → (i 1).val < 32 → x0 = q (i 1).val) (hx1 : 32 ≤ (i 1).val → x1 = cc ((i 1).val - 32))
    (hprev : 0 < (i 1).val → Done (rowOf x2) q cc (i 0).val ((i 1).val - 1) s) (hprev0 : (i 1).val = 0 → 0 < (i 0).val → Done (rowOf x2) q cc ((i 0).val - 1) 35 s)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ scr c arg6 arg7 arg8 arg9 s
        ∗ (∀ s' y', iprop(⌜Leaves i x2 y3 q cc s' y'⌝ ∗ owns (c : Thread nD τ) arg2 fullShare x0 ∗ owns (c : Thread nD τ) arg3 fullShare x1 ∗ owns (c : Thread nD τ) arg4 fullShare x2 ∗ owns (c : Thread nD τ) arg5 fullShare y' ∗ scr c arg6 arg7 arg8 arg9 s') -∗ K ⟨⟩))
      ⊢ wp frame (wpE (defs₀ (F := F)) Variants.none c none) E (cc1__sinkhorn_body i arg2 harg2 arg3 harg3 arg4 harg4 arg5 harg5 arg6 harg6 arg7 harg7 arg8 harg8 arg9 harg9) K := by
  have hp52 : (i 0).val < 52 := (i 0).isLt
  have hj36 : (i 1).val < 36 := (i 1).isLt
  have hpos : ∀ n : ℕ, 0 < n → n = n - 1 + 1 := fun n h => by omega
  by_cases h0 : (i 1).val = 0
  · by_cases hp0 : (i 0).val = 0
    ·
      skip
      refine BIBase.Entails.trans ?_ (sound_A c E i arg2 harg2 arg3 harg3 arg4 harg4 arg5 harg5 arg6 harg6 arg7 harg7 arg8 harg8 arg9 harg9 x0 x1 x2 y3 s (by rw [q1_iff]; omega) (by rw [q2_iff]; omega) (by rw [q3_iff]; omega) (by rw [q4_iff]; omega) (by rw [q5_iff]; omega) (by rw [c6_iff]; omega) (by rw [c8_iff]; omega) (by rw [c9_iff]; omega) (by rw [c10_iff]; omega) K)
      iintro ⟨H0, H1, H2, H3, Hs, Hk⟩
      isplitl [H0]; · iexact H0
      isplitl [H1]; · iexact H1
      isplitl [H2]; · iexact H2
      isplitl [H3]; · iexact H3
      isplitl [Hs]; · iexact Hs
      iintro ⟨H0, H1, H2, H3, Hs⟩
      iapply Hk $$ %(q0 x0 (zero i s)) %y3
      isplitr
      · ipureintro
        refine ⟨?_, fun _ => rfl, fun h => absurd h (by rw [c10_iff]; omega)⟩
        rw [hx0 (by omega) (by omega)]
        rw [h0, hp0]; exact done_A i hp0 s
      isplitl [H0]; · iexact H0
      isplitl [H1]; · iexact H1
      isplitl [H2]; · iexact H2
      isplitl [H3]; · iexact H3
      iexact Hs
    by_cases hp : (i 0).val ≤ 50
    ·
      skip
      refine BIBase.Entails.trans ?_ (sound_D c E i arg2 harg2 arg3 harg3 arg4 harg4 arg5 harg5 arg6 harg6 arg7 harg7 arg8 harg8 arg9 harg9 x0 x1 x2 y3 s (by rw [q1_iff]; omega) (by rw [q2_iff]; omega) (by rw [q3_iff]; omega) (by rw [q4_iff]; omega) (by rw [q5_iff]; omega) (by rw [c6_iff]; omega) (by rw [c8_iff]; omega) (by rw [c10_iff]; omega) K)
      iintro ⟨H0, H1, H2, H3, Hs, Hk⟩
      isplitl [H0]; · iexact H0
      isplitl [H1]; · iexact H1
      isplitl [H2]; · iexact H2
      isplitl [H3]; · iexact H3
      isplitl [Hs]; · iexact Hs
      iintro ⟨H0, H1, H2, H3, Hs⟩
      iapply Hk $$ %(q1 x0 (zero i (dRow (rowOf x2) s))) %y3
      isplitr
      · ipureintro
        refine ⟨?_, fun _ => rfl, fun h => absurd h (by rw [c10_iff]; omega)⟩
        rw [hx0 (by omega) (by omega)]
        have hd := hprev0 h0 (by omega)
        rw [h0, hpos _ (by omega : 0 < (i 0).val)]
        exact done_D i (hpos _ (by omega)) (by omega) hd
      isplitl [H0]; · iexact H0
      isplitl [H1]; · iexact H1
      isplitl [H2]; · iexact H2
      isplitl [H3]; · iexact H3
      iexact Hs
    ·
      skip
      refine BIBase.Entails.trans ?_ (sound_H c E i arg2 harg2 arg3 harg3 arg4 harg4 arg5 harg5 arg6 harg6 arg7 harg7 arg8 harg8 arg9 harg9 x0 x1 x2 y3 s (by rw [q1_iff]; omega) (by rw [q2_iff]; omega) (by rw [q3_iff]; omega) (by rw [q4_iff]; omega) (by rw [q5_iff]; omega) (by rw [c6_iff]; omega) (by rw [c8_iff]; omega) (fun h => hp ((c9_iff i).1 h).le) (fun h => absurd ((c10_iff i).1 h).2 (by omega)) K)
      iintro ⟨H0, H1, H2, H3, Hs, Hk⟩
      isplitl [H0]; · iexact H0
      isplitl [H1]; · iexact H1
      isplitl [H2]; · iexact H2
      isplitl [H3]; · iexact H3
      isplitl [Hs]; · iexact Hs
      iintro ⟨H0, H1, H2, H3, Hs⟩
      iapply Hk $$ %s %y3
      isplitr
      · ipureintro
        refine ⟨?_, fun _ => rfl, fun h => absurd h (by rw [c10_iff]; omega)⟩
        have hd := hprev0 h0 (by omega)
        rw [h0, show (i 0).val = 51 from by omega]
        exact done_H0 (by rwa [show (i 0).val - 1 = 50 from by omega] at hd)
      isplitl [H0]; · iexact H0
      isplitl [H1]; · iexact H1
      isplitl [H2]; · iexact H2
      isplitl [H3]; · iexact H3
      iexact Hs
  have hd := hprev (by omega)
  by_cases hj : (i 1).val < 32
  · by_cases hp0 : (i 0).val = 0
    ·
      skip
      refine BIBase.Entails.trans ?_ (sound_B c E i arg2 harg2 arg3 harg3 arg4 harg4 arg5 harg5 arg6 harg6 arg7 harg7 arg8 harg8 arg9 harg9 x0 x1 x2 y3 s (by rw [q1_iff]; omega) (by rw [q2_iff]; omega) (by rw [q3_iff]; omega) (by rw [q4_iff]; omega) (by rw [q5_iff]; omega) (by rw [c6_iff]; omega) (by rw [c8_iff]; omega) (by rw [c9_iff]; omega) (by rw [c10_iff]; omega) K)
      iintro ⟨H0, H1, H2, H3, Hs, Hk⟩
      isplitl [H0]; · iexact H0
      isplitl [H1]; · iexact H1
      isplitl [H2]; · iexact H2
      isplitl [H3]; · iexact H3
      isplitl [Hs]; · iexact Hs
      iintro ⟨H0, H1, H2, H3, Hs⟩
      iapply Hk $$ %(q0 x0 s) %y3
      isplitr
      · ipureintro
        refine ⟨?_, fun _ => rfl, fun h => absurd h (by rw [c10_iff]; omega)⟩
        rw [hx0 (by omega) (by omega)]
        rw [hp0] at hd ⊢; rw [hpos _ (by omega : 0 < (i 1).val)]
        exact done_B (by omega) hd
      isplitl [H0]; · iexact H0
      isplitl [H1]; · iexact H1
      isplitl [H2]; · iexact H2
      isplitl [H3]; · iexact H3
      iexact Hs
    by_cases hp : (i 0).val ≤ 50
    ·
      skip
      refine BIBase.Entails.trans ?_ (sound_E c E i arg2 harg2 arg3 harg3 arg4 harg4 arg5 harg5 arg6 harg6 arg7 harg7 arg8 harg8 arg9 harg9 x0 x1 x2 y3 s (by rw [q1_iff]; omega) (by rw [q2_iff]; omega) (by rw [q3_iff]; omega) (by rw [q4_iff]; omega) (by rw [q5_iff]; omega) (by rw [c6_iff]; omega) (by rw [c8_iff]; omega) (by rw [c10_iff]; omega) K)
      iintro ⟨H0, H1, H2, H3, Hs, Hk⟩
      isplitl [H0]; · iexact H0
      isplitl [H1]; · iexact H1
      isplitl [H2]; · iexact H2
      isplitl [H3]; · iexact H3
      isplitl [Hs]; · iexact Hs
      iintro ⟨H0, H1, H2, H3, Hs⟩
      iapply Hk $$ %(q1 x0 s) %y3
      isplitr
      · ipureintro
        refine ⟨?_, fun _ => rfl, fun h => absurd h (by rw [c10_iff]; omega)⟩
        rw [hx0 (by omega) (by omega)]
        rw [hpos _ (by omega : 0 < (i 1).val)]
        exact done_E (by omega) hp (by omega) hd
      isplitl [H0]; · iexact H0
      isplitl [H1]; · iexact H1
      isplitl [H2]; · iexact H2
      isplitl [H3]; · iexact H3
      iexact Hs
    ·
      skip
      refine BIBase.Entails.trans ?_ (sound_H c E i arg2 harg2 arg3 harg3 arg4 harg4 arg5 harg5 arg6 harg6 arg7 harg7 arg8 harg8 arg9 harg9 x0 x1 x2 y3 s (by rw [q1_iff]; omega) (by rw [q2_iff]; omega) (by rw [q3_iff]; omega) (by rw [q4_iff]; omega) (by rw [q5_iff]; omega) (by rw [c6_iff]; omega) (by rw [c8_iff]; omega) (fun h => hp ((c9_iff i).1 h).le) (fun h => absurd ((c10_iff i).1 h).2 (by omega)) K)
      iintro ⟨H0, H1, H2, H3, Hs, Hk⟩
      isplitl [H0]; · iexact H0
      isplitl [H1]; · iexact H1
      isplitl [H2]; · iexact H2
      isplitl [H3]; · iexact H3
      isplitl [Hs]; · iexact Hs
      iintro ⟨H0, H1, H2, H3, Hs⟩
      iapply Hk $$ %s %y3
      isplitr
      · ipureintro
        refine ⟨?_, fun _ => rfl, fun h => absurd h (by rw [c10_iff]; omega)⟩
        rw [show (i 0).val = 51 from by omega] at hd ⊢; rw [hpos _ (by omega : 0 < (i 1).val)]
        exact done_H hd
      isplitl [H0]; · iexact H0
      isplitl [H1]; · iexact H1
      isplitl [H2]; · iexact H2
      isplitl [H3]; · iexact H3
      iexact Hs
  by_cases hp0 : (i 0).val = 0
  ·
    skip
    refine BIBase.Entails.trans ?_ (sound_C c E i arg2 harg2 arg3 harg3 arg4 harg4 arg5 harg5 arg6 harg6 arg7 harg7 arg8 harg8 arg9 harg9 x0 x1 x2 y3 s (by rw [q1_iff]; omega) (by rw [q2_iff]; omega) (by rw [q3_iff]; omega) (by rw [q4_iff]; omega) (by rw [q5_iff]; omega) (by rw [c6_iff]; omega) (by rw [c8_iff]; omega) (by rw [c9_iff]; omega) (by rw [c10_iff]; omega) K)
    iintro ⟨H0, H1, H2, H3, Hs, Hk⟩
    isplitl [H0]; · iexact H0
    isplitl [H1]; · iexact H1
    isplitl [H2]; · iexact H2
    isplitl [H3]; · iexact H3
    isplitl [Hs]; · iexact Hs
    iintro ⟨H0, H1, H2, H3, Hs⟩
    iapply Hk $$ %(p0 x1 s) %y3
    isplitr
    · ipureintro
      refine ⟨?_, fun _ => rfl, fun h => absurd h (by rw [c10_iff]; omega)⟩
      rw [hx1 (by omega)]
      rw [hp0] at hd ⊢; rw [hpos _ (by omega : 0 < (i 1).val)]
      exact done_C (by omega) hd
    isplitl [H0]; · iexact H0
    isplitl [H1]; · iexact H1
    isplitl [H2]; · iexact H2
    isplitl [H3]; · iexact H3
    iexact Hs
  by_cases hp : (i 0).val < 50
  ·
    skip
    refine BIBase.Entails.trans ?_ (sound_F c E i arg2 harg2 arg3 harg3 arg4 harg4 arg5 harg5 arg6 harg6 arg7 harg7 arg8 harg8 arg9 harg9 x0 x1 x2 y3 s (by rw [q1_iff]; omega) (by rw [q2_iff]; omega) (by rw [q3_iff]; omega) (by rw [q4_iff]; omega) (by rw [q5_iff]; omega) (by rw [c6_iff]; omega) (by rw [c8_iff]; omega) (by rw [c9_iff]; omega) (by rw [c10_iff]; omega) K)
    iintro ⟨H0, H1, H2, H3, Hs, Hk⟩
    isplitl [H0]; · iexact H0
    isplitl [H1]; · iexact H1
    isplitl [H2]; · iexact H2
    isplitl [H3]; · iexact H3
    isplitl [Hs]; · iexact Hs
    iintro ⟨H0, H1, H2, H3, Hs⟩
    iapply Hk $$ %(p1 x1 s) %y3
    isplitr
    · ipureintro
      refine ⟨?_, fun _ => rfl, fun h => absurd h (by rw [c10_iff]; omega)⟩
      rw [hx1 (by omega)]
      rw [hpos _ (by omega : 0 < (i 1).val)]
      exact done_F (by omega) hp (by omega) hd
    isplitl [H0]; · iexact H0
    isplitl [H1]; · iexact H1
    isplitl [H2]; · iexact H2
    isplitl [H3]; · iexact H3
    iexact Hs
  by_cases hp1 : (i 0).val = 50
  ·
    skip
    refine BIBase.Entails.trans ?_ (sound_G c E i arg2 harg2 arg3 harg3 arg4 harg4 arg5 harg5 arg6 harg6 arg7 harg7 arg8 harg8 arg9 harg9 x0 x1 x2 y3 s (by rw [q1_iff]; omega) (by rw [q2_iff]; omega) (by rw [q3_iff]; omega) (by rw [q4_iff]; omega) (by rw [q5_iff]; omega) (by rw [c6_iff]; omega) (by rw [c8_iff]; omega) (by rw [c9_iff]; omega) (by rw [c10_iff]; omega) K)
    iintro ⟨H0, H1, H2, H3, Hs, Hk⟩
    isplitl [H0]; · iexact H0
    isplitl [H1]; · iexact H1
    isplitl [H2]; · iexact H2
    isplitl [H3]; · iexact H3
    isplitl [Hs]; · iexact Hs
    iintro ⟨H0, H1, H2, H3, Hs⟩
    iapply Hk $$ %(keep i x1 (p1 x1 s)) %y3
    isplitr
    · ipureintro
      refine ⟨?_, fun _ => rfl, fun h => absurd h (by rw [c10_iff]; omega)⟩
      rw [hx1 (by omega)]
      rw [hp1] at hd ⊢; rw [hpos _ (by omega : 0 < (i 1).val)]
      exact done_G i (hpos _ (by omega)) (by omega) (by omega) hd
    isplitl [H0]; · iexact H0
    isplitl [H1]; · iexact H1
    isplitl [H2]; · iexact H2
    isplitl [H3]; · iexact H3
    iexact Hs
  have h10 : k1_cond10 i = 1#1 := by rw [c10_iff]; omega
  refine BIBase.Entails.trans ?_ (sound_I c E i arg2 harg2 arg3 harg3 arg4 harg4 arg5 harg5 arg6 harg6 arg7 harg7 arg8 harg8 arg9 harg9 x0 x1 x2 y3 s (by rw [q1_iff]; omega) (by rw [q2_iff]; omega) (by rw [q3_iff]; omega) (by rw [q4_iff]; omega) (by rw [q5_iff]; omega) (by rw [c6_iff]; omega) (by rw [c8_iff]; omega) (by rw [c9_iff]; omega) h10 K)
  iintro ⟨H0, H1, H2, H3, Hs, Hk⟩
  isplitl [H0]; · iexact H0
  isplitl [H1]; · iexact H1
  isplitl [H2]; · iexact H2
  isplitl [H3]; · iexact H3
  isplitl [Hs]; · iexact Hs
  iintro ⟨H0, H1, H2, H3, Hs⟩
  iapply Hk $$ %s %(k1_pay17 (rowOf x2) s.u (w0 s.sc) (VecWindow.window s.cl (k1_off2 i) S1024x1.size (k1_off2_inb i h10)) x1)
  isplitr
  · ipureintro
    have hd' : Done (rowOf x2) q cc 51 ((i 1).val - 1) s := by rwa [show (i 0).val = 51 from by omega] at hd
    refine ⟨?_, fun h => absurd h10 h, fun _ => ?_⟩
    · rw [show (i 0).val = 51 from by omega, hpos _ (by omega : 0 < (i 1).val)]; exact done_H hd'
    · rw [hx1 (by omega)]; exact done_out i (by omega) hj36 hd' _
  isplitl [H0]; · iexact H0
  isplitl [H1]; · iexact H1
  isplitl [H2]; · iexact H2
  isplitl [H3]; · iexact H3
  iexact Hs

end Step
end Cert.KernelIdeal.Whole

end
-- ==== Proof.WholeI.lean ====
module

public import proofs.«01_k».proof.Proof.Step1I
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

public import Idealize.ShloMosaic.Lib.Pipeline.ValueKit.Point
import Idealize.ShloMosaic.Lib.Pointwise

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__prologue_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S512x1000 := Rect.unit (s := S512x1000) ![0, 0] S512x1000.size inb_S512x1000_S512x1000_0_0
abbrev r0_1 : Rect S512x1 := Rect.unit (s := S512x1) ![0, 0] S512x1.size inb_S512x1_S512x1_0_0

/-! ## What the body leaves in each output window's buffer -/

/-- Window 2's staging buffer after the body, from the input windows' blocks: its 1 store as pieces, LAST
    FIRST (Lib/Pipeline/FrameBody.lean `View.canon`; the payloads are the skeleton's). -/
def out0_2 (x0 : Vec F S512x1000 .f32) (x1 : Vec F S512x1000 .f32) : Vec F S512x1000 .f32 :=
  View.canon [⟨r0_0, k0_pay4 (View.ld x0 r0_0)⟩]

/-- Its stores tile the buffer (checked by evaluation), so they cover it. -/
theorem cover0_2 (p0 : Vec F S512x1000 .f32) (y : S512x1000.Idx) :
    ∃ pc ∈ ([⟨r0_0, p0⟩] : List (View.Piece (Elt F) S512x1000 .f32)), y ∈ pc.1.set :=
  View.cover_of_tiled [⟨r0_0, p0⟩] S512x1000.size (by rfl) y

/-- Window 3's staging buffer after the body, from the input windows' blocks: its 1 store as pieces, LAST
    FIRST (Lib/Pipeline/FrameBody.lean `View.canon`; the payloads are the skeleton's). -/
def out0_3 (x0 : Vec F S512x1000 .f32) (x1 : Vec F S512x1000 .f32) : Vec F S512x1000 .f32 :=
  View.canon [⟨r0_0, k0_pay6 (View.ld x0 r0_0) (View.ld x1 r0_0)⟩]

/-- Its stores tile the buffer (checked by evaluation), so they cover it. -/
theorem cover0_3 (p0 : Vec F S512x1000 .f32) (y : S512x1000.Idx) :
    ∃ pc ∈ ([⟨r0_0, p0⟩] : List (View.Piece (Elt F) S512x1000 .f32)), y ∈ pc.1.set :=
  View.cover_of_tiled [⟨r0_0, p0⟩] S512x1000.size (by rfl) y

/-- Window 4's staging buffer after the body, from the input windows' blocks: its 1 store as pieces, LAST
    FIRST (Lib/Pipeline/FrameBody.lean `View.canon`; the payloads are the skeleton's). -/
def out0_4 (x0 : Vec F S512x1000 .f32) (x1 : Vec F S512x1000 .f32) : Vec F S512x1000 .f32 :=
  View.canon [⟨r0_0, k0_pay5 (View.ld x0 r0_0)⟩]

/-- Its stores tile the buffer (checked by evaluation), so they cover it. -/
theorem cover0_4 (p0 : Vec F S512x1000 .f32) (y : S512x1000.Idx) :
    ∃ pc ∈ ([⟨r0_0, p0⟩] : List (View.Piece (Elt F) S512x1000 .f32)), y ∈ pc.1.set :=
  View.cover_of_tiled [⟨r0_0, p0⟩] S512x1000.size (by rfl) y

/-- Window 5's staging buffer after the body, from the input windows' blocks: its 1 store as pieces, LAST
    FIRST (Lib/Pipeline/FrameBody.lean `View.canon`; the payloads are the skeleton's). -/
def out0_5 (x0 : Vec F S512x1000 .f32) (x1 : Vec F S512x1000 .f32) : Vec F S512x1 .f32 :=
  View.canon [⟨r0_1, k0_pay7 (View.ld x0 r0_0) (View.ld x1 r0_0)⟩]

/-- Its stores tile the buffer (checked by evaluation), so they cover it. -/
theorem cover0_5 (p0 : Vec F S512x1 .f32) (y : S512x1.Idx) :
    ∃ pc ∈ ([⟨r0_1, p0⟩] : List (View.Piece (Elt F) S512x1 .f32)), y ∈ pc.1.set :=
  View.cover_of_tiled [⟨r0_1, p0⟩] S512x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S512x1000 .f32) (harg1 : arg1.IsWhole) (arg2 : Memref sig .tc .vmem S512x1000 .f32) (harg2 : arg2.IsWhole) (arg3 : Memref sig .tc .vmem S512x1000 .f32) (harg3 : arg3.IsWhole) (arg4 : Memref sig .tc .vmem S512x1000 .f32) (harg4 : arg4.IsWhole) (arg5 : Memref sig .tc .vmem S512x1000 .f32) (harg5 : arg5.IsWhole) (arg6 : Memref sig .tc .vmem S512x1 .f32) (harg6 : arg6.IsWhole)
    (x0 : Vec F S512x1000 .f32) (x1 : Vec F S512x1000 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1) ∗ owns (c : Thread nD τ) arg5 fullShare (out0_4 x0 x1) ∗ owns (c : Thread nD τ) arg6 fullShare (out0_5 x0 x1)) -∗ K ⟨⟩))
      ⊢ wp frame (wpE (defs₀ (F := F)) Variants.none c none) E (cc0__prologue_body i arg1 harg1 arg2 harg2 arg3 harg3 arg4 harg4 arg5 harg5 arg6 harg6) K := by
  simp only [cc0__prologue_body_eq_skeleton]; unfold cc0__prologue_body_skel
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
    | ⟨5, _⟩ => out0_5 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # The Sinkhorn call (pipeline 1), at the entry contents `V` -/

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The invariant's pure half: before point `t` the scratch is at the recursion's state after point `t - 1`. -/
def Inv (c : Dev nD) (t : ℕ) (s : St F) : Prop :=
  ∀ k, t = k + 1 → Done (rowOf (V c main_v1)) (qb (V c main_arg2)) (cb (V c main_v2_1)) (k / 36) (k % 36) s

/-- The scratch buffers at a state. -/
abbrev scrAt (c : Dev nD) (s : St F) : sProp 𝕄 :=
  scr c (Memref.whole cc1_scratch0) (Memref.whole cc1_scratch1) (Memref.whole cc1_scratch2) (Memref.whole cc1_scratch3) s

/-- The invariant: the scratch at such a state, the rest of the scoped buffers and the generator register untouched. -/
def phi (c : Dev nD) (t : ℕ) : sProp 𝕄 :=
  iprop(∃ s : St F, ⌜Inv V c t s⌝ ∗ scrAt c s
    ∗ Pipeline.scopedRestBut (Ix := Unit) (Name := ℕ) (U := UR sig nD τ) (Lvl := ℕ) (Val := Elt F) spec1 c [cc1_scratch0, cc1_scratch1, cc1_scratch2, cc1_scratch3]
    ∗ ∃ r, prngReg c r)

/-- The block the call leaves at point `t` of the last pass. -/
def out1_3 (c : Dev nD) (t : Fin cfg1.N) : Vec F S1024x1000 .f32 :=
  fin (rowOf (V c main_v1)) (qb (V c main_arg2)) (cb (V c main_v2_1)) (t.val % 36 - 32)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 V c t
  Φ t := phi V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The output is written back only at the last pass's sample blocks. -/
theorem flush1_3 : ∀ t : Fin cfg1.N, (cfg1.win 3).flush t = true → 1868 ≤ t.val :=
  (by decide +kernel : ∀ t : Fin grid1.N, win1_3.flush t = true → 1868 ≤ t.val)

/-- What is left of the output's staging buffer. -/
def leave3 (c : Dev nD) (t : Fin cfg1.N) : sProp 𝕄 :=
  match cfg1.idle 3 (cfg1.grid.coords t) with
  | true =>
    match (cfg1.win 3).flush t with
    | false => iprop(∃ d, owns (c : Thread nD τ) (st1_3 t) fullShare ((dat1 V c).before 3 t d))
    | true => owns (c : Thread nD τ) (st1_3 t) fullShare ((dat1 V c).after 3 t)
  | false => owns (c : Thread nD τ) (st1_3 t) fullShare ((dat1 V c).after 3 t)

theorem leave3_out (c : Dev nD) (t : Fin cfg1.N) (h : k1_cond10 (grid1.coords t) = 1#1) :
    leave3 V c t = owns (c : Thread nD τ) (st1_3 t) fullShare ((dat1 V c).after 3 t) := by
  unfold leave3
  rw [show cfg1.idle 3 (cfg1.grid.coords t) = false from by show (!(k1_cond10 (grid1.coords t) == 1#1)) = false; rw [h]; rfl]
theorem leave3_idle (c : Dev nD) (t : Fin cfg1.N) (h : ¬ k1_cond10 (grid1.coords t) = 1#1) :
    leave3 V c t = iprop(∃ d, owns (c : Thread nD τ) (st1_3 t) fullShare ((dat1 V c).before 3 t d)) := by
  have hf : (cfg1.win 3).flush t = false := by
    rw [← Bool.not_eq_true]
    intro hf
    have ht := flush1_3 t hf
    have hN : t.val < 1872 := t.isLt
    exact h ((c10_iff _).2 (by rw [(crd t).1, (crd t).2]; omega))
  unfold leave3
  rw [show cfg1.idle 3 (cfg1.grid.coords t) = true from by
    show (!(k1_cond10 (grid1.coords t) == 1#1)) = true
    rw [Bool.not_eq_true', beq_eq_false_iff_ne]; exact h, hf]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ leave3 V c t)

theorem sound_body1 (c : Dev nD) (t : Fin cfg1.N) :
    bodyPre1 V c t ⊢ wp frame (wpE (defs₀ (F := F)) Variants.none c none) Set.univ (bodyAt1 t) (fun _ => bodyPost1 V c t) := by
  have hN : t.val < 1872 := t.isLt
  unfold bodyPre1 bodyPost1 bodyAt1
  simp only [before1_0, before1_1, before1_2]
  rw [show (dat1 V c).Φ t.succ = phi V c (t.val + 1) from rfl, show (dat1 V c).Φ t.castSucc = phi V c t.val from rfl,
    show (dat1 V c).owesAt () t.succ = (dat1 V c).owesAt () t.castSucc from rfl,
    after1_0, after1_1, after1_2]
  unfold phi
  iintro ⟨⟨%s, %hs, HS, HR, HP⟩, Ho, ⟨%d0, H0⟩, ⟨%d1, H1⟩, ⟨%d2, H2⟩, ⟨%d3, H3⟩⟩
  have e2 := iblk1_2 V c t
  rw [e2]
  iapply (sound_step c Set.univ (grid1.coords t) _ _ _ _ _ _ _ _ _ _ _ _ _ _ _ _ (iblk1 V c 0 t) (iblk1 V c 1 t) (V c main_v1) ((dat1 V c).before 3 t d3) s (qb (V c main_arg2)) (cb (V c main_v2_1))
    (fun h h' => by rw [(crd t).1] at h; rw [(crd t).2] at h' ⊢; exact iblk1_0 V c t h h')
    (fun h => by rw [(crd t).2] at h ⊢; exact iblk1_1 V c t h)
    (fun h => by
      rw [(crd t).2] at h
      rw [(crd t).1, (crd t).2]
      have := hs (t.val - 1) (by omega)
      rwa [show (t.val - 1) / 36 = t.val / 36 from by omega, show (t.val - 1) % 36 = t.val % 36 - 1 from by omega] at this)
    (fun h h' => by
      rw [(crd t).2] at h
      rw [(crd t).1] at h' ⊢
      have := hs (t.val - 1) (by omega)
      rwa [show (t.val - 1) / 36 = t.val / 36 - 1 from by omega, show (t.val - 1) % 36 = 35 from by omega] at this) _)
  isplitl [H0]; · iexact H0
  isplitl [H1]; · iexact H1
  isplitl [H2]; · iexact H2
  isplitl [H3]; · iexact H3
  isplitl [HS]; · iexact HS
  iintro %s' %y' ⟨%hl, H0, H1, H2, H3, HS⟩
  isplitl [HS HR HP]
  · iexists s'
    isplitr
    · ipureintro
      intro k hk
      have hk' : k = t.val := by omega
      subst hk'
      have h := hl.1
      rw [(crd t).1, (crd t).2] at h
      exact h
    isplitl [HS]; · iexact HS
    isplitl [HR]; · iexact HR
    iexact HP
  isplitl [Ho]; · iexact Ho
  isplitl [H0]; · iexact H0
  isplitl [H1]; · iexact H1
  isplitl [H2]; · iexact H2
  by_cases h10 : k1_cond10 (grid1.coords t) = 1#1
  · rw [leave3_out V c t h10, after1_3, hl.2.2 h10, (crd t).2]
    iexact H3
  · rw [leave3_idle V c t h10, hl.2.1 h10]
    iexists d3
    iexact H3

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- The invariant holds of the scratch at anything before the first point. -/
theorem phi_in (c : Dev nD) :
    iprop((∃ r, prngReg c r) ∗ Pipeline.scopedRest (Ix := Unit) (Name := ℕ) (U := UR sig nD τ) (Lvl := ℕ) (Val := Elt F) spec1 c) ⊢ phi V c 0 := by
  rw [scopedRest1_split]
  unfold phi scrAt scr
  simp only [owns_whole]
  iintro ⟨HP, ⟨⟨%f0, H0⟩, ⟨%f1, H1⟩, ⟨%f2, H2⟩, ⟨%f3, H3⟩⟩, HR⟩
  iexists (⟨f0, f1, f2, f3⟩ : St F)
  isplitr; · ipureintro; intro k hk; omega
  isplitl [H0 H1 H2 H3]
  · isplitl [H0]; · iexact H0
    isplitl [H1]; · iexact H1
    isplitl [H2]; · iexact H2
    iexact H3
  isplitl [HR]; · iexact HR
  iexact HP

/-- The scratch given back. -/
theorem phi_out (c : Dev nD) (t : ℕ) :
    phi V c t ⊢ iprop((∃ r, prngReg c r) ∗ Pipeline.scopedRest (Ix := Unit) (Name := ℕ) (U := UR sig nD τ) (Lvl := ℕ) (Val := Elt F) spec1 c) := by
  rw [scopedRest1_split]
  unfold phi scrAt scr
  simp only [owns_whole]
  iintro ⟨%s, -, ⟨H0, H1, H2, H3⟩, HR, HP⟩
  isplitl [HP]; · iexact HP
  isplitl [H0 H1 H2 H3]
  · isplitl [H0]; · iexists _; iexact H0
    isplitl [H1]; · iexists _; iexact H1
    isplitl [H2]; · iexists _; iexact H2
    iexists _; iexact H3
  iexact HR

/-! # REGION 2 of @main: custom_call 2, `cc2__rowstats_body` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S512x1000 := Rect.unit (s := S512x1000) ![0, 0] S512x1000.size inb_S512x1000_S512x1000_0_0
abbrev r2_1 : Rect S8x1000 := Rect.unit (s := S8x1000) ![0, 0] S1x1000.size inb_S8x1000_S1x1000_0_0
abbrev r2_2 : Rect S512x1 := Rect.unit (s := S512x1) ![0, 0] S512x1.size inb_S512x1_S512x1_0_0

/-! ## What the body leaves in each output window's buffer -/

/-- Window 4's staging buffer after the body, from the input windows' blocks: its 1 store as pieces, LAST
    FIRST (Lib/Pipeline/FrameBody.lean `View.canon`; the payloads are the skeleton's). -/
def out2_4 (x0 : Vec F S512x1000 .f32) (x1 : Vec F S512x1000 .f32) (x2 : Vec F S512x1000 .f32) (x3 : Vec F S8x1000 .f32) : Vec F S512x1 .f32 :=
  View.canon [⟨r2_2, k2_pay5 (View.ld x0 r2_0) (View.ld x1 r2_0)⟩]

/-- Its stores tile the buffer (checked by evaluation), so they cover it. -/
theorem cover2_4 (p0 : Vec F S512x1 .f32) (y : S512x1.Idx) :
    ∃ pc ∈ ([⟨r2_2, p0⟩] : List (View.Piece (Elt F) S512x1 .f32)), y ∈ pc.1.set :=
  View.cover_of_tiled [⟨r2_2, p0⟩] S512x1.size (by rfl) y

/-- Window 5's staging buffer after the body, from the input windows' blocks: its 1 store as pieces, LAST
    FIRST (Lib/Pipeline/FrameBody.lean `View.canon`; the payloads are the skeleton's). -/
def out2_5 (x0 : Vec F S512x1000 .f32) (x1 : Vec F S512x1000 .f32) (x2 : Vec F S512x1000 .f32) (x3 : Vec F S8x1000 .f32) : Vec F S512x1 .i32 :=
  View.canon [⟨r2_2, k2_pay6 (View.ld x0 r2_0)⟩]

/-- Its stores tile the buffer (checked by evaluation), so they cover it. -/
theorem cover2_5 (p0 : Vec F S512x1 .i32) (y : S512x1.Idx) :
    ∃ pc ∈ ([⟨r2_2, p0⟩] : List (View.Piece (Elt F) S512x1 .i32)), y ∈ pc.1.set :=
  View.cover_of_tiled [⟨r2_2, p0⟩] S512x1.size (by rfl) y

/-- Window 6's staging buffer after the body, from the input windows' blocks: its 1 store as pieces, LAST
    FIRST (Lib/Pipeline/FrameBody.lean `View.canon`; the payloads are the skeleton's). -/
def out2_6 (x0 : Vec F S512x1000 .f32) (x1 : Vec F S512x1000 .f32) (x2 : Vec F S512x1000 .f32) (x3 : Vec F S8x1000 .f32) : Vec F S512x1 .f32 :=
  View.canon [⟨r2_2, k2_pay1 (k2_pay7 (View.ld x0 r2_0) (View.ld x2 r2_0)) (Scalar.ofBits .f32 0x3F800000#32) (Scalar.ofBits .f32 0x00000000#32)⟩]

/-- Its stores tile the buffer (checked by evaluation), so they cover it. -/
theorem cover2_6 (p0 : Vec F S512x1 .f32) (y : S512x1.Idx) :
    ∃ pc ∈ ([⟨r2_2, p0⟩] : List (View.Piece (Elt F) S512x1 .f32)), y ∈ pc.1.set :=
  View.cover_of_tiled [⟨r2_2, p0⟩] S512x1.size (by rfl) y

/-- Window 7's staging buffer after the body, from the input windows' blocks: its 1 store as pieces, LAST
    FIRST (Lib/Pipeline/FrameBody.lean `View.canon`; the payloads are the skeleton's). -/
def out2_7 (x0 : Vec F S512x1000 .f32) (x1 : Vec F S512x1000 .f32) (x2 : Vec F S512x1000 .f32) (x3 : Vec F S8x1000 .f32) : Vec F S512x1 .i32 :=
  View.canon [⟨r2_2, k2_pay2 (k2_pay4 (View.ld x3 r2_1)) (iota .tc S512x1000 32 [1] iota_S512x1000_d1_w32) (k2_pay6 (View.ld x0 r2_0))⟩]

/-- Its stores tile the buffer (checked by evaluation), so they cover it. -/
theorem cover2_7 (p0 : Vec F S512x1 .i32) (y : S512x1.Idx) :
    ∃ pc ∈ ([⟨r2_2, p0⟩] : List (View.Piece (Elt F) S512x1 .i32)), y ∈ pc.1.set :=
  View.cover_of_tiled [⟨r2_2, p0⟩] S512x1.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S512x1000 .f32) (harg1 : arg1.IsWhole) (arg2 : Memref sig .tc .vmem S512x1000 .f32) (harg2 : arg2.IsWhole) (arg3 : Memref sig .tc .vmem S512x1000 .f32) (harg3 : arg3.IsWhole) (arg4 : Memref sig .tc .vmem S8x1000 .f32) (harg4 : arg4.IsWhole) (arg5 : Memref sig .tc .vmem S512x1 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .i32) (harg8 : arg8.IsWhole)
    (x0 : Vec F S512x1000 .f32) (x1 : Vec F S512x1000 .f32) (x2 : Vec F S512x1000 .f32) (x3 : Vec F S8x1000 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3) ∗ owns (c : Thread nD τ) arg6 fullShare (out2_5 x0 x1 x2 x3) ∗ owns (c : Thread nD τ) arg7 fullShare (out2_6 x0 x1 x2 x3) ∗ owns (c : Thread nD τ) arg8 fullShare (out2_7 x0 x1 x2 x3)) -∗ K ⟨⟩))
      ⊢ wp frame (wpE (defs₀ (F := F)) Variants.none c none) E (cc2__rowstats_body i arg1 harg1 arg2 harg2 arg3 harg3 arg4 harg4 arg5 harg5 arg6 harg6 arg7 harg7 arg8 harg8) K := by
  simp only [cc2__rowstats_body_eq_skeleton]; unfold cc2__rowstats_body_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  isplitl [H5]
  · iexists _; isplitr
    swap; · iexact H5
    ipureintro
    exact View.read_writes_eq_canon _ _ _ (cover2_5 _)
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_7 _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
    | ⟨6, _⟩ => out2_6 (iblk2 V c 0 t) (iblk2 V c 1 t) (iblk2 V c 2 t) (iblk2 V c 3 t)
    | ⟨7, _⟩ => out2_7 (iblk2 V c 0 t) (iblk2 V c 1 t) (iblk2 V c 2 t) (iblk2 V c 3 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]
theorem after2_6 (c : Dev nD) (t : Fin cfg2.N) : (dat2 V c).after 6 t = out2_6 (iblk2 V c 0 t) (iblk2 V c 1 t) (iblk2 V c 2 t) (iblk2 V c 3 t) := by dsimp only [dat2]
theorem after2_7 (c : Dev nD) (t : Fin cfg2.N) : (dat2 V c).after 7 t = out2_7 (iblk2 V c 0 t) (iblk2 V c 1 t) (iblk2 V c 2 t) (iblk2 V c 3 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-! # REGION 3 of @main: custom_call 3, `cc3__select_body` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S512x1 := Rect.unit (s := S512x1) ![0, 0] S512x1.size inb_S512x1_S512x1_0_0
abbrev r3_1 : Rect S8x4096 := Rect.unit (s := S8x4096) ![0, 0] S1x4096.size inb_S8x4096_S1x4096_0_0

/-! ## What the body leaves in each output window's buffer -/

/-- Window 7's staging buffer after the body, from the input windows' blocks: its 1 store as pieces, LAST
    FIRST (Lib/Pipeline/FrameBody.lean `View.canon`; the payloads are the skeleton's). -/
def out3_7 (i : grid3.Coords) (x0 : Vec F S512x1 .i32) (x1 : Vec F S512x1 .f32) (x2 : Vec F S512x1 .i32) (x3 : Vec F S512x1 .f32) (x4 : Vec F S512x1 .f32) (x5 : Vec F S8x4096 .i32) (x6 : Vec F S8x4096 .f32) : Vec F S512x1 .f32 :=
  View.canon [⟨r3_0, k3_pay1 (k3_pay2 (View.ld x1 r3_0)) (k3_pay4 i (View.ld x0 r3_0) (View.ld x1 r3_0) (View.ld x5 r3_1) (View.ld x6 r3_1)) (k3_pay5 (View.ld x0 r3_0) (View.ld x5 r3_1)) (k3_pay6 (View.ld x2 r3_0)) (k3_pay7 (F := F)) (View.ld x3 r3_0) (View.ld x4 r3_0)⟩]

/-- Its stores tile the buffer (checked by evaluation), so they cover it. -/
theorem cover3_7 (p0 : Vec F S512x1 .f32) (y : S512x1.Idx) :
    ∃ pc ∈ ([⟨r3_0, p0⟩] : List (View.Piece (Elt F) S512x1 .f32)), y ∈ pc.1.set :=
  View.cover_of_tiled [⟨r3_0, p0⟩] S512x1.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs (Lib/Exec.lean), through every part call. -/
theorem sound_kernel3 (c : Dev nD) (E : Set ℕ) (i : grid3.Coords) (arg1 : Memref sig .tc .vmem S512x1 .i32) (harg1 : arg1.IsWhole) (arg2 : Memref sig .tc .vmem S512x1 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S8x4096 .i32) (harg6 : arg6.IsWhole) (arg7 : Memref sig .tc .vmem S8x4096 .f32) (harg7 : arg7.IsWhole) (arg8 : Memref sig .tc .vmem S512x1 .f32) (harg8 : arg8.IsWhole)
    (x0 : Vec F S512x1 .i32) (x1 : Vec F S512x1 .f32) (x2 : Vec F S512x1 .i32) (x3 : Vec F S512x1 .f32) (x4 : Vec F S512x1 .f32) (x5 : Vec F S8x4096 .i32) (x6 : Vec F S8x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 i x0 x1 x2 x3 x4 x5 x6)) -∗ K ⟨⟩))
      ⊢ wp frame (wpE (defs₀ (F := F)) Variants.none c none) E (cc3__select_body i arg1 harg1 arg2 harg2 arg3 harg3 arg4 harg4 arg5 harg5 arg6 harg6 arg7 harg7 arg8 harg8) K := by
  simp only [cc3__select_body_eq_skeleton]; unfold cc3__select_body_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core `c`: the arrays as the region finds them (`V`); after the body at
    point `t` each input's buffer at its block and each output's at `out3_W` of the input blocks; the invariant the
    class's (Lib/Pipeline/Frame.lean `ΦA`: the scoped rest and the generator register, untouched); nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (grid3.coords t) (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (grid3.coords t) (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v5, main_v6, main_v7, main_v8]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v10]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After `hostOps3` (region 3's entry). -/
abbrev W5 : Dev nD → Valuation τ sig (Elt F) := fun c => StableHlo.after hostOps3 (W4 m ρ c)
/-- A reference `hostOps3` does not write keeps its contents across it. -/
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
theorem W5_args (c : Dev nD) : ∀ a ∈ argRefs, W5 m ρ c (Proc.devRef .tc a) = m ((c : Thread nD τ).loc a) :=
  fun a ha => (W5_of m ρ c a (hostOps3_args a ha)).trans (W4_args m ρ c a ha)
/-- The same read at the TensorCore's references (what region 3's proof data take). -/
abbrev V5 : (c : Dev nD) → (b : Ref sig .tc) → Buf (Elt F) ((c : Thread nD τ).loc b) := fun c b => W5 m ρ c b
/-- At region 3's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- A reference that is none of region 3's OUTPUT arrays keeps its entry contents across it: an input window's
    array is never written back (`Dat.arrAt_in`, `A_eq3`); any other buffer is left as is. -/
theorem W6_of (c : Dev nD) (r : Ref sig .tc) (h : ∀ w : Fin cfg3.W, Pipeline.arrRef spec3 w = r → (cfg3.win w).isOut = false) :
    W6 m ρ c (Proc.devRef .tc r) = W5 m ρ c (Proc.devRef .tc r) := by
  by_cases hw : ∃ w : Fin cfg3.W, Pipeline.arrRef spec3 w = r
  · obtain ⟨w, rfl⟩ := hw
    exact (W6_arr m ρ c w).trans (((dat3 (V5 m ρ) c).arrAt_in w (h w rfl) _).trans (A_eq3 (V5 m ρ) c w))
  · exact W6_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn3 a ha)).trans (W5_args m ρ c a ha)
/-- The same read at the TensorCore's references (region 3's exit contents). -/
abbrev V6 : (c : Dev nD) → (b : Ref sig .tc) → Buf (Elt F) ((c : Thread nD τ).loc b) := fun c b => W6 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- After `hostOps4`. -/
abbrev W7 : Dev nD → Valuation τ sig (Elt F) := fun c => StableHlo.after hostOps4 (W6 m ρ c)
/-- A reference `hostOps4` does not write keeps its contents across it. -/
theorem W7_of (c : Dev nD) (r : Ref sig .tc) (h : r ∉ hostOps4_W) : W7 m ρ c (Proc.devRef .tc r) = W6 m ρ c (Proc.devRef .tc r) :=
  StableHlo.after_of_writes_sub hostOps4 _ hostOps4_writes h
theorem W7_args (c : Dev nD) : ∀ a ∈ argRefs, W7 m ρ c (Proc.devRef .tc a) = m ((c : Thread nD τ).loc a) :=
  fun a ha => (W7_of m ρ c a (hostOps4_args a ha)).trans (W6_args m ρ c a ha)

/-! ### The arguments end as launched: no host stretch writes one and no region may change one (a region reads it
    through an input window or bypasses it) -/

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = phi (V2 m ρ) c 0 from rfl]
    iintro ⟨Hp, -, Hr⟩
    iapply (phi_in (V2 m ρ) c)
    isplitl [Hp]; · iexact Hp
    iexact Hr
  hout c := by
    rw [Pipeline.ownSems0_none, show (pdats m ρ 1 c).Φ (Fin.last _) = phi (V2 m ρ) c 1872 from rfl]
    iintro H
    ihave H := (phi_out (V2 m ρ) c 1872) $$ H
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) (A_eq3 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)),
    .region (reg3 m ρ),
    .host (hseg hostOps4 hostOps4_sub hostOps4_fresh (W6 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run: @main terminates, nothing faulting, with every buffer of the program at the last boundary's contents and
    every counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W7 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c _ (mem_uc main_arg0 (by decide))).trans (W7_main_arg0 m ρ c),
       (h.1 c _ (mem_uc main_arg1 (by decide))).trans (W7_main_arg1 m ρ c),
       (h.1 c _ (mem_uc main_arg2 (by decide))).trans (W7_main_arg2 m ρ c),
       (h.1 c _ (mem_uc main_arg3 (by decide))).trans (W7_main_arg3 m ρ c)⟩, h.2⟩) (run m ρ)

end Cert.KernelIdeal.Whole

end
-- ==== Proof.KVal.lean ====
module

public import proofs.«01_k».proof.Proof.KPay
public import proofs.«01_k».proof.Proof.WholeI
public import Idealize.ShloMosaic.Lib.Pipeline.ValueKit
import Idealize.ShloMosaic.Lib.Pointwise

@[expose] public section

set_option maxRecDepth 16384

noncomputable section

namespace Cert.KernelIdeal.Val

open Cert.KernelIdeal Cert.KernelIdeal.Gen Cert.KernelIdeal.Whole Cert.ReferenceIdeal.Val Cert.Rank
open Idealize.ShloMosaic Idealize.ShloMosaic.TcCoe Idealize.ShloMosaic.Tactic
open Idealize.ShloMosaic.Pipeline (Dat Cfg Window)

section Arrays
variable (V : (c : Dev nD) → (b : Ref sig .tc) → Buf (Elt Ideal) ((c : Thread nD τ).loc b)) (c : Dev nD)

theorem idx0 : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] :=
  (by decide +kernel : ∀ t : Fin grid0.N, _)

/-- The array row behind row `i` of block `t`. -/
def row (t : ℕ) (ht : t < 8) (i : Fin 512) : Fin 4096 := ⟨512 * t + i.val, by omega⟩

theorem in0_0 (t : Fin cfg0.N) (i : Fin 512) (k : Fin 1000) :
    iblk0 V c 0 t (ix2 i k) = V c main_arg0 (ix2 (row t.val t.isLt i) k) := by
  have e := idx0 t
  blk_ext [iblk0, e, row]

theorem in0_1 (t : Fin cfg0.N) (i : Fin 512) (k : Fin 1000) :
    iblk0 V c 1 t (ix2 i k) = V c main_arg1 (ix2 (row t.val t.isLt i) k) := by
  have e := idx0 t
  blk_ext [iblk0, e, row]

/-- A function of a block's index, read at the index's two coordinates. -/
theorem pt {α : Type} (f : S512x1000.Idx → α) (y : S512x1000.Idx) : f y = f (ix2 (y 0) (y 1)) := by
  refine congrArg f ?_
  funext k
  fin_cases k <;> rfl

theorem pt1 {α : Type} (f : S512x1.Idx → α) (y : S512x1.Idx) : f y = f (ix2 (y 0) 0) := by
  refine congrArg f ?_
  funext k
  fin_cases k
  · rfl
  · exact Subsingleton.elim (α := Fin 1) _ _

theorem arr0_2 : (dat0 V c).arrAt 2 cfg0.N = r_v10 (V c main_arg0) := by
  refine (dat0 V c).arrAt_eq_of_covers 2 _ (by decide +kernel) fun t _ y => ?_
  have e := idx0 t
  blk_simp
  rw [after0_2]
  unfold out0_2
  frame_out
  refine (pt _ y).trans ((p0_pred (iblk0 V c 0 t) (V c main_arg0) (y 0) (row t.val t.isLt (y 0)) (in0_0 V c t (y 0)) (y 1)).trans ?_)
  blk_ext [e, row]

theorem arr0_3 : (dat0 V c).arrAt 3 cfg0.N = r_v11 (r_v10 (V c main_arg0)) (V c main_arg1) := by
  refine (dat0 V c).arrAt_eq_of_covers 3 _ (by decide +kernel) fun t _ y => ?_
  have e := idx0 t
  blk_simp
  rw [after0_3]
  unfold out0_3
  frame_out
  refine (pt _ y).trans ((p0_cost (iblk0 V c 0 t) (iblk0 V c 1 t) (V c main_arg0) (V c main_arg1) (y 0) (row t.val t.isLt (y 0)) (in0_0 V c t (y 0)) (in0_1 V c t (y 0)) (y 1)).trans ?_)
  blk_ext [e, row]

theorem arr0_4 : (dat0 V c).arrAt 4 cfg0.N = r_v40 (V c main_arg0) := by
  refine (dat0 V c).arrAt_eq_of_covers 4 _ (by decide +kernel) fun t _ y => ?_
  have e := idx0 t
  blk_simp
  rw [after0_4]
  unfold out0_4
  frame_out
  refine (pt _ y).trans ((p0_log (iblk0 V c 0 t) (V c main_arg0) (y 0) (row t.val t.isLt (y 0)) (in0_0 V c t (y 0)) (y 1)).trans ?_)
  blk_ext [e, row]

theorem arr0_5 : (dat0 V c).arrAt 5 cfg0.N = fun j : S4096x1.Idx => r_v47 (r_v40 (V c main_arg0)) (V c main_arg1) (ix1 (j 0)) := by
  refine (dat0 V c).arrAt_eq_of_covers 5 _ (by decide +kernel) fun t _ y => ?_
  have e := idx0 t
  blk_simp
  rw [after0_5]
  unfold out0_5
  frame_out
  refine (pt1 _ y).trans ((p0_rn (iblk0 V c 0 t) (iblk0 V c 1 t) (V c main_arg0) (V c main_arg1) (y 0) (row t.val t.isLt (y 0)) (in0_0 V c t (y 0)) (in0_1 V c t (y 0))).trans ?_)
  blk_ext [e, row]

/-! ## The Sinkhorn call -/

theorem qb_ap (X : FVec Ideal S32768x1000 .f32) (j : ℕ) (hj : j < 32) (a : Fin 1024) (k : Fin 1000) :
    qb (F := Ideal) X j (ix2 a k) = X (ix2 ⟨j * 1024 + a.val, by omega⟩ k) := by
  unfold qb VecWindow.window
  congr 1
  funext d
  fin_cases d
  · refine Fin.ext ?_
    show 1024 * min j 31 + 1 * a.val = j * 1024 + a.val
    omega
  · refine Fin.ext ?_
    show 0 + 1 * k.val = k.val
    omega

theorem cb_ap (X : FVec Ideal S4096x1000 .f32) (j : ℕ) (hj : j < 4) (a : Fin 1024) (k : Fin 1000) :
    cb (F := Ideal) X j (ix2 a k) = X (ix2 ⟨j * 1024 + a.val, by omega⟩ k) := by
  unfold cb VecWindow.window
  congr 1
  funext d
  fin_cases d
  · refine Fin.ext ?_
    show 1024 * min j 3 + 1 * a.val = j * 1024 + a.val
    omega
  · refine Fin.ext ?_
    show 0 + 1 * k.val = k.val
    omega

theorem rowOf_ap (X : FVec Ideal S8x1000 .f32) (k : Fin 1000) : rowOf (F := Ideal) X (ix2 0 k) = X (ix2 0 k) := by
  unfold rowOf VecWindow.window
  congr 1
  funext d
  fin_cases d
  · rfl
  · refine Fin.ext ?_
    show 0 + 1 * k.val = k.val
    omega

theorem blkT_ap (a0 a1 : FVec Ideal S4096x1000 .f32) (a2 : FVec Ideal S32768x1000 .f32) (j : ℕ) (hj : j < 36) (a : Fin 1024) (k : Fin 1000) :
    blkT (qb (F := Ideal) a2) (cb (F := Ideal) (r_v11 (r_v10 a0) a1)) j (ix2 a k) = matX a0 a1 a2 ⟨j * 1024 + a.val, by omega⟩ k := by
  unfold blkT matX
  by_cases h : j < 32
  · rw [if_pos h, dif_pos (by show j * 1024 + a.val < 32768; omega)]
    exact qb_ap a2 j h a k
  · rw [if_neg h, dif_neg (by show ¬ j * 1024 + a.val < 32768; omega), cb_ap _ _ (by omega), r_v11_ap]
    have hn : (⟨(j - 32) * 1024 + a.val, by omega⟩ : Fin 4096) = ⟨j * 1024 + a.val - 32768, by omega⟩ := Fin.ext (by show (j - 32) * 1024 + a.val = j * 1024 + a.val - 32768; omega)
    rw [hn]

theorem pt3 {α : Type} (f : S1024x1000.Idx → α) (y : S1024x1000.Idx) : f y = f (ix2 (y 0) (y 1)) := by
  refine congrArg f ?_
  funext k
  fin_cases k <;> rfl

section Sink
variable (a0 a1 : FVec Ideal S4096x1000 .f32) (a2 : FVec Ideal S32768x1000 .f32) (a3 : FVec Ideal Cert.ReferenceIdeal.S1000x1 .f32)
  (h1 : ∀ i k, 0 ≤ a1 (ix2 i k)) (h2 : ∀ i k, 0 ≤ a2 (ix2 i k))
  (E : FVec Ideal S8x1000 .f32) (he : ∀ k : Fin 1000, E (ix2 0 k) = a3 (ix2 k 0))

include h1 h2 he in
theorem fin_ap (k : ℕ) (hk : k < 4) (a : Fin 1024) (m : Fin 1000) :
    fin (F := Ideal) (rowOf (F := Ideal) E) (qb (F := Ideal) a2) (cb (F := Ideal) (r_v11 (r_v10 a0) a1)) k (ix2 a m)
      = r_v38 (r_mat a0 a1 a2) (r_iter a0 a1 a2 a3 50) (r_v15 a3) (ix2 ⟨1024 * k + a.val, by omega⟩ m) := by
  have hE : ∀ k : Fin 1000, k1_pay1 (F := Ideal) (rowOf (F := Ideal) E) (ix2 0 k) = r_v15 a3 (ix2 k 0) := fun k => by
    rw [pay1_ap, r_v15_ap, rowOf_ap, he]
    simp only [rowOf_ap, he]
  rw [fin_eq _ _ _ (matX a0 a1 a2) (fun k => r_v15 a3 (ix2 k 0)) (blkT_ap a0 a1 a2) hE k hk a m,
    planK_eq (matX a0 a1 a2) _ (matX_good a0 a1 a2 h1 h2), plabel_ap]
  congr 1
  exact Fin.ext (by show (32 + k) * 1024 + a.val = 32768 + (1024 * k + a.val); omega)

include h1 h2 he in
theorem arr1_3 (hq : V c main_arg2 = a2) (hc : V c main_v2_1 = r_v11 (r_v10 a0) a1) (hE : V c main_v1 = E) :
    (dat1 V c).arrAt 3 cfg1.N = r_v38 (r_mat a0 a1 a2) (r_iter a0 a1 a2 a3 50) (r_v15 a3) := by
  refine (dat1 V c).arrAt_eq_of_covers 3 _ (by decide +kernel) fun t hf y => ?_
  have ht := flush1_3 t hf
  have hN : t.val < 1872 := t.isLt
  have e : win1_3.index t = ![t.val % 36 - 32, 0] := tr3 t (by omega) (by omega)
  blk_simp
  rw [after1_3]
  unfold out1_3
  rw [hq, hc, hE]
  refine (pt3 _ y).trans ((fin_ap a0 a1 a2 a3 h1 h2 E he (t.val % 36 - 32) (by omega) (y 0) (y 1)).trans ?_)
  blk_ext [e]

end Sink

end Arrays

end Cert.KernelIdeal.Val
-- ==== Proof.KVal2.lean ====
module

public import proofs.«01_k».proof.Proof.KVal
public import Idealize.ShloMosaic.Lib.Pipeline.ValueKit
import Idealize.ShloMosaic.Lib.Pointwise

@[expose] public section

set_option maxRecDepth 16384

noncomputable section

namespace Cert.KernelIdeal.Val

open Cert.KernelIdeal Cert.KernelIdeal.Gen Cert.KernelIdeal.Whole Cert.ReferenceIdeal.Val Cert.Rank
open Idealize.ShloMosaic Idealize.ShloMosaic.TcCoe Idealize.ShloMosaic.Tactic
open Idealize.ShloMosaic.Pipeline (Dat Cfg Window)

section Arrays
variable (V : (c : Dev nD) → (b : Ref sig .tc) → Buf (Elt Ideal) ((c : Thread nD τ).loc b)) (c : Dev nD)

/-! ## The row statistics -/

theorem idx2 : ∀ t : Fin cfg2.N, win2_0.index t = ![t.val, 0] ∧ win2_1.index t = ![t.val, 0] ∧ win2_2.index t = ![t.val, 0] ∧
    win2_3.index t = ![0, 0] ∧ win2_4.index t = ![t.val, 0] ∧ win2_5.index t = ![t.val, 0] ∧ win2_6.index t = ![t.val, 0] ∧ win2_7.index t = ![t.val, 0] :=
  (by decide +kernel : ∀ t : Fin grid2.N, _)

theorem in2_0 (t : Fin cfg2.N) (i : Fin 512) (k : Fin 1000) :
    iblk2 V c 0 t (ix2 i k) = V c main_v3 (ix2 (row t.val t.isLt i) k) := by
  have e := idx2 t
  blk_ext [iblk2, e, row]

theorem in2_1 (t : Fin cfg2.N) (i : Fin 512) (k : Fin 1000) :
    iblk2 V c 1 t (ix2 i k) = V c main_v2_2 (ix2 (row t.val t.isLt i) k) := by
  have e := idx2 t
  blk_ext [iblk2, e, row]

theorem in2_2 (t : Fin cfg2.N) (i : Fin 512) (k : Fin 1000) :
    iblk2 V c 2 t (ix2 i k) = V c main_v2_0 (ix2 (row t.val t.isLt i) k) := by
  have e := idx2 t
  blk_ext [iblk2, e, row]

theorem in2_3 (t : Fin cfg2.N) : iblk2 V c 3 t = V c main_v1 := by
  have e := idx2 t
  funext y
  blk_ext [iblk2, e]

/-- The mark of a row whose confidence is `s`: one over the threshold, zero otherwise. -/
def mark (s : EReal) : EReal := Scalar.select (BitVec.ofBool (decide (Ideal.ofBits .f32 0x3F7D70A4#32 < s))) (Ideal.ofBits .f32 0x3F800000#32) (Ideal.ofBits .f32 0x00000000#32)

theorem pay1_mark (a : IVec S512x1 1) (i : Fin 512) (s : EReal) (h : a (ix2 i 0) = BitVec.ofBool (decide (Ideal.ofBits .f32 0x3F7D70A4#32 < s))) :
    k2_pay1 (F := Ideal) a (Scalar.ofBits .f32 0x3F800000#32) (Scalar.ofBits .f32 0x00000000#32) (ix2 i 0) = mark s := by
  have e : k2_pay1 (F := Ideal) a (Scalar.ofBits .f32 0x3F800000#32) (Scalar.ofBits .f32 0x00000000#32) (ix2 i 0)
      = Scalar.select (a (ix2 i 0)) (Ideal.ofBits .f32 0x3F800000#32) (Ideal.ofBits .f32 0x00000000#32) := by
    pointwise [k2_pay1]
  rw [e, h]
  rfl

theorem mark_iff (s : EReal) : Ideal.ofBits .f32 0x3F000000#32 < mark s ↔ Ideal.ofBits .f32 0x3F7D70A4#32 < s := by
  have h := p2_mark (decide (Ideal.ofBits .f32 0x3F7D70A4#32 < s)) (fun _ => BitVec.ofBool (decide (Ideal.ofBits .f32 0x3F7D70A4#32 < s))) 0 rfl
  rw [pay1_mark _ 0 s rfl] at h
  exact h.trans decide_eq_true_iff

section Stats
variable (P L Q : FVec Ideal S4096x1000 .f32) (hP : V c main_v3 = P) (hL : V c main_v2_2 = L) (hQ : V c main_v2_0 = Q)
  (a3 : FVec Ideal Cert.ReferenceIdeal.S1000x1 .f32) (he : ∀ k : Fin 1000, V c main_v1 (ix2 0 k) = a3 (ix2 k 0))

theorem ld_row (X : FVec Ideal S8x1000 .f32) (k : Fin 1000) : (View.ld (Val := Elt Ideal) (e' := .f32) X r2_1 : FVec Ideal S1x1000 .f32) (ix2 0 k) = X (ix2 0 k) := by
  unfold View.ld
  refine congrArg X ?_
  funext d
  fin_cases d
  · rfl
  · refine Fin.ext ?_
    show 0 + 1 * k.val = k.val
    omega

include hP in
theorem in2_P (t : Fin cfg2.N) (i : Fin 512) (k : Fin 1000) : iblk2 V c 0 t (ix2 i k) = P (ix2 (row t.val t.isLt i) k) := by
  rw [in2_0, hP]
include hL in
theorem in2_L (t : Fin cfg2.N) (i : Fin 512) (k : Fin 1000) : iblk2 V c 1 t (ix2 i k) = L (ix2 (row t.val t.isLt i) k) := by
  rw [in2_1, hL]
include hQ in
theorem in2_Q (t : Fin cfg2.N) (i : Fin 512) (k : Fin 1000) : iblk2 V c 2 t (ix2 i k) = Q (ix2 (row t.val t.isLt i) k) := by
  rw [in2_2, hQ]

include hP hL in
theorem arr2_4 : (dat2 V c).arrAt 4 cfg2.N = fun j : S4096x1.Idx => (fun i : Fin 4096 => r_v50 L P (ix1 i)) (j 0) := by
  refine (dat2 V c).arrAt_eq_of_covers 4 _ (by decide +kernel) fun t _ y => ?_
  have e := idx2 t
  have hz : row t.val t.isLt (y 0) = (((cfg2.win 4).blk t).view.emb y) 0 := by
    refine Fin.ext ?_
    blk_simp [e, row]
    show 512 * t.val + (y 0).val = t.val * 512 + (y 0).val
    omega
  refine Eq.trans ?_ (congrArg ((fun i : Fin 4096 => r_v50 L P (ix1 i))) hz)
  blk_simp
  rw [after2_4]
  unfold out2_4
  frame_out
  refine (pt1 _ y).trans ?_
  exact p2_loss (iblk2 V c 0 t) (iblk2 V c 1 t) P L (y 0) (row t.val t.isLt (y 0)) (in2_P V c P hP t (y 0)) (in2_L V c L hL t (y 0))

include hP in
theorem arr2_5 : (dat2 V c).arrAt 5 cfg2.N = fun j : S4096x1.Idx => (fun i : Fin 4096 => BitVec.ofNat 32 (clsE P i).val) (j 0) := by
  refine (dat2 V c).arrAt_eq_of_covers 5 _ (by decide +kernel) fun t _ y => ?_
  have e := idx2 t
  have hz : row t.val t.isLt (y 0) = (((cfg2.win 5).blk t).view.emb y) 0 := by
    refine Fin.ext ?_
    blk_simp [e, row]
    show 512 * t.val + (y 0).val = t.val * 512 + (y 0).val
    omega
  refine Eq.trans ?_ (congrArg ((fun i : Fin 4096 => BitVec.ofNat 32 (clsE P i).val)) hz)
  blk_simp
  rw [after2_5]
  unfold out2_5
  frame_out
  refine (pt1 _ y).trans ?_
  exact p2_cls (iblk2 V c 0 t) P (y 0) (row t.val t.isLt (y 0)) (in2_P V c P hP t (y 0))

include hP hQ in
theorem arr2_6 : (dat2 V c).arrAt 6 cfg2.N = fun j : S4096x1.Idx => (fun i : Fin 4096 => mark (∑ k : Fin 1000, P (ix2 i k) * Q (ix2 i k))) (j 0) := by
  refine (dat2 V c).arrAt_eq_of_covers 6 _ (by decide +kernel) fun t _ y => ?_
  have e := idx2 t
  have hz : row t.val t.isLt (y 0) = (((cfg2.win 6).blk t).view.emb y) 0 := by
    refine Fin.ext ?_
    blk_simp [e, row]
    show 512 * t.val + (y 0).val = t.val * 512 + (y 0).val
    omega
  refine Eq.trans ?_ (congrArg ((fun i : Fin 4096 => mark (∑ k : Fin 1000, P (ix2 i k) * Q (ix2 i k)))) hz)
  blk_simp
  rw [after2_6]
  unfold out2_6
  frame_out
  refine (pt1 _ y).trans ?_
  exact pay1_mark _ (y 0) _ (p2_conf (iblk2 V c 0 t) (iblk2 V c 2 t) P Q (y 0) (row t.val t.isLt (y 0)) (in2_P V c P hP t (y 0)) (in2_Q V c Q hQ t (y 0)))

include hP he in
theorem arr2_7 : (dat2 V c).arrAt 7 cfg2.N = fun j : S4096x1.Idx => (fun i : Fin 4096 => quota (r_v15 a3 (ix2 (clsE P i) 0))) (j 0) := by
  refine (dat2 V c).arrAt_eq_of_covers 7 _ (by decide +kernel) fun t _ y => ?_
  have e := idx2 t
  have hz : row t.val t.isLt (y 0) = (((cfg2.win 7).blk t).view.emb y) 0 := by
    refine Fin.ext ?_
    blk_simp [e, row]
    show 512 * t.val + (y 0).val = t.val * 512 + (y 0).val
    omega
  refine Eq.trans ?_ (congrArg ((fun i : Fin 4096 => quota (r_v15 a3 (ix2 (clsE P i) 0)))) hz)
  blk_simp
  rw [after2_7]
  unfold out2_7
  frame_out
  rw [in2_3]
  refine (pt1 _ y).trans ?_
  exact p2_quota a3 (View.ld (V c main_v1) r2_1) (fun k => (ld_row _ k).trans (he k)) _ (y 0) (clsE P (row t.val t.isLt (y 0))) (p2_cls (iblk2 V c 0 t) P (y 0) (row t.val t.isLt (y 0)) (in2_P V c P hP t (y 0)))

end Stats

end Arrays

end Cert.KernelIdeal.Val
-- ==== Proof.KVal3.lean ====
module

public import proofs.«01_k».proof.Proof.KVal2
public import Idealize.ShloMosaic.Lib.Pipeline.ValueKit
import Idealize.ShloMosaic.Lib.Pointwise

@[expose] public section

set_option maxRecDepth 16384

noncomputable section

namespace Cert.KernelIdeal.Val

open Cert.KernelIdeal Cert.KernelIdeal.Gen Cert.KernelIdeal.Whole Cert.ReferenceIdeal.Val Cert.Rank
open Idealize.ShloMosaic Idealize.ShloMosaic.TcCoe Idealize.ShloMosaic.Tactic
open Idealize.ShloMosaic.Pipeline (Dat Cfg Window)

section Arrays
variable (V : (c : Dev nD) → (b : Ref sig .tc) → Buf (Elt Ideal) ((c : Thread nD τ).loc b)) (c : Dev nD)

/-! ## The selection -/

theorem idx3 : ∀ t : Fin cfg3.N, win3_0.index t = ![t.val, 0] ∧ win3_1.index t = ![t.val, 0] ∧ win3_2.index t = ![t.val, 0] ∧
    win3_3.index t = ![t.val, 0] ∧ win3_4.index t = ![t.val, 0] ∧ win3_5.index t = ![0, 0] ∧ win3_6.index t = ![0, 0] ∧ win3_7.index t = ![t.val, 0] :=
  (by decide +kernel : ∀ t : Fin grid3.N, _)

theorem crd3 : ∀ t : Fin cfg3.N, (grid3.coords t 0).val = t.val := (by decide +kernel : ∀ t : Fin grid3.N, _)

theorem in3_0 (t : Fin cfg3.N) (i : Fin 512) :
    iblk3 V c 0 t (ix2 i 0) = V c main_v4_1 (ix2 (row t.val t.isLt i) 0) := by
  have e := idx3 t
  blk_ext [iblk3, e, row]

theorem in3_1 (t : Fin cfg3.N) (i : Fin 512) :
    iblk3 V c 1 t (ix2 i 0) = V c main_v4_0 (ix2 (row t.val t.isLt i) 0) := by
  have e := idx3 t
  blk_ext [iblk3, e, row]

theorem in3_2 (t : Fin cfg3.N) (i : Fin 512) :
    iblk3 V c 2 t (ix2 i 0) = V c main_v4_3 (ix2 (row t.val t.isLt i) 0) := by
  have e := idx3 t
  blk_ext [iblk3, e, row]

theorem in3_3 (t : Fin cfg3.N) (i : Fin 512) :
    iblk3 V c 3 t (ix2 i 0) = V c main_v4_2 (ix2 (row t.val t.isLt i) 0) := by
  have e := idx3 t
  blk_ext [iblk3, e, row]

theorem in3_4 (t : Fin cfg3.N) (i : Fin 512) :
    iblk3 V c 4 t (ix2 i 0) = V c main_v2_3 (ix2 (row t.val t.isLt i) 0) := by
  have e := idx3 t
  blk_ext [iblk3, e, row]

theorem in3_5 (t : Fin cfg3.N) : iblk3 V c 5 t = V c main_v6 := by
  have e := idx3 t
  funext y
  blk_ext [iblk3, e]

theorem in3_6 (t : Fin cfg3.N) : iblk3 V c 6 t = V c main_v8 := by
  have e := idx3 t
  funext y
  blk_ext [iblk3, e]

theorem ld_lane {e' : EltTy} (X : S8x4096.Idx → Elt Ideal e') (k : Fin 4096) :
    (View.ld (Val := Elt Ideal) (e' := e') X r3_1 : S1x4096.Idx → Elt Ideal e') (ix2 0 k) = X (ix2 0 k) := by
  unfold View.ld
  refine congrArg X ?_
  funext d
  fin_cases d
  · rfl
  · refine Fin.ext ?_
    show 0 + 1 * k.val = k.val
    omega

section Select
variable (idx : Fin 4096 → Fin 1000) (loss s y : Fin 4096 → EReal) (kc : Fin 4096 → BitVec 32)
  (hi : V c main_v4_1 = fun j : S4096x1.Idx => BitVec.ofNat 32 (idx (j 0)).val) (hl : V c main_v4_0 = fun j : S4096x1.Idx => loss (j 0))
  (hk : V c main_v4_3 = fun j : S4096x1.Idx => kc (j 0)) (hm : V c main_v4_2 = fun j : S4096x1.Idx => mark (s (j 0)))
  (hy : V c main_v2_3 = fun j : S4096x1.Idx => y (j 0))
  (hiT : ∀ j : Fin 4096, V c main_v6 (ix2 0 j) = BitVec.ofNat 32 (idx j).val) (hlT : ∀ j : Fin 4096, V c main_v8 (ix2 0 j) = loss j)

include hi hl hk hm hy hiT hlT in
theorem arr3_7 : (dat3 V c).arrAt 7 cfg3.N = fun j : S4096x1.Idx =>
    (fun i : Fin 4096 => chosen (rank idx loss i) (cnt idx (idx i).val) (kc i) (s i) (loss i) (y i)) (j 0) := by
  refine (dat3 V c).arrAt_eq_of_covers 7 _ (by decide +kernel) fun t _ w => ?_
  have e := idx3 t
  have hz : row t.val t.isLt (w 0) = (((cfg3.win 7).blk t).view.emb w) 0 := by
    refine Fin.ext ?_
    blk_simp [e, row]
    show 512 * t.val + (w 0).val = t.val * 512 + (w 0).val
    omega
  refine Eq.trans ?_ (congrArg (fun i : Fin 4096 => chosen (rank idx loss i) (cnt idx (idx i).val) (kc i) (s i) (loss i) (y i)) hz)
  blk_simp
  rw [after3_7]
  unfold out3_7
  frame_out
  rw [in3_5, in3_6]
  refine (pt1 _ w).trans ?_
  refine p3_out t.val t.isLt (grid3.coords t) (crd3 t) (w 0) (row t.val t.isLt (w 0)) rfl idx loss _ _ _ _
    ((in3_0 V c t (w 0)).trans (by rw [hi]; rfl)) ((in3_1 V c t (w 0)).trans (by rw [hl]; rfl))
    (fun j => (ld_lane _ j).trans (hiT j)) (fun j => (ld_lane _ j).trans (hlT j)) _ _ _ _ _ _
    ((in3_2 V c t (w 0)).trans (by rw [hk]; rfl)) ?_ ((in3_4 V c t (w 0)).trans (by rw [hy]; rfl))
  have h : iblk3 V c 3 t (ix2 (w 0) 0) = mark (s (row t.val t.isLt (w 0))) := (in3_3 V c t (w 0)).trans (by rw [hm]; rfl)
  exact (iff_of_eq (congrArg (fun z : EReal => Ideal.ofBits .f32 0x3F000000#32 < z) h)).trans (mark_iff _)

end Select

end Arrays

/-! ## The host operations around the calls -/

section HostOps
variable (W : Valuation τ sig (Elt Ideal))

theorem host0 (k : Fin 1000) : StableHlo.after (hostOps0 (F := Ideal)) W (Proc.devRef .tc main_v1) (ix2 0 k) = W (Proc.devRef .tc main_arg3) (ix2 k 0) := by
  after_results
  show broadcastInDim S8x1000 ![0, 1] bcast_S1x1000_S8x1000_0_1 (shapeCast S1x1000 (W (Proc.devRef .tc main_arg3)) shapeCasts_S1000x1_S1x1000) (ix2 0 k) = _
  pointwise

theorem host3_i (k : Fin 4096) : StableHlo.after (hostOps3 (F := Ideal)) W (Proc.devRef .tc main_v6) (ix2 0 k) = W (Proc.devRef .tc main_v4_1) (ix2 k 0) := by
  after_results
  show broadcastInDim S8x4096 ![0, 1] bcast_S1x4096_S8x4096_0_1 (shapeCast S1x4096 (W (Proc.devRef .tc main_v4_1)) shapeCasts_S4096x1_S1x4096) (ix2 0 k) = _
  pointwise

theorem host3_l (k : Fin 4096) : StableHlo.after (hostOps3 (F := Ideal)) W (Proc.devRef .tc main_v8) (ix2 0 k) = W (Proc.devRef .tc main_v4_0) (ix2 k 0) := by
  after_results
  show broadcastInDim S8x4096 ![0, 1] bcast_S1x4096_S8x4096_0_1 (shapeCast S1x4096 (W (Proc.devRef .tc main_v4_0)) shapeCasts_S4096x1_S1x4096) (ix2 0 k) = _
  pointwise

theorem host4 (k : Fin 4096) : StableHlo.after (hostOps4 (F := Ideal)) W (Proc.devRef .tc main_v10) (ix1 k) = W (Proc.devRef .tc main_v9) (ix2 k 0) := by
  after_results
  show shapeCast S4096 (W (Proc.devRef .tc main_v9)) shapeCasts_S4096x1_S4096 (ix1 k) = _
  pointwise

end HostOps

end Cert.KernelIdeal.Val
-- ==== Proof.KRun.lean ====
module

public import proofs.«01_k».proof.Proof.KVal3
public import Idealize.ShloMosaic.Lib.Pipeline.ValueKit
import Idealize.ShloMosaic.Lib.Pointwise

@[expose] public section

set_option maxRecDepth 16384

noncomputable section

namespace Cert.KernelIdeal.Val

open Cert.KernelIdeal Cert.KernelIdeal.Gen Cert.KernelIdeal.Whole Cert.ReferenceIdeal.Val Cert.Rank
open Idealize.ShloMosaic Idealize.ShloMosaic.TcCoe Idealize.ShloMosaic.Tactic
open Idealize.ShloMosaic.Pipeline (Dat Cfg Window)

/-! ## The whole run: what each buffer holds when the next call reads it -/

variable (m : (ℓ : Loc nD τ sig) → Buf (Elt Ideal) ℓ) (ρ : Dev nD → PrngReg) (c : Dev nD)

/-- The four arguments. -/
abbrev A0 : FVec Ideal S4096x1000 .f32 := m ((c : Thread nD τ).loc main_arg0)
abbrev A1 : FVec Ideal S4096x1000 .f32 := m ((c : Thread nD τ).loc main_arg1)
abbrev A2 : FVec Ideal S32768x1000 .f32 := m ((c : Thread nD τ).loc main_arg2)
abbrev A3 : FVec Ideal S1000x1 .f32 := m ((c : Thread nD τ).loc main_arg3)

theorem a1_0 : V1 m ρ c main_arg0 = A0 m c := W1_args m ρ c main_arg0 (by decide)
theorem a1_1 : V1 m ρ c main_arg1 = A1 m c := W1_args m ρ c main_arg1 (by decide)
theorem a2_2 : V2 m ρ c main_arg2 = A2 m c := W2_args m ρ c main_arg2 (by decide)

theorem v2_pred : V2 m ρ c main_v2_0 = r_v10 (A0 m c) :=
  (W2_arr m ρ c 2).trans ((arr0_2 (V1 m ρ) c).trans (congrArg r_v10 (a1_0 m ρ c)))
theorem v2_cost : V2 m ρ c main_v2_1 = r_v11 (r_v10 (A0 m c)) (A1 m c) :=
  (W2_arr m ρ c 3).trans ((arr0_3 (V1 m ρ) c).trans (congrArg₂ (fun a b => r_v11 (r_v10 a) b) (a1_0 m ρ c) (a1_1 m ρ c)))
theorem v2_log : V2 m ρ c main_v2_2 = r_v40 (A0 m c) :=
  (W2_arr m ρ c 4).trans ((arr0_4 (V1 m ρ) c).trans (congrArg r_v40 (a1_0 m ρ c)))
theorem v2_rn : V2 m ρ c main_v2_3 = fun j : S4096x1.Idx => r_v47 (r_v40 (A0 m c)) (A1 m c) (ix1 (j 0)) :=
  (W2_arr m ρ c 5).trans ((arr0_5 (V1 m ρ) c).trans
    (congrArg₂ (fun a b => fun j : S4096x1.Idx => r_v47 (r_v40 a) b (ix1 (j 0))) (a1_0 m ρ c) (a1_1 m ρ c)))
theorem v2_emp (k : Fin 1000) : V2 m ρ c main_v1 (ix2 0 k) = A3 m c (ix2 k 0) :=
  (congrFun (W2_of m ρ c main_v1 (by decide)) _).trans (host0 (W0 m ρ c) k)

/-- The plan's scaled rows, of the arguments. -/
abbrev plab : FVec Ideal S4096x1000 .f32 := r_v38 (r_mat (A0 m c) (A1 m c) (A2 m c)) (r_iter (A0 m c) (A1 m c) (A2 m c) (A3 m c) 50) (r_v15 (A3 m c))

variable (h1 : ∀ i k, 0 ≤ A1 m c (ix2 i k)) (h2 : ∀ i k, 0 ≤ A2 m c (ix2 i k))

include h1 h2 in
theorem v3_plab : V3 m ρ c main_v3 = plab m c :=
  (W3_arr m ρ c 3).trans (arr1_3 (V2 m ρ) c (A0 m c) (A1 m c) (A2 m c) (A3 m c) h1 h2 (V2 m ρ c main_v1) (v2_emp m ρ c) (a2_2 m ρ c) (v2_cost m ρ c) rfl)
theorem v3_pred : V3 m ρ c main_v2_0 = r_v10 (A0 m c) := (W3_of m ρ c main_v2_0 (by decide)).trans (v2_pred m ρ c)
theorem v3_log : V3 m ρ c main_v2_2 = r_v40 (A0 m c) := (W3_of m ρ c main_v2_2 (by decide)).trans (v2_log m ρ c)
theorem v3_emp (k : Fin 1000) : V3 m ρ c main_v1 (ix2 0 k) = A3 m c (ix2 k 0) :=
  (congrFun (W3_of m ρ c main_v1 (by decide)) _).trans (v2_emp m ρ c k)

include h1 h2 in
theorem v4_loss : V4 m ρ c main_v4_0 = fun j : S4096x1.Idx => lossE (A0 m c) (plab m c) (j 0) :=
  (W4_arr m ρ c 4).trans (arr2_4 (V3 m ρ) c _ _ (v3_plab m ρ c h1 h2) (v3_log m ρ c))
include h1 h2 in
theorem v4_idx : V4 m ρ c main_v4_1 = fun j : S4096x1.Idx => BitVec.ofNat 32 (clsE (plab m c) (j 0)).val :=
  (W4_arr m ρ c 5).trans (arr2_5 (V3 m ρ) c _ (v3_plab m ρ c h1 h2))
include h1 h2 in
theorem v4_mark : V4 m ρ c main_v4_2 = fun j : S4096x1.Idx => mark (∑ k : Fin 1000, plab m c (ix2 (j 0) k) * r_v10 (A0 m c) (ix2 (j 0) k)) :=
  (W4_arr m ρ c 6).trans (arr2_6 (V3 m ρ) c _ _ (v3_plab m ρ c h1 h2) (v3_pred m ρ c))
include h1 h2 in
theorem v4_quota : V4 m ρ c main_v4_3 = fun j : S4096x1.Idx => quota (r_v15 (A3 m c) (ix2 (clsE (plab m c) (j 0)) 0)) :=
  (W4_arr m ρ c 7).trans (arr2_7 (V3 m ρ) c _ (v3_plab m ρ c h1 h2) (A3 m c) (v3_emp m ρ c))
theorem v4_rn : V4 m ρ c main_v2_3 = fun j : S4096x1.Idx => r_v47 (r_v40 (A0 m c)) (A1 m c) (ix1 (j 0)) :=
  (W4_of m ρ c main_v2_3 (by decide)).trans ((W3_of m ρ c main_v2_3 (by decide)).trans (v2_rn m ρ c))

include h1 h2 in
theorem v6_out : V6 m ρ c main_v9 = fun j : S4096x1.Idx =>
    (fun i : Fin 4096 => chosen (rank (clsE (plab m c)) (lossE (A0 m c) (plab m c)) i) (cnt (clsE (plab m c)) (clsE (plab m c) i).val)
      (quota (r_v15 (A3 m c) (ix2 (clsE (plab m c) i) 0))) (∑ k : Fin 1000, plab m c (ix2 i k) * r_v10 (A0 m c) (ix2 i k))
      (lossE (A0 m c) (plab m c) i) (r_v47 (r_v40 (A0 m c)) (A1 m c) (ix1 i))) (j 0) :=
  (W6_arr m ρ c 7).trans (arr3_7 (V5 m ρ) c (clsE (plab m c)) (lossE (A0 m c) (plab m c))
    (fun i => ∑ k : Fin 1000, plab m c (ix2 i k) * r_v10 (A0 m c) (ix2 i k)) (fun i => r_v47 (r_v40 (A0 m c)) (A1 m c) (ix1 i))
    (fun i => quota (r_v15 (A3 m c) (ix2 (clsE (plab m c) i) 0)))
    ((W5_of m ρ c main_v4_1 (by decide)).trans (v4_idx m ρ c h1 h2)) ((W5_of m ρ c main_v4_0 (by decide)).trans (v4_loss m ρ c h1 h2))
    ((W5_of m ρ c main_v4_3 (by decide)).trans (v4_quota m ρ c h1 h2)) ((W5_of m ρ c main_v4_2 (by decide)).trans (v4_mark m ρ c h1 h2))
    ((W5_of m ρ c main_v2_3 (by decide)).trans (v4_rn m ρ c))
    (fun j => (host3_i (W4 m ρ c) j).trans (congrFun (v4_idx m ρ c h1 h2) (ix2 j 0)))
    (fun j => (host3_l (W4 m ρ c) j).trans (congrFun (v4_loss m ρ c h1 h2) (ix2 j 0))))

include h1 h2 in
/-- What the kernel leaves in its result is the reference's value of the arguments. -/
theorem kernel_value : W7 m ρ c (Proc.devRef .tc main_v10) = r_all (A0 m c) (A1 m c) (A2 m c) (A3 m c) := by
  funext j
  have hj : j = ix1 (j 0) := by
    funext a
    fin_cases a
    rfl
  have h : W7 m ρ c (Proc.devRef .tc main_v10) (ix1 (j 0)) = r_all (A0 m c) (A1 m c) (A2 m c) (A3 m c) (ix1 (j 0)) :=
    (host4 (W6 m ρ c) (j 0)).trans ((congrFun (v6_out m ρ c h1 h2) (ix2 (j 0) 0)).trans
      (r_tail_ap (A0 m c) (A1 m c) (r_v10 (A0 m c)) (r_v15 (A3 m c)) (plab m c) (j 0)).symm)
  rw [hj]
  exact h

end Cert.KernelIdeal.Val
-- ==== Proof.PreNonneg.lean ====
module

public import proofs.«01_k».proof.Pre_nonneg
public import proofs.«01_k».proof.Proof.KRun
public import Idealize.ShloMosaic.Lib.ReduceAll
public import Idealize.ShloMosaic.Lib.Affine
import Idealize.ShloMosaic.Lib.Pointwise

@[expose] public section

set_option maxRecDepth 16384

noncomputable section

/-! The precondition read at an index: where it holds, the partial labels and the queue are nonnegative. -/

namespace Cert.Pre_nonneg

open Idealize.ShloMosaic

theorem facts : Facts := ⟨by decide, by decide, by decide, by decide, by decide⟩

theorem oge_zero (x : EReal) (h : FloatOps.cmpf (F := Ideal) (φ := .f32) .oge x (Ideal.ofBits .f32 0x00000000#32) = 1#1) : 0 ≤ x := by
  have hz : Ideal.ofBits .f32 0x00000000#32 = 0 := by simp [Ideal.ofBits, Ideal.ieee]
  rw [hz] at h
  by_contra hn
  have : FloatOps.cmpf (F := Ideal) (φ := .f32) .oge x (0 : EReal) = BitVec.ofBool (decide ((0 : EReal) ≤ x)) := rfl
  rw [this, decide_eq_false hn] at h
  exact absurd h (by decide)

variable [Facts]
open Facts

theorem reads (a0 a1 : FVec Ideal S4096x1000 .f32) (a2 : FVec Ideal S32768x1000 .f32) (a3 : FVec Ideal S1000x1 .f32)
    (h : fn (F := Ideal) a0 a1 a2 a3 = fun _ => 1#1) : (∀ i k, 0 ≤ a1 (ix2 i k)) ∧ (∀ i k, 0 ≤ a2 (ix2 i k)) := by
  have h0 := congrFun h ix0
  dsimp only [fn] at h0
  have h0' := IntOp.andi_eq_one.1 h0
  exact ⟨fun i k => oge_zero _ (Host.reduce_andi_all _ _ _ _ _ h0'.1 (ix2 i k)), fun i k => oge_zero _ (Host.reduce_andi_all _ _ _ _ _ h0'.2 (ix2 i k))⟩

end Cert.Pre_nonneg
-- ==== Proof.lean ====
module

public import proofs.«01_k».proof.Defs
public import proofs.«01_k».proof.Proof.Whole
public import proofs.«01_k».proof.Proof.PreNonneg
public import proofs.«01_k».proof.Proof.RefFrame
public import proofs.«01_k».proof.Proof.Gen.ReferenceIdeal
public import Idealize.ShloMosaic.Adequacy
public import Idealize.ShloMosaic.Init

@[expose] public section

noncomputable section

namespace Cert.Proof

open Idealize.ShloMosaic Idealize.SL.Sem
open Cert.KernelIdeal.Whole (W7 mem_uc W7_main_arg0 W7_main_arg1 W7_main_arg2 W7_main_arg3)

/-- The idealized kernel and the reference end with one function of the arguments. -/
theorem same : Cert.algebraic_KernelIdeal_ReferenceIdeal_pre_nonneg (hKernelIdeal := Cert.KernelIdeal.Gen.facts)
    (hReferenceIdeal := Cert.ReferenceIdeal.Gen.facts) (hPre_nonneg := Cert.Pre_nonneg.facts) := by
  intro m g m' g' hpre hargs
  refine ⟨fun c => Cert.ReferenceIdeal.Val.r_all (Cert.KernelIdeal.Val.A0 m c) (Cert.KernelIdeal.Val.A1 m c) (Cert.KernelIdeal.Val.A2 m c) (Cert.KernelIdeal.Val.A3 m c), ?_, ?_⟩
  · refine (θ_run _ _ _).mono (fun r h c => ?_) (Cert.KernelIdeal.Whole.run m g)
    have hp := @Cert.Pre_nonneg.reads Cert.Pre_nonneg.facts _ _ _ _ (hpre c)
    exact ⟨(h.1 c _ (mem_uc Cert.KernelIdeal.main_v10 (by decide))).trans (Cert.KernelIdeal.Val.kernel_value m g c hp.1 hp.2),
      (h.1 c _ (mem_uc Cert.KernelIdeal.main_arg0 (by decide))).trans (W7_main_arg0 m g c),
      (h.1 c _ (mem_uc Cert.KernelIdeal.main_arg1 (by decide))).trans (W7_main_arg1 m g c),
      (h.1 c _ (mem_uc Cert.KernelIdeal.main_arg2 (by decide))).trans (W7_main_arg2 m g c),
      (h.1 c _ (mem_uc Cert.KernelIdeal.main_arg3 (by decide))).trans (W7_main_arg3 m g c)⟩
  · refine (θ_run _ _ _).mono (fun r h c => ?_) (Cert.ReferenceIdeal.Whole.run m' g')
    obtain ⟨e0, e1, e2, e3⟩ := hargs c
    refine ⟨(h c).1.trans ((Cert.ReferenceIdeal.Val.ref_value m' c).trans ?_), (h c).2⟩
    rw [e0, e1, e2, e3]

theorem claim : Cert.Claim :=
  ⟨Cert.Kernel.Gen.facts, Cert.KernelIdeal.Gen.facts, Cert.ReferenceIdeal.Gen.facts, Cert.Pre_nonneg.facts,
    fun m ρ _ => Cert.Kernel.Whole.frame m ρ,
    fun m ρ _ => Cert.KernelIdeal.Whole.frame m ρ,
    fun m ρ _ => Cert.KernelIdeal.Whole.frame m ρ,
    fun m ρ _ => Cert.ReferenceIdeal.Whole.frame m ρ,
    fun m ρ _ => Cert.ReferenceIdeal.Whole.frame m ρ,
    IdealRules.named_const.statement _ _ _ _ _ rfl,
    same⟩

end Cert.Proof

end
